-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v17) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v17) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_v17) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v1_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v28) = v1 c
          ∧ r.2.mem ((c.tc : Thread Cert.Reference18Ideal.nD Cert.Reference18Ideal.τ).loc Cert.Reference18Ideal.main_v9) = v2 c
          ∧ r.2.mem ((c.tc : Thread Cert.Reference18Ideal.nD Cert.Reference18Ideal.τ).loc Cert.Reference18Ideal.main_v15) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v35) = v0 c
          ∧ r.2.mem ((c.tc : Thread Cert.Reference19Ideal.nD Cert.Reference19Ideal.τ).loc Cert.Reference19Ideal.main_v18) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v42) = v0 c
          ∧ r.2.mem ((c.tc : Thread Cert.Reference21Ideal.nD Cert.Reference21Ideal.τ).loc Cert.Reference21Ideal.main_v43) = v1 c
          ∧ r.2.mem ((c.tc : Thread Cert.Reference21Ideal.nD Cert.Reference21Ideal.τ).loc Cert.Reference21Ideal.main_v44) = v2 c
          ∧ r.2.mem ((c.tc : Thread Cert.Reference21Ideal.nD Cert.Reference21Ideal.τ).loc Cert.Reference21Ideal.main_v45) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v22) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S8192x1536 : Shape := ⟨2, ![8192, 1536]⟩
abbrev S1x16 : Shape := ⟨2, ![1, 16]⟩
abbrev S8192x1024 : Shape := ⟨2, ![8192, 1024]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1536 .bf16) (main_arg1 : FVec F S1x16 .f32) (main_arg2 : FVec F S8192x1024 .bf16) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S1x16 .f32 := Host.absf main_arg1
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  let main_c_1 : IVec S_ 1 := constantI S_ 1 1#1
  let main_v8 : IVec S_ 1 := (fun x v => Host.reduce IntOp.andi x v reducesTo_S1x16_S_d0_1 h_S_) main_v7 main_c_1
  let main_v9 : IVec S_ 1 := andi main_v4 main_v8
  let main_v10 : FVec F S8192x1024 .f32 := (extf .f32 · bitsLt_bf16_f32) main_arg2
  let main_v11 : FVec F S8192x1024 .f32 := Host.absf main_v10
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v9 main_v14
  main_v15
-- ==== Kernel.lean ====
abbrev S8192x1536 : Shape := ⟨2, ![8192, 1536]⟩
abbrev S1x16 : Shape := ⟨2, ![1, 16]⟩
abbrev S8192x1024 : Shape := ⟨2, ![8192, 1024]⟩
abbrev S8192x256 : Shape := ⟨2, ![8192, 256]⟩
abbrev S128x1024 : Shape := ⟨2, ![128, 1024]⟩
abbrev S128x256 : Shape := ⟨2, ![128, 256]⟩
abbrev S128x128 : Shape := ⟨2, ![128, 128]⟩
abbrev S512x128 : Shape := ⟨2, ![512, 128]⟩
abbrev S128x64 : Shape := ⟨2, ![128, 64]⟩
abbrev S512x64 : Shape := ⟨2, ![512, 64]⟩
abbrev S1x1 : Shape := ⟨2, ![1, 1]⟩
abbrev S128x1 : Shape := ⟨2, ![128, 1]⟩
abbrev S512x1 : Shape := ⟨2, ![512, 1]⟩
abbrev S512 : Shape := ⟨1, ![512]⟩
abbrev S384x64 : Shape := ⟨2, ![384, 64]⟩
abbrev S256x64 : Shape := ⟨2, ![256, 64]⟩
abbrev S128x192 : Shape := ⟨2, ![128, 192]⟩
abbrev S1x128x1 : Shape := ⟨3, ![1, 128, 1]⟩
abbrev S1 : Shape := ⟨1, ![1]⟩
abbrev S1x1x1 : Shape := ⟨3, ![1, 1, 1]⟩
abbrev S1x15 : Shape := ⟨2, ![1, 15]⟩
abbrev S1x14 : Shape := ⟨2, ![1, 14]⟩
abbrev S1x13 : Shape := ⟨2, ![1, 13]⟩
abbrev S1x2 : Shape := ⟨2, ![1, 2]⟩
abbrev S1x12 : Shape := ⟨2, ![1, 12]⟩
abbrev S1x3 : Shape := ⟨2, ![1, 3]⟩
abbrev S128x960 : Shape := ⟨2, ![128, 960]⟩
abbrev S128x896 : Shape := ⟨2, ![128, 896]⟩
abbrev S128x832 : Shape := ⟨2, ![128, 832]⟩
abbrev S128x768 : Shape := ⟨2, ![128, 768]⟩
abbrev S1x11 : Shape := ⟨2, ![1, 11]⟩
abbrev S1x4 : Shape := ⟨2, ![1, 4]⟩
abbrev S1x10 : Shape := ⟨2, ![1, 10]⟩
abbrev S1x5 : Shape := ⟨2, ![1, 5]⟩
abbrev S1x9 : Shape := ⟨2, ![1, 9]⟩
abbrev S1x6 : Shape := ⟨2, ![1, 6]⟩
abbrev S1x8 : Shape := ⟨2, ![1, 8]⟩
abbrev S1x7 : Shape := ⟨2, ![1, 7]⟩
abbrev S128x704 : Shape := ⟨2, ![128, 704]⟩
abbrev S128x640 : Shape := ⟨2, ![128, 640]⟩
abbrev S128x320 : Shape := ⟨2, ![128, 320]⟩
abbrev S128x576 : Shape := ⟨2, ![128, 576]⟩
abbrev S128x384 : Shape := ⟨2, ![128, 384]⟩
abbrev S128x512 : Shape := ⟨2, ![128, 512]⟩
abbrev S128x448 : Shape := ⟨2, ![128, 448]⟩

abbrev nBuf : Space → Nat
  | .hbm => 7
  | .vmem => 22
  | .smem => 0
  | _ => 0

abbrev bufTy : (tb : Table) → Fin (tcTables nBuf tb) → BufTy
  | .hbm, ⟨0, _⟩ => ⟨S8192x1536, .bf16⟩
  | .hbm, ⟨1, _⟩ => ⟨S1x16, .f32⟩
  | .hbm, ⟨2, _⟩ => ⟨S8192x1024, .bf16⟩
  | .hbm, ⟨3, _⟩ => ⟨S8192x1024, .bf16⟩
  | .hbm, ⟨4, _⟩ => ⟨S8192x256, .bf16⟩
  | .hbm, ⟨5, _⟩ => ⟨S8192x256, .bf16⟩
  | .hbm, ⟨6, _⟩ => ⟨S1x16, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S1x16, .f32⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x256, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S1x16, .f32⟩
  | .local _ .vmem, ⟨20, _⟩ => ⟨S128x256, .f32⟩
  | .local _ .vmem, ⟨21, _⟩ => ⟨S128x256, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c0_i32_252 : BitVec 32 := 0#32
  let v985 : BitVec 1 := Scalar.cmpi .eq arg0 c0_i32_252
  let v986 : BitVec 32 := Scalar.extui v985
  let c0_i32_253 : BitVec 32 := 0#32
  let v987 : BitVec 1 := Scalar.cmpi .ne v986 c0_i32_253
  v987

def k0_cond3 (i : grid0.Coords) : BitVec 1 :=
  let arg0 : BitVec 32 := BitVec.ofNat 32 (i 0).val
  let c0_i32_254 : BitVec 32 := 0#32
  let v988 : BitVec 1 := Scalar.cmpi .sgt arg0 c0_i32_254
  let v989 : BitVec 32 := Scalar.extui v988
  let c0_i32_255 : BitVec 32 := 0#32
  let v990 : BitVec 1 := Scalar.cmpi .ne v989 c0_i32_255
  v990

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.muli v0 c1_i32
  let c1_i32_0 : BitVec 32 := 1#32
  let v2 : BitVec 32 := Scalar.subi v1 c1_i32_0
  let c0_i32 : BitVec 32 := 0#32
  let v3 : BitVec 32 := Scalar.maxsi v2 c0_i32
  let c4_i32 : BitVec 32 := 4#32
  let c0_i32_1 : BitVec 32 := 0#32
  ![v3.toNat, c4_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.muli v0 c1_i32
  let c1_i32_0 : BitVec 32 := 1#32
  let v2 : BitVec 32 := Scalar.subi v1 c1_i32_0
  let c0_i32 : BitVec 32 := 0#32
  let v3 : BitVec 32 := Scalar.maxsi v2 c0_i32
  let c5_i32 : BitVec 32 := 5#32
  let c0_i32_1 : BitVec 32 := 0#32
  ![v3.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8192x1536 : Shape := ⟨2, ![8192, 1536]⟩
abbrev S1x16 : Shape := ⟨2, ![1, 16]⟩
abbrev S8192x1024 : Shape := ⟨2, ![8192, 1024]⟩
abbrev S8192x256 : Shape := ⟨2, ![8192, 256]⟩
abbrev S1x8192x16x64 : Shape := ⟨4, ![1, 8192, 16, 64]⟩
abbrev S1x8192x4x64 : Shape := ⟨4, ![1, 8192, 4, 64]⟩
abbrev S16 : Shape := ⟨1, ![16]⟩
abbrev S1x64x128x4x4x64 : Shape := ⟨6, ![1, 64, 128, 4, 4, 64]⟩
abbrev S1x64x128x4x64 : Shape := ⟨5, ![1, 64, 128, 4, 64]⟩
abbrev S1x1x128x4x64 : Shape := ⟨5, ![1, 1, 128, 4, 64]⟩
abbrev S_ : Shape := ⟨0, ![]⟩
abbrev S1x63x128x4x64 : Shape := ⟨5, ![1, 63, 128, 4, 64]⟩
abbrev S1x64x256x4x64 : Shape := ⟨5, ![1, 64, 256, 4, 64]⟩
abbrev S1x64x4x256x128x4 : Shape := ⟨6, ![1, 64, 4, 256, 128, 4]⟩
abbrev S1x64x4x4x128x256 : Shape := ⟨6, ![1, 64, 4, 4, 128, 256]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S64x128x1 : Shape := ⟨3, ![64, 128, 1]⟩
abbrev S256 : Shape := ⟨1, ![256]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S4x4 : Shape := ⟨2, ![4, 4]⟩
abbrev S1x1x4x4x1x1 : Shape := ⟨6, ![1, 1, 4, 4, 1, 1]⟩
abbrev S1x64x4x4x128x1 : Shape := ⟨6, ![1, 64, 4, 4, 128, 1]⟩
abbrev S1x64x4x4x128x257 : Shape := ⟨6, ![1, 64, 4, 4, 128, 257]⟩
abbrev S1x64x4x4x128 : Shape := ⟨5, ![1, 64, 4, 4, 128]⟩
abbrev S1x64x4x64x4x128 : Shape := ⟨6, ![1, 64, 4, 64, 4, 128]⟩
abbrev S1x8192x1024 : Shape := ⟨3, ![1, 8192, 1024]⟩
abbrev S1x64x4x64x256 : Shape := ⟨5, ![1, 64, 4, 64, 256]⟩
abbrev S64x4x4x128 : Shape := ⟨4, ![64, 4, 4, 128]⟩
abbrev S1x64x4x128x4x64 : Shape := ⟨6, ![1, 64, 4, 128, 4, 64]⟩
abbrev S1x64x4x256x64 : Shape := ⟨5, ![1, 64, 4, 256, 64]⟩

abbrev nBuf : Space → Nat
  | .hbm => 193
  | .vmem => 0
  | .smem => 0
  | _ => 0

abbrev hbmTy0_0 (i : Nat) : BufTy := match i % 128 with
  | 0 => ⟨S8192x1536, .bf16⟩
  | 1 => ⟨S1x16, .f32⟩
  | 2 => ⟨S8192x1024, .bf16⟩
  | 3 => ⟨S8192x1536, .f32⟩
  | 4 => ⟨S8192x1024, .f32⟩
  | 5 => ⟨S8192x256, .f32⟩
  | 6 => ⟨S8192x256, .f32⟩
  | 7 => ⟨S1x8192x16x64, .f32⟩
  | 8 => ⟨S1x8192x4x64, .f32⟩
  | 9 => ⟨S1x8192x4x64, .f32⟩
  | 10 => ⟨S16, .f32⟩
  | 11 => ⟨S1x64x128x4x4x64, .f32⟩
  | 12 => ⟨S1x64x128x4x64, .f32⟩
  | 13 => ⟨S1x64x128x4x64, .f32⟩
  | 14 => ⟨S1x1x128x4x64, .f32⟩
  | 15 => ⟨S_, .f32⟩
  | 16 => ⟨S1x1x128x4x64, .f32⟩
  | 17 => ⟨S1x63x128x4x64, .f32⟩
  | 18 => ⟨S1x64x128x4x64, .f32⟩
  | 19 => ⟨S_, .f32⟩
  | 20 => ⟨S1x1x128x4x64, .f32⟩
  | 21 => ⟨S1x64x256x4x64, .f32⟩
  | 22 => ⟨S1x1x128x4x64, .f32⟩
  | 23 => ⟨S_, .f32⟩
  | 24 => ⟨S1x1x128x4x64, .f32⟩
  | 25 => ⟨S1x63x128x4x64, .f32⟩
  | 26 => ⟨S1x64x128x4x64, .f32⟩
  | 27 => ⟨S_, .f32⟩
  | 28 => ⟨S1x1x128x4x64, .f32⟩
  | 29 => ⟨S1x64x256x4x64, .f32⟩
  | 30 => ⟨S1x64x4x256x128x4, .f32⟩
  | 31 => ⟨S1x64x4x4x128x256, .f32⟩
  | 32 => ⟨S_, .f32⟩
  | 33 => ⟨S1x64x4x4x128x256, .f32⟩
  | 34 => ⟨S1x64x4x4x128x256, .f32⟩
  | 35 => ⟨S64, .i32⟩
  | 36 => ⟨S64x1x1, .i32⟩
  | 37 => ⟨S_, .i32⟩
  | 38 => ⟨S64x1x1, .i32⟩
  | 39 => ⟨S64x1x1, .i32⟩
  | 40 => ⟨S128, .i32⟩
  | 41 => ⟨S1x128x1, .i32⟩
  | 42 => ⟨S64x128x1, .i32⟩
  | 43 => ⟨S64x128x1, .i32⟩
  | 44 => ⟨S64x128x1, .i32⟩
  | 45 => ⟨S_, .i32⟩
  | 46 => ⟨S64x1x1, .i32⟩
  | 47 => ⟨S64x1x1, .i32⟩
  | 48 => ⟨S_, .i32⟩
  | 49 => ⟨S64x1x1, .i32⟩
  | 50 => ⟨S64x1x1, .i32⟩
  | 51 => ⟨S256, .i32⟩
  | 52 => ⟨S1x1x256, .i32⟩
  | 53 => ⟨S64x1x256, .i32⟩
  | 54 => ⟨S64x1x256, .i32⟩
  | 55 => ⟨S64x1x256, .i32⟩
  | 56 => ⟨S64x128x256, .i32⟩
  | 57 => ⟨S64x128x256, .i32⟩
  | 58 => ⟨S64x128x256, .i32⟩
  | 59 => ⟨S_, .i32⟩
  | 60 => ⟨S64x128x256, .i32⟩
  | 61 => ⟨S64x128x256, .i1⟩
  | 62 => ⟨S_, .i32⟩
  | 63 => ⟨S64x128x256, .i32⟩
  | 64 => ⟨S64x128x256, .i1⟩
  | 65 => ⟨S64x128x256, .i1⟩
  | 66 => ⟨S_, .i32⟩
  | 67 => ⟨S64x1x256, .i32⟩
  | 68 => ⟨S64x1x256, .i1⟩
  | 69 => ⟨S64x128x256, .i1⟩
  | 70 => ⟨S64x128x256, .i1⟩
  | 71 => ⟨S1x64x1x1x128x256, .i1⟩
  | 72 => ⟨S_, .f32⟩
  | 73 => ⟨S_, .f32⟩
  | 74 => ⟨S1x64x4x4x128x256, .i1⟩
  | 75 => ⟨S1x64x4x4x128x256, .f32⟩
  | 76 => ⟨S1x64x4x4x128x256, .f32⟩
  | 77 => ⟨S_, .f32⟩
  | 78 => ⟨S1x64x4x4x128x256, .f32⟩
  | 79 => ⟨S4x4, .f32⟩
  | 80 => ⟨S1x1x4x4x1x1, .f32⟩
  | 81 => ⟨S1x64x4x4x128x1, .f32⟩
  | 82 => ⟨S1x64x4x4x128x257, .f32⟩
  | 83 => ⟨S_, .f32⟩
  | 84 => ⟨S1x64x4x4x128, .f32⟩
  | 85 => ⟨S1x64x4x4x128x1, .f32⟩
  | 86 => ⟨S1x64x4x4x128x257, .f32⟩
  | 87 => ⟨S1x64x4x4x128x257, .i1⟩
  | 88 => ⟨S1x64x4x4x128x257, .f32⟩
  | 89 => ⟨S_, .f32⟩
  | 90 => ⟨S1x64x4x4x128, .f32⟩
  | 91 => ⟨S_, .f32⟩
  | 92 => ⟨S1x64x4x4x128, .f32⟩
  | 93 => ⟨S1x64x4x4x128, .f32⟩
  | 94 => ⟨S_, .f32⟩
  | 95 => ⟨S1x64x4x4x128, .f32⟩
  | 96 => ⟨S1x64x4x4x128, .i1⟩
  | 97 => ⟨S_, .f32⟩
  | 98 => ⟨S1x64x4x4x128, .f32⟩
  | 99 => ⟨S1x64x4x4x128, .i1⟩
  | 100 => ⟨S_, .f32⟩
  | 101 => ⟨S1x64x4x4x128, .f32⟩
  | 102 => ⟨S_, .f32⟩
  | 103 => ⟨S1x64x4x4x128, .f32⟩
  | 104 => ⟨S_, .f32⟩
  | 105 => ⟨S1x64x4x4x128, .f32⟩
  | 106 => ⟨S1x64x4x4x128, .f32⟩
  | 107 => ⟨S1x64x4x4x128, .f32⟩
  | 108 => ⟨S1x64x4x4x128x1, .f32⟩
  | 109 => ⟨S1x64x4x4x128x257, .f32⟩
  | 110 => ⟨S1x64x4x4x128x257, .f32⟩
  | 111 => ⟨S1x64x4x4x128x257, .f32⟩
  | 112 => ⟨S_, .f32⟩
  | 113 => ⟨S1x64x4x4x128, .f32⟩
  | 114 => ⟨S1x64x4x4x128x1, .f32⟩
  | 115 => ⟨S1x64x4x4x128x257, .f32⟩
  | 116 => ⟨S1x64x4x4x128x257, .f32⟩
  | 117 => ⟨S1x64x4x4x128x1, .f32⟩
  | 118 => ⟨S_, .f32⟩
  | 119 => ⟨S1x64x4x4x128x1, .f32⟩
  | 120 => ⟨S1x64x4x4x128x1, .f32⟩
  | 121 => ⟨S1x64x4x4x128x256, .f32⟩
  | 122 => ⟨S1x64x4x64x4x128, .f32⟩
  | 123 => ⟨S1x64x128x4x4x64, .f32⟩
  | 124 => ⟨S1x8192x1024, .f32⟩
  | 125 => ⟨S8192x1024, .f32⟩
  | 126 => ⟨S8192x1024, .f32⟩
  | 127 => ⟨S1x8192x1024, .f32⟩
  | _ => ⟨S8192x1536, .bf16⟩

abbrev hbmTy0_1 (i : Nat) : BufTy := match i % 128 with
  | 0 => ⟨S1x64x128x4x4x64, .f32⟩
  | 1 => ⟨S1x64x4x64x4x128, .f32⟩
  | 2 => ⟨S1x64x4x4x128x256, .f32⟩
  | 3 => ⟨S1x64x4x64x256, .f32⟩
  | 4 => ⟨S1x64x256x4x64, .f32⟩
  | 5 => ⟨S_, .f32⟩
  | 6 => ⟨S1x64x4x4x128x257, .f32⟩
  | 7 => ⟨S1x64x4x4x128x257, .f32⟩
  | 8 => ⟨S1x64x4x4x128x257, .f32⟩
  | 9 => ⟨S1x64x4x4x128x257, .f32⟩
  | 10 => ⟨S_, .f32⟩
  | 11 => ⟨S1x64x4x4x128, .f32⟩
  | 12 => ⟨S1x64x4x4x128x1, .f32⟩
  | 13 => ⟨S1x64x4x4x128x1, .f32⟩
  | 14 => ⟨S1x64x4x4x128x257, .f32⟩
  | 15 => ⟨S1x64x4x4x128x257, .f32⟩
  | 16 => ⟨S_, .f32⟩
  | 17 => ⟨S64x4x4x128, .f32⟩
  | 18 => ⟨S1x64x4x4x128, .f32⟩
  | 19 => ⟨S1x64x4x4x128x257, .f32⟩
  | 20 => ⟨S1x64x4x4x128x257, .f32⟩
  | 21 => ⟨S1x64x4x4x128x257, .f32⟩
  | 22 => ⟨S1x64x4x4x128x256, .f32⟩
  | 23 => ⟨S1x64x4x4x128x1, .f32⟩
  | 24 => ⟨S_, .f32⟩
  | 25 => ⟨S4x4, .f32⟩
  | 26 => ⟨S1x1x4x4x1x1, .f32⟩
  | 27 => ⟨S_, .f32⟩
  | 28 => ⟨S4x4, .f32⟩
  | 29 => ⟨S16, .f32⟩
  | 30 => ⟨S_, .f32⟩
  | 31 => ⟨S1x64x4x4x128x256, .f32⟩
  | 32 => ⟨S1x64x4x4x128x256, .f32⟩
  | 33 => ⟨S_, .f32⟩
  | 34 => ⟨S1x64x4x4x128x256, .f32⟩
  | 35 => ⟨S1x64x4x4x128x256, .f32⟩
  | 36 => ⟨S1x64x4x256x128x4, .f32⟩
  | 37 => ⟨S1x64x4x128x4x64, .f32⟩
  | 38 => ⟨S1x64x128x4x4x64, .f32⟩
  | 39 => ⟨S1x64x4x256x64, .f32⟩
  | 40 => ⟨S1x64x256x4x64, .f32⟩
  | 41 => ⟨S1x64x128x4x64, .f32⟩
  | 42 => ⟨S1x64x128x4x64, .f32⟩
  | 43 => ⟨S1x1x128x4x64, .f32⟩
  | 44 => ⟨S1x63x128x4x64, .f32⟩
  | 45 => ⟨S_, .f32⟩
  | 46 => ⟨S1x64x128x4x64, .f32⟩
  | 47 => ⟨S1x64x128x4x64, .f32⟩
  | 48 => ⟨S1x64x128x4x64, .f32⟩
  | 49 => ⟨S1x64x128x4x64, .f32⟩
  | 50 => ⟨S1x1x128x4x64, .f32⟩
  | 51 => ⟨S1x63x128x4x64, .f32⟩
  | 52 => ⟨S_, .f32⟩
  | 53 => ⟨S1x64x128x4x64, .f32⟩
  | 54 => ⟨S1x64x128x4x64, .f32⟩
  | 55 => ⟨S1x8192x4x64, .f32⟩
  | 56 => ⟨S1x8192x4x64, .f32⟩
  | 57 => ⟨S1x8192x16x64, .f32⟩
  | 58 => ⟨S1x16, .f32⟩
  | 59 => ⟨S8192x256, .f32⟩
  | 60 => ⟨S8192x256, .f32⟩
  | 61 => ⟨S8192x1024, .f32⟩
  | 62 => ⟨S8192x1024, .bf16⟩
  | 63 => ⟨S8192x256, .bf16⟩
  | 64 => ⟨S8192x256, .bf16⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_6 : Ref sig .tc := ⟨.hbm, 59, rfl⟩
abbrev main_v48 : Ref sig .tc := ⟨.hbm, 60, rfl⟩
abbrev main_v49 : Ref sig .tc := ⟨.hbm, 61, rfl⟩
abbrev main_c_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_call0_v0 : Ref sig .tc := ⟨.hbm, 73, rfl⟩
abbrev main_v58_1 : Ref sig .tc := ⟨.hbm, 74, rfl⟩
abbrev main_call0_v2 : Ref sig .tc := ⟨.hbm, 75, rfl⟩
abbrev main_v58_0 : Ref sig .tc := ⟨.hbm, 76, rfl⟩
abbrev main_call0_cst : Ref sig .tc := ⟨.hbm, 77, rfl⟩
abbrev main_v58_2 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_19 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_20 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_21 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_22 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_23 : Ref sig .tc := ⟨.hbm, 152, rfl⟩
abbrev main_v119 : Ref sig .tc := ⟨.hbm, 153, rfl⟩
abbrev main_v120 : Ref sig .tc := ⟨.hbm, 154, rfl⟩
abbrev main_cst_24 : Ref sig .tc := ⟨.hbm, 155, rfl⟩
abbrev main_v121 : Ref sig .tc := ⟨.hbm, 156, rfl⟩
abbrev main_v122 : Ref sig .tc := ⟨.hbm, 157, rfl⟩
abbrev main_call1_cst : Ref sig .tc := ⟨.hbm, 158, rfl⟩
abbrev main_call1_v0 : Ref sig .tc := ⟨.hbm, 159, rfl⟩
abbrev main_v123 : Ref sig .tc := ⟨.hbm, 160, rfl⟩
abbrev main_cst_25 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_26 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_27 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩

abbrev nD : Nat := 1
abbrev τ : Topo := Topo.v7x

variable {F : FTy → Type} [FloatOps F]
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S5632x2048, .bf16⟩
  | .hbm, ⟨2, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .bf16⟩
  | .hbm, ⟨2, _⟩ => ⟨S5632x2048, .f32⟩
  | .hbm, ⟨3, _⟩ => ⟨S_, .f32⟩
  | .hbm, ⟨4, _⟩ => ⟨S8192x5632, .f32⟩
  | .hbm, ⟨5, _⟩ => ⟨S8192x2048, .f32⟩
  | .hbm, ⟨6, _⟩ => ⟨S8192x5632, .f32⟩
  | .hbm, ⟨7, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S8192x5632, .f32⟩
  | .hbm, ⟨3, _⟩ => ⟨S_, .f32⟩
  | .hbm, ⟨4, _⟩ => ⟨S5632x2048, .f32⟩
  | .hbm, ⟨5, _⟩ => ⟨S8192x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x11264 : Shape := ⟨2, ![8192, 11264]⟩
abbrev S8x2048x1408 : Shape := ⟨3, ![8, 2048, 1408]⟩
abbrev S8192x2048 : Shape := ⟨2, ![8192, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S8x2048x1408, .bf16⟩
  | .hbm, ⟨2, _⟩ => ⟨S8192x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x11264 : Shape := ⟨2, ![8192, 11264]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S_, .f32⟩
  | .hbm, ⟨6, _⟩ => ⟨S8192x2048, .f32⟩
  | .hbm, ⟨7, _⟩ => ⟨S8192x11264, .f32⟩
  | .hbm, ⟨8, _⟩ => ⟨S8192x11264, .f32⟩
  | .hbm, ⟨9, _⟩ => ⟨S8192x2048, .f32⟩
  | .hbm, ⟨10, _⟩ => ⟨S8192x2048, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2048 : Shape := ⟨2, ![8192, 2048]⟩
abbrev S8192x11264 : Shape := ⟨2, ![8192, 11264]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S8192x2048, .f32⟩
  | .hbm, ⟨3, _⟩ => ⟨S_, .f32⟩
  | .hbm, ⟨4, _⟩ => ⟨S2048x11264, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x8x1408, .f32⟩
  | .hbm, ⟨10, _⟩ => ⟨S8x2048x1408, .f32⟩
  | .hbm, ⟨11, _⟩ => ⟨S8x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x2048 : Shape := ⟨2, ![8192, 2048]⟩
abbrev S8192x14080 : Shape := ⟨2, ![8192, 14080]⟩
abbrev S2048x14080 : Shape := ⟨2, ![2048, 14080]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x14080, .bf16⟩
  | .hbm, ⟨2, _⟩ => ⟨S2048x14080, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x14080 : Shape := ⟨2, ![8192, 14080]⟩
abbrev S_ : Shape := ⟨0, ![]⟩
abbrev S2048x14080 : Shape := ⟨2, ![2048, 14080]⟩
abbrev S14080x2048 : Shape := ⟨2, ![14080, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x14080, .bf16⟩
  | .hbm, ⟨2, _⟩ => ⟨S8192x2048, .f32⟩
  | .hbm, ⟨3, _⟩ => ⟨S_, .f32⟩
  | .hbm, ⟨4, _⟩ => ⟨S2048x14080, .f32⟩
  | .hbm, ⟨5, _⟩ => ⟨S8192x14080, .f32⟩
  | .hbm, ⟨6, _⟩ => ⟨S8192x14080, .f32⟩
  | .hbm, ⟨7, _⟩ => ⟨S14080x2048, .f32⟩
  | .hbm, ⟨8, _⟩ => ⟨S2048x14080, .f32⟩
  | .hbm, ⟨9, _⟩ => ⟨S2048x14080, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x14080 : Shape := ⟨2, ![8192, 14080]⟩
abbrev S2048x14080 : Shape := ⟨2, ![2048, 14080]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x14080, .bf16⟩
  | .hbm, ⟨1, _⟩ => ⟨S2048x14080, .bf16⟩
  | .hbm, ⟨2, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x14080, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x14080 : Shape := ⟨2, ![8192, 14080]⟩
abbrev S2048x14080 : Shape := ⟨2, ![2048, 14080]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x14080, .bf16⟩
  | .hbm, ⟨1, _⟩ => ⟨S2048x14080, .bf16⟩
  | .hbm, ⟨2, _⟩ => ⟨S2048x14080, .f32⟩
  | .hbm, ⟨3, _⟩ => ⟨S_, .f32⟩
  | .hbm, ⟨4, _⟩ => ⟨S8192x2048, .f32⟩
  | .hbm, ⟨5, _⟩ => ⟨S8192x14080, .f32⟩
  | .hbm, ⟨6, _⟩ => ⟨S8192x14080, .f32⟩
  | .hbm, ⟨7, _⟩ => ⟨S8192x2048, .f32⟩
  | .hbm, ⟨8, _⟩ => ⟨S8192x2048, .bf16⟩
  | _, _ => ⟨S8192x14080, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x2048 : Shape := ⟨2, ![8192, 2048]⟩
abbrev S8x2048x1408 : Shape := ⟨3, ![8, 2048, 1408]⟩
abbrev S8192x11264 : Shape := ⟨2, ![8192, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S8192x11264 : Shape := ⟨2, ![8192, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S8192x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S8192x11264, .f32⟩
  | .hbm, ⟨7, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x2048, .f32⟩
  | .hbm, ⟨3, _⟩ => ⟨S2048x3072, .f32⟩
  | .hbm, ⟨4, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8x704x2048 : Shape := ⟨3, ![8, 704, 2048]⟩
abbrev S2x704x2048 : Shape := ⟨3, ![2, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 13
  | .vmem => 32
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S8x64x2048, .bf16⟩
  | .local _ .vmem, ⟨17, _⟩ => ⟨S8x64x2048, .bf16⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S1x64x2048, .f32⟩
  | .local _ .vmem, ⟨23, _⟩ => ⟨S1x64x2048, .f32⟩
  | .local _ .vmem, ⟨24, _⟩ => ⟨S1x64x2048, .f32⟩
  | .local _ .vmem, ⟨25, _⟩ => ⟨S1x64x2048, .f32⟩
  | .local _ .vmem, ⟨26, _⟩ => ⟨S1x64x2048, .f32⟩
  | .local _ .vmem, ⟨27, _⟩ => ⟨S1x64x2048, .f32⟩
  | .local _ .vmem, ⟨28, _⟩ => ⟨S1x64x2048, .f32⟩
  | .local _ .vmem, ⟨29, _⟩ => ⟨S1x64x2048, .f32⟩
  | .local _ .vmem, ⟨30, _⟩ => ⟨S1x64x2048, .f32⟩
  | .local _ .vmem, ⟨31, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![11], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel12Ideal.lean ====
abbrev S8x704x2048 : Shape := ⟨3, ![8, 704, 2048]⟩
abbrev S2x704x2048 : Shape := ⟨3, ![2, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 13
  | .vmem => 32
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S8x64x2048, .bf16⟩
  | .local _ .vmem, ⟨17, _⟩ => ⟨S8x64x2048, .bf16⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S1x64x2048, .f32⟩
  | .local _ .vmem, ⟨23, _⟩ => ⟨S1x64x2048, .f32⟩
  | .local _ .vmem, ⟨24, _⟩ => ⟨S1x64x2048, .f32⟩
  | .local _ .vmem, ⟨25, _⟩ => ⟨S1x64x2048, .f32⟩
  | .local _ .vmem, ⟨26, _⟩ => ⟨S1x64x2048, .f32⟩
  | .local _ .vmem, ⟨27, _⟩ => ⟨S1x64x2048, .f32⟩
  | .local _ .vmem, ⟨28, _⟩ => ⟨S1x64x2048, .f32⟩
  | .local _ .vmem, ⟨29, _⟩ => ⟨S1x64x2048, .f32⟩
  | .local _ .vmem, ⟨30, _⟩ => ⟨S1x64x2048, .f32⟩
  | .local _ .vmem, ⟨31, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![11], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference12Ideal.lean ====
abbrev S8x704x2048 : Shape := ⟨3, ![8, 704, 2048]⟩
abbrev S2x704x2048 : Shape := ⟨3, ![2, 704, 2048]⟩
abbrev S_ : Shape := ⟨0, ![]⟩
abbrev S704x2048 : Shape := ⟨2, ![704, 2048]⟩
abbrev S1x704x2048 : Shape := ⟨3, ![1, 704, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S8x704x2048, .f32⟩
  | .hbm, ⟨6, _⟩ => ⟨S_, .f32⟩
  | .hbm, ⟨7, _⟩ => ⟨S704x2048, .f32⟩
  | .hbm, ⟨8, _⟩ => ⟨S8x704x2048, .f32⟩
  | .hbm, ⟨9, _⟩ => ⟨S_, .f32⟩
  | .hbm, ⟨10, _⟩ => ⟨S704x2048, .f32⟩
  | .hbm, ⟨11, _⟩ => ⟨S1x704x2048, .f32⟩
  | .hbm, ⟨12, _⟩ => ⟨S1x704x2048, .f32⟩
  | .hbm, ⟨13, _⟩ => ⟨S2x704x2048, .f32⟩
  | .hbm, ⟨14, _⟩ => ⟨S_, .f32⟩
  | .hbm, ⟨15, _⟩ => ⟨S2x704x2048, .f32⟩
  | .hbm, ⟨16, _⟩ => ⟨S2x704x2048, .f32⟩
  | .hbm, ⟨17, _⟩ => ⟨S_, .f32⟩
  | .hbm, ⟨18, _⟩ => ⟨S2x704x2048, .f32⟩
  | .hbm, ⟨19, _⟩ => ⟨S2x704x2048, .f32⟩
  | .hbm, ⟨20, _⟩ => ⟨S2x704x2048, .f32⟩
  | .hbm, ⟨21, _⟩ => ⟨S_, .f32⟩
  | .hbm, ⟨22, _⟩ => ⟨S2x704x2048, .f32⟩
  | .hbm, ⟨23, _⟩ => ⟨S2x704x2048, .f32⟩
  | .hbm, ⟨24, _⟩ => ⟨S2x704x2048, .f32⟩
  | .hbm, ⟨25, _⟩ => ⟨S_, .f32⟩
  | .hbm, ⟨26, _⟩ => ⟨S2x704x2048, .f32⟩
  | .hbm, ⟨27, _⟩ => ⟨S2x704x2048, .f32⟩
  | .hbm, ⟨28, _⟩ => ⟨S2x704x2048, .f32⟩
  | .hbm, ⟨29, _⟩ => ⟨S_, .f32⟩
  | .hbm, ⟨30, _⟩ => ⟨S2x704x2048, .f32⟩
  | .hbm, ⟨31, _⟩ => ⟨S2x704x2048, .f32⟩
  | .hbm, ⟨32, _⟩ => ⟨S_, .f32⟩
  | .hbm, ⟨33, _⟩ => ⟨S2x704x2048, .f32⟩
  | .hbm, ⟨34, _⟩ => ⟨S2x704x2048, .f32⟩
  | .hbm, ⟨35, _⟩ => ⟨S2x704x2048, .f32⟩
  | .hbm, ⟨36, _⟩ => ⟨S_, .f32⟩
  | .hbm, ⟨37, _⟩ => ⟨S2x704x2048, .f32⟩
  | .hbm, ⟨38, _⟩ => ⟨S2x704x2048, .f32⟩
  | .hbm, ⟨39, _⟩ => ⟨S2x704x2048, .f32⟩
  | .hbm, ⟨40, _⟩ => ⟨S_, .f32⟩
  | .hbm, ⟨41, _⟩ => ⟨S2x704x2048, .f32⟩
  | .hbm, ⟨42, _⟩ => ⟨S2x704x2048, .f32⟩
  | .hbm, ⟨43, _⟩ => ⟨S2x704x2048, .f32⟩
  | .hbm, ⟨44, _⟩ => ⟨S_, .f32⟩
  | .hbm, ⟨45, _⟩ => ⟨S2x704x2048, .f32⟩
  | .hbm, ⟨46, _⟩ => ⟨S2x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel13.lean ====
abbrev S8x2048x1408 : Shape := ⟨3, ![8, 2048, 1408]⟩
abbrev S2x2048x1408 : Shape := ⟨3, ![2, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 13
  | .vmem => 32
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S8x128x1408, .bf16⟩
  | .local _ .vmem, ⟨17, _⟩ => ⟨S8x128x1408, .bf16⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | .local _ .vmem, ⟨22, _⟩ => ⟨S1x128x1408, .f32⟩
  | .local _ .vmem, ⟨23, _⟩ => ⟨S1x128x1408, .f32⟩
  | .local _ .vmem, ⟨24, _⟩ => ⟨S1x128x1408, .f32⟩
  | .local _ .vmem, ⟨25, _⟩ => ⟨S1x128x1408, .f32⟩
  | .local _ .vmem, ⟨26, _⟩ => ⟨S1x128x1408, .f32⟩
  | .local _ .vmem, ⟨27, _⟩ => ⟨S1x128x1408, .f32⟩
  | .local _ .vmem, ⟨28, _⟩ => ⟨S1x128x1408, .f32⟩
  | .local _ .vmem, ⟨29, _⟩ => ⟨S1x128x1408, .f32⟩
  | .local _ .vmem, ⟨30, _⟩ => ⟨S1x128x1408, .f32⟩
  | .local _ .vmem, ⟨31, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel13Ideal.lean ====
abbrev S8x2048x1408 : Shape := ⟨3, ![8, 2048, 1408]⟩
abbrev S2x2048x1408 : Shape := ⟨3, ![2, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 13
  | .vmem => 32
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S8x128x1408, .bf16⟩
  | .local _ .vmem, ⟨17, _⟩ => ⟨S8x128x1408, .bf16⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | .local _ .vmem, ⟨22, _⟩ => ⟨S1x128x1408, .f32⟩
  | .local _ .vmem, ⟨23, _⟩ => ⟨S1x128x1408, .f32⟩
  | .local _ .vmem, ⟨24, _⟩ => ⟨S1x128x1408, .f32⟩
  | .local _ .vmem, ⟨25, _⟩ => ⟨S1x128x1408, .f32⟩
  | .local _ .vmem, ⟨26, _⟩ => ⟨S1x128x1408, .f32⟩
  | .local _ .vmem, ⟨27, _⟩ => ⟨S1x128x1408, .f32⟩
  | .local _ .vmem, ⟨28, _⟩ => ⟨S1x128x1408, .f32⟩
  | .local _ .vmem, ⟨29, _⟩ => ⟨S1x128x1408, .f32⟩
  | .local _ .vmem, ⟨30, _⟩ => ⟨S1x128x1408, .f32⟩
  | .local _ .vmem, ⟨31, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference13Ideal.lean ====
abbrev S8x2048x1408 : Shape := ⟨3, ![8, 2048, 1408]⟩
abbrev S2x2048x1408 : Shape := ⟨3, ![2, 2048, 1408]⟩
abbrev S_ : Shape := ⟨0, ![]⟩
abbrev S2048x1408 : Shape := ⟨2, ![2048, 1408]⟩
abbrev S1x2048x1408 : Shape := ⟨3, ![1, 2048, 1408]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S8x2048x1408, .f32⟩
  | .hbm, ⟨6, _⟩ => ⟨S_, .f32⟩
  | .hbm, ⟨7, _⟩ => ⟨S2048x1408, .f32⟩
  | .hbm, ⟨8, _⟩ => ⟨S8x2048x1408, .f32⟩
  | .hbm, ⟨9, _⟩ => ⟨S_, .f32⟩
  | .hbm, ⟨10, _⟩ => ⟨S2048x1408, .f32⟩
  | .hbm, ⟨11, _⟩ => ⟨S1x2048x1408, .f32⟩
  | .hbm, ⟨12, _⟩ => ⟨S1x2048x1408, .f32⟩
  | .hbm, ⟨13, _⟩ => ⟨S2x2048x1408, .f32⟩
  | .hbm, ⟨14, _⟩ => ⟨S_, .f32⟩
  | .hbm, ⟨15, _⟩ => ⟨S2x2048x1408, .f32⟩
  | .hbm, ⟨16, _⟩ => ⟨S2x2048x1408, .f32⟩
  | .hbm, ⟨17, _⟩ => ⟨S_, .f32⟩
  | .hbm, ⟨18, _⟩ => ⟨S2x2048x1408, .f32⟩
  | .hbm, ⟨19, _⟩ => ⟨S2x2048x1408, .f32⟩
  | .hbm, ⟨20, _⟩ => ⟨S2x2048x1408, .f32⟩
  | .hbm, ⟨21, _⟩ => ⟨S_, .f32⟩
  | .hbm, ⟨22, _⟩ => ⟨S2x2048x1408, .f32⟩
  | .hbm, ⟨23, _⟩ => ⟨S2x2048x1408, .f32⟩
  | .hbm, ⟨24, _⟩ => ⟨S2x2048x1408, .f32⟩
  | .hbm, ⟨25, _⟩ => ⟨S_, .f32⟩
  | .hbm, ⟨26, _⟩ => ⟨S2x2048x1408, .f32⟩
  | .hbm, ⟨27, _⟩ => ⟨S2x2048x1408, .f32⟩
  | .hbm, ⟨28, _⟩ => ⟨S2x2048x1408, .f32⟩
  | .hbm, ⟨29, _⟩ => ⟨S_, .f32⟩
  | .hbm, ⟨30, _⟩ => ⟨S2x2048x1408, .f32⟩
  | .hbm, ⟨31, _⟩ => ⟨S2x2048x1408, .f32⟩
  | .hbm, ⟨32, _⟩ => ⟨S_, .f32⟩
  | .hbm, ⟨33, _⟩ => ⟨S2x2048x1408, .f32⟩
  | .hbm, ⟨34, _⟩ => ⟨S2x2048x1408, .f32⟩
  | .hbm, ⟨35, _⟩ => ⟨S2x2048x1408, .f32⟩
  | .hbm, ⟨36, _⟩ => ⟨S_, .f32⟩
  | .hbm, ⟨37, _⟩ => ⟨S2x2048x1408, .f32⟩
  | .hbm, ⟨38, _⟩ => ⟨S2x2048x1408, .f32⟩
  | .hbm, ⟨39, _⟩ => ⟨S2x2048x1408, .f32⟩
  | .hbm, ⟨40, _⟩ => ⟨S_, .f32⟩
  | .hbm, ⟨41, _⟩ => ⟨S2x2048x1408, .f32⟩
  | .hbm, ⟨42, _⟩ => ⟨S2x2048x1408, .f32⟩
  | .hbm, ⟨43, _⟩ => ⟨S2x2048x1408, .f32⟩
  | .hbm, ⟨44, _⟩ => ⟨S_, .f32⟩
  | .hbm, ⟨45, _⟩ => ⟨S2x2048x1408, .f32⟩
  | .hbm, ⟨46, _⟩ => ⟨S2x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel14.lean ====
abbrev S8x2048x1732 : Shape := ⟨3, ![8, 2048, 1732]⟩
abbrev S2x2048x1732 : Shape := ⟨3, ![2, 2048, 1732]⟩
abbrev S8x128x1732 : Shape := ⟨3, ![8, 128, 1732]⟩
abbrev S1x128x1732 : Shape := ⟨3, ![1, 128, 1732]⟩
abbrev S128x1732 : Shape := ⟨2, ![128, 1732]⟩

abbrev nBuf : Space → Nat
  | .hbm => 13
  | .vmem => 32
  | .smem => 0
  | _ => 0

abbrev bufTy : (tb : Table) → Fin (tcTables nBuf tb) → BufTy
  | .hbm, ⟨0, _⟩ => ⟨S8x2048x1732, .bf16⟩
  | .hbm, ⟨1, _⟩ => ⟨S8x2048x1732, .bf16⟩
  | .hbm, ⟨2, _⟩ => ⟨S2x2048x1732, .f32⟩
  | .hbm, ⟨3, _⟩ => ⟨S2x2048x1732, .f32⟩
  | .hbm, ⟨4, _⟩ => ⟨S2x2048x1732, .f32⟩
  | .hbm, ⟨5, _⟩ => ⟨S2x2048x1732, .f32⟩
  | .hbm, ⟨6, _⟩ => ⟨S2x2048x1732, .f32⟩
  | .hbm, ⟨7, _⟩ => ⟨S2x2048x1732, .f32⟩
  | .hbm, ⟨8, _⟩ => ⟨S2x2048x1732, .f32⟩
  | .hbm, ⟨9, _⟩ => ⟨S2x2048x1732, .f32⟩
  | .hbm, ⟨10, _⟩ => ⟨S2x2048x1732, .f32⟩
  | .hbm, ⟨11, _⟩ => ⟨S2x2048x1732, .f32⟩
  | .hbm, ⟨12, _⟩ => ⟨S2x2048x1732, .f32⟩
  | .local _ .vmem, ⟨0, _⟩ => ⟨S8x128x1732, .bf16⟩
  | .local _ .vmem, ⟨1, _⟩ => ⟨S8x128x1732, .bf16⟩
  | .local _ .vmem, ⟨2, _⟩ => ⟨S1x128x1732, .f32⟩
  | .local _ .vmem, ⟨3, _⟩ => ⟨S1x128x1732, .f32⟩
  | .local _ .vmem, ⟨4, _⟩ => ⟨S1x128x1732, .f32⟩
  | .local _ .vmem, ⟨5, _⟩ => ⟨S1x128x1732, .f32⟩
  | .local _ .vmem, ⟨6, _⟩ => ⟨S1x128x1732, .f32⟩
  | .local _ .vmem, ⟨7, _⟩ => ⟨S1x128x1732, .f32⟩
  | .local _ .vmem, ⟨8, _⟩ => ⟨S1x128x1732, .f32⟩
  | .local _ .vmem, ⟨9, _⟩ => ⟨S1x128x1732, .f32⟩
  | .local _ .vmem, ⟨10, _⟩ => ⟨S1x128x1732, .f32⟩
  | .local _ .vmem, ⟨11, _⟩ => ⟨S1x128x1732, .f32⟩
  | .local _ .vmem, ⟨12, _⟩ => ⟨S1x128x1732, .f32⟩
  | .local _ .vmem, ⟨13, _⟩ => ⟨S1x128x1732, .f32⟩
  | .local _ .vmem, ⟨14, _⟩ => ⟨S1x128x1732, .f32⟩
  | .local _ .vmem, ⟨15, _⟩ => ⟨S1x128x1732, .f32⟩
  | .local _ .vmem, ⟨16, _⟩ => ⟨S8x128x1732, .bf16⟩
  | .local _ .vmem, ⟨17, _⟩ => ⟨S8x128x1732, .bf16⟩
  | .local _ .vmem, ⟨18, _⟩ => ⟨S1x128x1732, .f32⟩
  | .local _ .vmem, ⟨19, _⟩ => ⟨S1x128x1732, .f32⟩
  | .local _ .vmem, ⟨20, _⟩ => ⟨S1x128x1732, .f32⟩
  | .local _ .vmem, ⟨21, _⟩ => ⟨S1x128x1732, .f32⟩
  | .local _ .vmem, ⟨22, _⟩ => ⟨S1x128x1732, .f32⟩
  | .local _ .vmem, ⟨23, _⟩ => ⟨S1x128x1732, .f32⟩
  | .local _ .vmem, ⟨24, _⟩ => ⟨S1x128x1732, .f32⟩
  | .local _ .vmem, ⟨25, _⟩ => ⟨S1x128x1732, .f32⟩
  | .local _ .vmem, ⟨26, _⟩ => ⟨S1x128x1732, .f32⟩
  | .local _ .vmem, ⟨27, _⟩ => ⟨S1x128x1732, .f32⟩
  | .local _ .vmem, ⟨28, _⟩ => ⟨S1x128x1732, .f32⟩
  | .local _ .vmem, ⟨29, _⟩ => ⟨S1x128x1732, .f32⟩
  | .local _ .vmem, ⟨30, _⟩ => ⟨S1x128x1732, .f32⟩
  | .local _ .vmem, ⟨31, _⟩ => ⟨S1x128x1732, .f32⟩
  | _, _ => ⟨S8x2048x1732, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x1732 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1732 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1732 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1732 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1732 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1732 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1732 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1732 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x1732 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1732 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1732 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1732 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1732 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1732 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1732 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1732 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel14Ideal.lean ====
abbrev S8x2048x1732 : Shape := ⟨3, ![8, 2048, 1732]⟩
abbrev S2x2048x1732 : Shape := ⟨3, ![2, 2048, 1732]⟩
abbrev S8x128x1732 : Shape := ⟨3, ![8, 128, 1732]⟩
abbrev S1x128x1732 : Shape := ⟨3, ![1, 128, 1732]⟩
abbrev S128x1732 : Shape := ⟨2, ![128, 1732]⟩

abbrev nBuf : Space → Nat
  | .hbm => 13
  | .vmem => 32
  | .smem => 0
  | _ => 0

abbrev bufTy : (tb : Table) → Fin (tcTables nBuf tb) → BufTy
  | .hbm, ⟨0, _⟩ => ⟨S8x2048x1732, .bf16⟩
  | .hbm, ⟨1, _⟩ => ⟨S8x2048x1732, .bf16⟩
  | .hbm, ⟨2, _⟩ => ⟨S2x2048x1732, .f32⟩
  | .hbm, ⟨3, _⟩ => ⟨S2x2048x1732, .f32⟩
  | .hbm, ⟨4, _⟩ => ⟨S2x2048x1732, .f32⟩
  | .hbm, ⟨5, _⟩ => ⟨S2x2048x1732, .f32⟩
  | .hbm, ⟨6, _⟩ => ⟨S2x2048x1732, .f32⟩
  | .hbm, ⟨7, _⟩ => ⟨S2x2048x1732, .f32⟩
  | .hbm, ⟨8, _⟩ => ⟨S2x2048x1732, .f32⟩
  | .hbm, ⟨9, _⟩ => ⟨S2x2048x1732, .f32⟩
  | .hbm, ⟨10, _⟩ => ⟨S2x2048x1732, .f32⟩
  | .hbm, ⟨11, _⟩ => ⟨S2x2048x1732, .f32⟩
  | .hbm, ⟨12, _⟩ => ⟨S2x2048x1732, .f32⟩
  | .local _ .vmem, ⟨0, _⟩ => ⟨S8x128x1732, .bf16⟩
  | .local _ .vmem, ⟨1, _⟩ => ⟨S8x128x1732, .bf16⟩
  | .local _ .vmem, ⟨2, _⟩ => ⟨S1x128x1732, .f32⟩
  | .local _ .vmem, ⟨3, _⟩ => ⟨S1x128x1732, .f32⟩
  | .local _ .vmem, ⟨4, _⟩ => ⟨S1x128x1732, .f32⟩
  | .local _ .vmem, ⟨5, _⟩ => ⟨S1x128x1732, .f32⟩
  | .local _ .vmem, ⟨6, _⟩ => ⟨S1x128x1732, .f32⟩
  | .local _ .vmem, ⟨7, _⟩ => ⟨S1x128x1732, .f32⟩
  | .local _ .vmem, ⟨8, _⟩ => ⟨S1x128x1732, .f32⟩
  | .local _ .vmem, ⟨9, _⟩ => ⟨S1x128x1732, .f32⟩
  | .local _ .vmem, ⟨10, _⟩ => ⟨S1x128x1732, .f32⟩
  | .local _ .vmem, ⟨11, _⟩ => ⟨S1x128x1732, .f32⟩
  | .local _ .vmem, ⟨12, _⟩ => ⟨S1x128x1732, .f32⟩
  | .local _ .vmem, ⟨13, _⟩ => ⟨S1x128x1732, .f32⟩
  | .local _ .vmem, ⟨14, _⟩ => ⟨S1x128x1732, .f32⟩
  | .local _ .vmem, ⟨15, _⟩ => ⟨S1x128x1732, .f32⟩
  | .local _ .vmem, ⟨16, _⟩ => ⟨S8x128x1732, .bf16⟩
  | .local _ .vmem, ⟨17, _⟩ => ⟨S8x128x1732, .bf16⟩
  | .local _ .vmem, ⟨18, _⟩ => ⟨S1x128x1732, .f32⟩
  | .local _ .vmem, ⟨19, _⟩ => ⟨S1x128x1732, .f32⟩
  | .local _ .vmem, ⟨20, _⟩ => ⟨S1x128x1732, .f32⟩
  | .local _ .vmem, ⟨21, _⟩ => ⟨S1x128x1732, .f32⟩
  | .local _ .vmem, ⟨22, _⟩ => ⟨S1x128x1732, .f32⟩
  | .local _ .vmem, ⟨23, _⟩ => ⟨S1x128x1732, .f32⟩
  | .local _ .vmem, ⟨24, _⟩ => ⟨S1x128x1732, .f32⟩
  | .local _ .vmem, ⟨25, _⟩ => ⟨S1x128x1732, .f32⟩
  | .local _ .vmem, ⟨26, _⟩ => ⟨S1x128x1732, .f32⟩
  | .local _ .vmem, ⟨27, _⟩ => ⟨S1x128x1732, .f32⟩
  | .local _ .vmem, ⟨28, _⟩ => ⟨S1x128x1732, .f32⟩
  | .local _ .vmem, ⟨29, _⟩ => ⟨S1x128x1732, .f32⟩
  | .local _ .vmem, ⟨30, _⟩ => ⟨S1x128x1732, .f32⟩
  | .local _ .vmem, ⟨31, _⟩ => ⟨S1x128x1732, .f32⟩
  | _, _ => ⟨S8x2048x1732, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x1732 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1732 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1732 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1732 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1732 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1732 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1732 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1732 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x1732 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1732 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1732 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1732 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1732 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1732 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1732 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1732 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference14Ideal.lean ====
abbrev S8x2048x1732 : Shape := ⟨3, ![8, 2048, 1732]⟩
abbrev S2x2048x1732 : Shape := ⟨3, ![2, 2048, 1732]⟩
abbrev S_ : Shape := ⟨0, ![]⟩
abbrev S2048x1732 : Shape := ⟨2, ![2048, 1732]⟩
abbrev S1x2048x1732 : Shape := ⟨3, ![1, 2048, 1732]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1732, .bf16⟩
  | .hbm, ⟨1, _⟩ => ⟨S8x2048x1732, .bf16⟩
  | .hbm, ⟨2, _⟩ => ⟨S2x2048x1732, .f32⟩
  | .hbm, ⟨3, _⟩ => ⟨S2x2048x1732, .f32⟩
  | .hbm, ⟨4, _⟩ => ⟨S2x2048x1732, .f32⟩
  | .hbm, ⟨5, _⟩ => ⟨S8x2048x1732, .f32⟩
  | .hbm, ⟨6, _⟩ => ⟨S_, .f32⟩
  | .hbm, ⟨7, _⟩ => ⟨S2048x1732, .f32⟩
  | .hbm, ⟨8, _⟩ => ⟨S8x2048x1732, .f32⟩
  | .hbm, ⟨9, _⟩ => ⟨S_, .f32⟩
  | .hbm, ⟨10, _⟩ => ⟨S2048x1732, .f32⟩
  | .hbm, ⟨11, _⟩ => ⟨S1x2048x1732, .f32⟩
  | .hbm, ⟨12, _⟩ => ⟨S1x2048x1732, .f32⟩
  | .hbm, ⟨13, _⟩ => ⟨S2x2048x1732, .f32⟩
  | .hbm, ⟨14, _⟩ => ⟨S_, .f32⟩
  | .hbm, ⟨15, _⟩ => ⟨S2x2048x1732, .f32⟩
  | .hbm, ⟨16, _⟩ => ⟨S2x2048x1732, .f32⟩
  | .hbm, ⟨17, _⟩ => ⟨S_, .f32⟩
  | .hbm, ⟨18, _⟩ => ⟨S2x2048x1732, .f32⟩
  | .hbm, ⟨19, _⟩ => ⟨S2x2048x1732, .f32⟩
  | .hbm, ⟨20, _⟩ => ⟨S2x2048x1732, .f32⟩
  | .hbm, ⟨21, _⟩ => ⟨S_, .f32⟩
  | .hbm, ⟨22, _⟩ => ⟨S2x2048x1732, .f32⟩
  | .hbm, ⟨23, _⟩ => ⟨S2x2048x1732, .f32⟩
  | .hbm, ⟨24, _⟩ => ⟨S2x2048x1732, .f32⟩
  | .hbm, ⟨25, _⟩ => ⟨S_, .f32⟩
  | .hbm, ⟨26, _⟩ => ⟨S2x2048x1732, .f32⟩
  | .hbm, ⟨27, _⟩ => ⟨S2x2048x1732, .f32⟩
  | .hbm, ⟨28, _⟩ => ⟨S2x2048x1732, .f32⟩
  | .hbm, ⟨29, _⟩ => ⟨S_, .f32⟩
  | .hbm, ⟨30, _⟩ => ⟨S2x2048x1732, .f32⟩
  | .hbm, ⟨31, _⟩ => ⟨S2x2048x1732, .f32⟩
  | .hbm, ⟨32, _⟩ => ⟨S_, .f32⟩
  | .hbm, ⟨33, _⟩ => ⟨S2x2048x1732, .f32⟩
  | .hbm, ⟨34, _⟩ => ⟨S2x2048x1732, .f32⟩
  | .hbm, ⟨35, _⟩ => ⟨S2x2048x1732, .f32⟩
  | .hbm, ⟨36, _⟩ => ⟨S_, .f32⟩
  | .hbm, ⟨37, _⟩ => ⟨S2x2048x1732, .f32⟩
  | .hbm, ⟨38, _⟩ => ⟨S2x2048x1732, .f32⟩
  | .hbm, ⟨39, _⟩ => ⟨S2x2048x1732, .f32⟩
  | .hbm, ⟨40, _⟩ => ⟨S_, .f32⟩
  | .hbm, ⟨41, _⟩ => ⟨S2x2048x1732, .f32⟩
  | .hbm, ⟨42, _⟩ => ⟨S2x2048x1732, .f32⟩
  | .hbm, ⟨43, _⟩ => ⟨S2x2048x1732, .f32⟩
  | .hbm, ⟨44, _⟩ => ⟨S_, .f32⟩
  | .hbm, ⟨45, _⟩ => ⟨S2x2048x1732, .f32⟩
  | .hbm, ⟨46, _⟩ => ⟨S2x2048x1732, .f32⟩
  | _, _ => ⟨S8x2048x1732, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel15.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 13
  | .vmem => 32
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S8x128x2048, .bf16⟩
  | .local _ .vmem, ⟨17, _⟩ => ⟨S8x128x2048, .bf16⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel15Ideal.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 13
  | .vmem => 32
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S8x128x2048, .bf16⟩
  | .local _ .vmem, ⟨17, _⟩ => ⟨S8x128x2048, .bf16⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference15Ideal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel16.lean ====
abbrev S8x1024x256 : Shape := ⟨3, ![8, 1024, 256]⟩
abbrev S2x1024x256 : Shape := ⟨3, ![2, 1024, 256]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 13
  | .vmem => 32
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .local _ .vmem, ⟨0, _⟩ => ⟨S8x128x256, .bf16⟩
  | .local _ .vmem, ⟨1, _⟩ => ⟨S8x128x256, .bf16⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S8x128x256, .bf16⟩
  | .local _ .vmem, ⟨17, _⟩ => ⟨S8x128x256, .bf16⟩
  | .local _ .vmem, ⟨18, _⟩ => ⟨S1x128x256, .f32⟩
  | .local _ .vmem, ⟨19, _⟩ => ⟨S1x128x256, .f32⟩
  | .local _ .vmem, ⟨20, _⟩ => ⟨S1x128x256, .f32⟩
  | .local _ .vmem, ⟨21, _⟩ => ⟨S1x128x256, .f32⟩
  | .local _ .vmem, ⟨22, _⟩ => ⟨S1x128x256, .f32⟩
  | .local _ .vmem, ⟨23, _⟩ => ⟨S1x128x256, .f32⟩
  | .local _ .vmem, ⟨24, _⟩ => ⟨S1x128x256, .f32⟩
  | .local _ .vmem, ⟨25, _⟩ => ⟨S1x128x256, .f32⟩
  | .local _ .vmem, ⟨26, _⟩ => ⟨S1x128x256, .f32⟩
  | .local _ .vmem, ⟨27, _⟩ => ⟨S1x128x256, .f32⟩
  | .local _ .vmem, ⟨28, _⟩ => ⟨S1x128x256, .f32⟩
  | .local _ .vmem, ⟨29, _⟩ => ⟨S1x128x256, .f32⟩
  | .local _ .vmem, ⟨30, _⟩ => ⟨S1x128x256, .f32⟩
  | .local _ .vmem, ⟨31, _⟩ => ⟨S1x128x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel16Ideal.lean ====
abbrev S8x1024x256 : Shape := ⟨3, ![8, 1024, 256]⟩
abbrev S2x1024x256 : Shape := ⟨3, ![2, 1024, 256]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 13
  | .vmem => 32
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .local _ .vmem, ⟨0, _⟩ => ⟨S8x128x256, .bf16⟩
  | .local _ .vmem, ⟨1, _⟩ => ⟨S8x128x256, .bf16⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S8x128x256, .bf16⟩
  | .local _ .vmem, ⟨17, _⟩ => ⟨S8x128x256, .bf16⟩
  | .local _ .vmem, ⟨18, _⟩ => ⟨S1x128x256, .f32⟩
  | .local _ .vmem, ⟨19, _⟩ => ⟨S1x128x256, .f32⟩
  | .local _ .vmem, ⟨20, _⟩ => ⟨S1x128x256, .f32⟩
  | .local _ .vmem, ⟨21, _⟩ => ⟨S1x128x256, .f32⟩
  | .local _ .vmem, ⟨22, _⟩ => ⟨S1x128x256, .f32⟩
  | .local _ .vmem, ⟨23, _⟩ => ⟨S1x128x256, .f32⟩
  | .local _ .vmem, ⟨24, _⟩ => ⟨S1x128x256, .f32⟩
  | .local _ .vmem, ⟨25, _⟩ => ⟨S1x128x256, .f32⟩
  | .local _ .vmem, ⟨26, _⟩ => ⟨S1x128x256, .f32⟩
  | .local _ .vmem, ⟨27, _⟩ => ⟨S1x128x256, .f32⟩
  | .local _ .vmem, ⟨28, _⟩ => ⟨S1x128x256, .f32⟩
  | .local _ .vmem, ⟨29, _⟩ => ⟨S1x128x256, .f32⟩
  | .local _ .vmem, ⟨30, _⟩ => ⟨S1x128x256, .f32⟩
  | .local _ .vmem, ⟨31, _⟩ => ⟨S1x128x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference16Ideal.lean ====
abbrev S8x1024x256 : Shape := ⟨3, ![8, 1024, 256]⟩
abbrev S2x1024x256 : Shape := ⟨3, ![2, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S8x1024x256, .f32⟩
  | .hbm, ⟨6, _⟩ => ⟨S_, .f32⟩
  | .hbm, ⟨7, _⟩ => ⟨S1024x256, .f32⟩
  | .hbm, ⟨8, _⟩ => ⟨S8x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1x1024x256, .f32⟩
  | .hbm, ⟨13, _⟩ => ⟨S2x1024x256, .f32⟩
  | .hbm, ⟨14, _⟩ => ⟨S_, .f32⟩
  | .hbm, ⟨15, _⟩ => ⟨S2x1024x256, .f32⟩
  | .hbm, ⟨16, _⟩ => ⟨S2x1024x256, .f32⟩
  | .hbm, ⟨17, _⟩ => ⟨S_, .f32⟩
  | .hbm, ⟨18, _⟩ => ⟨S2x1024x256, .f32⟩
  | .hbm, ⟨19, _⟩ => ⟨S2x1024x256, .f32⟩
  | .hbm, ⟨20, _⟩ => ⟨S2x1024x256, .f32⟩
  | .hbm, ⟨21, _⟩ => ⟨S_, .f32⟩
  | .hbm, ⟨22, _⟩ => ⟨S2x1024x256, .f32⟩
  | .hbm, ⟨23, _⟩ => ⟨S2x1024x256, .f32⟩
  | .hbm, ⟨24, _⟩ => ⟨S2x1024x256, .f32⟩
  | .hbm, ⟨25, _⟩ => ⟨S_, .f32⟩
  | .hbm, ⟨26, _⟩ => ⟨S2x1024x256, .f32⟩
  | .hbm, ⟨27, _⟩ => ⟨S2x1024x256, .f32⟩
  | .hbm, ⟨28, _⟩ => ⟨S2x1024x256, .f32⟩
  | .hbm, ⟨29, _⟩ => ⟨S_, .f32⟩
  | .hbm, ⟨30, _⟩ => ⟨S2x1024x256, .f32⟩
  | .hbm, ⟨31, _⟩ => ⟨S2x1024x256, .f32⟩
  | .hbm, ⟨32, _⟩ => ⟨S_, .f32⟩
  | .hbm, ⟨33, _⟩ => ⟨S2x1024x256, .f32⟩
  | .hbm, ⟨34, _⟩ => ⟨S2x1024x256, .f32⟩
  | .hbm, ⟨35, _⟩ => ⟨S2x1024x256, .f32⟩
  | .hbm, ⟨36, _⟩ => ⟨S_, .f32⟩
  | .hbm, ⟨37, _⟩ => ⟨S2x1024x256, .f32⟩
  | .hbm, ⟨38, _⟩ => ⟨S2x1024x256, .f32⟩
  | .hbm, ⟨39, _⟩ => ⟨S2x1024x256, .f32⟩
  | .hbm, ⟨40, _⟩ => ⟨S_, .f32⟩
  | .hbm, ⟨41, _⟩ => ⟨S2x1024x256, .f32⟩
  | .hbm, ⟨42, _⟩ => ⟨S2x1024x256, .f32⟩
  | .hbm, ⟨43, _⟩ => ⟨S2x1024x256, .f32⟩
  | .hbm, ⟨44, _⟩ => ⟨S_, .f32⟩
  | .hbm, ⟨45, _⟩ => ⟨S2x1024x256, .f32⟩
  | .hbm, ⟨46, _⟩ => ⟨S2x1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel17.lean ====
abbrev S8x128x256 : Shape := ⟨3, ![8, 128, 256]⟩
abbrev S2x128x256 : Shape := ⟨3, ![2, 128, 256]⟩
abbrev S1x128x256 : Shape := ⟨3, ![1, 128, 256]⟩
abbrev S128x256 : Shape := ⟨2, ![128, 256]⟩

abbrev nBuf : Space → Nat
  | .hbm => 13
  | .vmem => 16
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x128x256, .f32⟩
  | .hbm, ⟨3, _⟩ => ⟨S2x128x256, .f32⟩
  | .hbm, ⟨4, _⟩ => ⟨S2x128x256, .f32⟩
  | .hbm, ⟨5, _⟩ => ⟨S2x128x256, .f32⟩
  | .hbm, ⟨6, _⟩ => ⟨S2x128x256, .f32⟩
  | .hbm, ⟨7, _⟩ => ⟨S2x128x256, .f32⟩
  | .hbm, ⟨8, _⟩ => ⟨S2x128x256, .f32⟩
  | .hbm, ⟨9, _⟩ => ⟨S2x128x256, .f32⟩
  | .hbm, ⟨10, _⟩ => ⟨S2x128x256, .f32⟩
  | .hbm, ⟨11, _⟩ => ⟨S2x128x256, .f32⟩
  | .hbm, ⟨12, _⟩ => ⟨S2x128x256, .f32⟩
  | .local _ .vmem, ⟨0, _⟩ => ⟨S8x128x256, .bf16⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S8x128x256, .bf16⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x128x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== Kernel17Ideal.lean ====
abbrev S8x128x256 : Shape := ⟨3, ![8, 128, 256]⟩
abbrev S2x128x256 : Shape := ⟨3, ![2, 128, 256]⟩
abbrev S1x128x256 : Shape := ⟨3, ![1, 128, 256]⟩
abbrev S128x256 : Shape := ⟨2, ![128, 256]⟩

abbrev nBuf : Space → Nat
  | .hbm => 13
  | .vmem => 16
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x128x256, .f32⟩
  | .hbm, ⟨3, _⟩ => ⟨S2x128x256, .f32⟩
  | .hbm, ⟨4, _⟩ => ⟨S2x128x256, .f32⟩
  | .hbm, ⟨5, _⟩ => ⟨S2x128x256, .f32⟩
  | .hbm, ⟨6, _⟩ => ⟨S2x128x256, .f32⟩
  | .hbm, ⟨7, _⟩ => ⟨S2x128x256, .f32⟩
  | .hbm, ⟨8, _⟩ => ⟨S2x128x256, .f32⟩
  | .hbm, ⟨9, _⟩ => ⟨S2x128x256, .f32⟩
  | .hbm, ⟨10, _⟩ => ⟨S2x128x256, .f32⟩
  | .hbm, ⟨11, _⟩ => ⟨S2x128x256, .f32⟩
  | .hbm, ⟨12, _⟩ => ⟨S2x128x256, .f32⟩
  | .local _ .vmem, ⟨0, _⟩ => ⟨S8x128x256, .bf16⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S8x128x256, .bf16⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x128x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== Reference17Ideal.lean ====
abbrev S8x128x256 : Shape := ⟨3, ![8, 128, 256]⟩
abbrev S2x128x256 : Shape := ⟨3, ![2, 128, 256]⟩
abbrev S_ : Shape := ⟨0, ![]⟩
abbrev S128x256 : Shape := ⟨2, ![128, 256]⟩
abbrev S1x128x256 : Shape := ⟨3, ![1, 128, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x128x256, .f32⟩
  | .hbm, ⟨3, _⟩ => ⟨S2x128x256, .f32⟩
  | .hbm, ⟨4, _⟩ => ⟨S2x128x256, .f32⟩
  | .hbm, ⟨5, _⟩ => ⟨S8x128x256, .f32⟩
  | .hbm, ⟨6, _⟩ => ⟨S_, .f32⟩
  | .hbm, ⟨7, _⟩ => ⟨S128x256, .f32⟩
  | .hbm, ⟨8, _⟩ => ⟨S8x128x256, .f32⟩
  | .hbm, ⟨9, _⟩ => ⟨S_, .f32⟩
  | .hbm, ⟨10, _⟩ => ⟨S128x256, .f32⟩
  | .hbm, ⟨11, _⟩ => ⟨S1x128x256, .f32⟩
  | .hbm, ⟨12, _⟩ => ⟨S1x128x256, .f32⟩
  | .hbm, ⟨13, _⟩ => ⟨S2x128x256, .f32⟩
  | .hbm, ⟨14, _⟩ => ⟨S_, .f32⟩
  | .hbm, ⟨15, _⟩ => ⟨S2x128x256, .f32⟩
  | .hbm, ⟨16, _⟩ => ⟨S2x128x256, .f32⟩
  | .hbm, ⟨17, _⟩ => ⟨S_, .f32⟩
  | .hbm, ⟨18, _⟩ => ⟨S2x128x256, .f32⟩
  | .hbm, ⟨19, _⟩ => ⟨S2x128x256, .f32⟩
  | .hbm, ⟨20, _⟩ => ⟨S2x128x256, .f32⟩
  | .hbm, ⟨21, _⟩ => ⟨S_, .f32⟩
  | .hbm, ⟨22, _⟩ => ⟨S2x128x256, .f32⟩
  | .hbm, ⟨23, _⟩ => ⟨S2x128x256, .f32⟩
  | .hbm, ⟨24, _⟩ => ⟨S2x128x256, .f32⟩
  | .hbm, ⟨25, _⟩ => ⟨S_, .f32⟩
  | .hbm, ⟨26, _⟩ => ⟨S2x128x256, .f32⟩
  | .hbm, ⟨27, _⟩ => ⟨S2x128x256, .f32⟩
  | .hbm, ⟨28, _⟩ => ⟨S2x128x256, .f32⟩
  | .hbm, ⟨29, _⟩ => ⟨S_, .f32⟩
  | .hbm, ⟨30, _⟩ => ⟨S2x128x256, .f32⟩
  | .hbm, ⟨31, _⟩ => ⟨S2x128x256, .f32⟩
  | .hbm, ⟨32, _⟩ => ⟨S_, .f32⟩
  | .hbm, ⟨33, _⟩ => ⟨S2x128x256, .f32⟩
  | .hbm, ⟨34, _⟩ => ⟨S2x128x256, .f32⟩
  | .hbm, ⟨35, _⟩ => ⟨S2x128x256, .f32⟩
  | .hbm, ⟨36, _⟩ => ⟨S_, .f32⟩
  | .hbm, ⟨37, _⟩ => ⟨S2x128x256, .f32⟩
  | .hbm, ⟨38, _⟩ => ⟨S2x128x256, .f32⟩
  | .hbm, ⟨39, _⟩ => ⟨S2x128x256, .f32⟩
  | .hbm, ⟨40, _⟩ => ⟨S_, .f32⟩
  | .hbm, ⟨41, _⟩ => ⟨S2x128x256, .f32⟩
  | .hbm, ⟨42, _⟩ => ⟨S2x128x256, .f32⟩
  | .hbm, ⟨43, _⟩ => ⟨S2x128x256, .f32⟩
  | .hbm, ⟨44, _⟩ => ⟨S_, .f32⟩
  | .hbm, ⟨45, _⟩ => ⟨S2x128x256, .f32⟩
  | .hbm, ⟨46, _⟩ => ⟨S2x128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S8x8x384 : Shape := ⟨3, ![8, 8, 384]⟩
abbrev S2x8x384 : Shape := ⟨3, ![2, 8, 384]⟩
abbrev S1x8x384 : Shape := ⟨3, ![1, 8, 384]⟩
abbrev S8x384 : Shape := ⟨2, ![8, 384]⟩

abbrev nBuf : Space → Nat
  | .hbm => 13
  | .vmem => 16
  | .smem => 0
  | _ => 0

abbrev bufTy : (tb : Table) → Fin (tcTables nBuf tb) → BufTy
  | .hbm, ⟨0, _⟩ => ⟨S8x8x384, .f32⟩
  | .hbm, ⟨1, _⟩ => ⟨S8x8x384, .f32⟩
  | .hbm, ⟨2, _⟩ => ⟨S2x8x384, .f32⟩
  | .hbm, ⟨3, _⟩ => ⟨S2x8x384, .f32⟩
  | .hbm, ⟨4, _⟩ => ⟨S2x8x384, .f32⟩
  | .hbm, ⟨5, _⟩ => ⟨S2x8x384, .f32⟩
  | .hbm, ⟨6, _⟩ => ⟨S2x8x384, .f32⟩
  | .hbm, ⟨7, _⟩ => ⟨S2x8x384, .f32⟩
  | .hbm, ⟨8, _⟩ => ⟨S2x8x384, .f32⟩
  | .hbm, ⟨9, _⟩ => ⟨S2x8x384, .f32⟩
  | .hbm, ⟨10, _⟩ => ⟨S2x8x384, .f32⟩
  | .hbm, ⟨11, _⟩ => ⟨S2x8x384, .f32⟩
  | .hbm, ⟨12, _⟩ => ⟨S2x8x384, .f32⟩
  | .local _ .vmem, ⟨0, _⟩ => ⟨S8x8x384, .f32⟩
  | .local _ .vmem, ⟨1, _⟩ => ⟨S1x8x384, .f32⟩
  | .local _ .vmem, ⟨2, _⟩ => ⟨S1x8x384, .f32⟩
  | .local _ .vmem, ⟨3, _⟩ => ⟨S1x8x384, .f32⟩
  | .local _ .vmem, ⟨4, _⟩ => ⟨S1x8x384, .f32⟩
  | .local _ .vmem, ⟨5, _⟩ => ⟨S1x8x384, .f32⟩
  | .local _ .vmem, ⟨6, _⟩ => ⟨S1x8x384, .f32⟩
  | .local _ .vmem, ⟨7, _⟩ => ⟨S1x8x384, .f32⟩
  | .local _ .vmem, ⟨8, _⟩ => ⟨S8x8x384, .f32⟩
  | .local _ .vmem, ⟨9, _⟩ => ⟨S1x8x384, .f32⟩
  | .local _ .vmem, ⟨10, _⟩ => ⟨S1x8x384, .f32⟩
  | .local _ .vmem, ⟨11, _⟩ => ⟨S1x8x384, .f32⟩
  | .local _ .vmem, ⟨12, _⟩ => ⟨S1x8x384, .f32⟩
  | .local _ .vmem, ⟨13, _⟩ => ⟨S1x8x384, .f32⟩
  | .local _ .vmem, ⟨14, _⟩ => ⟨S1x8x384, .f32⟩
  | .local _ .vmem, ⟨15, _⟩ => ⟨S1x8x384, .f32⟩
  | _, _ => ⟨S8x8x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x8x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x8x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x8x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x8x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x8x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x8x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x8x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x8x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== Reference18Ideal.lean ====
abbrev S8x8x384 : Shape := ⟨3, ![8, 8, 384]⟩
abbrev S2x8x384 : Shape := ⟨3, ![2, 8, 384]⟩
abbrev S_ : Shape := ⟨0, ![]⟩
abbrev S8x384 : Shape := ⟨2, ![8, 384]⟩
abbrev S1x8x384 : Shape := ⟨3, ![1, 8, 384]⟩

abbrev nBuf : Space → Nat
  | .hbm => 45
  | .vmem => 0
  | .smem => 0
  | _ => 0

abbrev bufTy : (tb : Table) → Fin (tcTables nBuf tb) → BufTy
  | .hbm, ⟨0, _⟩ => ⟨S8x8x384, .f32⟩
  | .hbm, ⟨1, _⟩ => ⟨S8x8x384, .f32⟩
  | .hbm, ⟨2, _⟩ => ⟨S2x8x384, .f32⟩
  | .hbm, ⟨3, _⟩ => ⟨S2x8x384, .f32⟩
  | .hbm, ⟨4, _⟩ => ⟨S2x8x384, .f32⟩
  | .hbm, ⟨5, _⟩ => ⟨S_, .f32⟩
  | .hbm, ⟨6, _⟩ => ⟨S8x384, .f32⟩
  | .hbm, ⟨7, _⟩ => ⟨S_, .f32⟩
  | .hbm, ⟨8, _⟩ => ⟨S8x384, .f32⟩
  | .hbm, ⟨9, _⟩ => ⟨S1x8x384, .f32⟩
  | .hbm, ⟨10, _⟩ => ⟨S1x8x384, .f32⟩
  | .hbm, ⟨11, _⟩ => ⟨S2x8x384, .f32⟩
  | .hbm, ⟨12, _⟩ => ⟨S_, .f32⟩
  | .hbm, ⟨13, _⟩ => ⟨S2x8x384, .f32⟩
  | .hbm, ⟨14, _⟩ => ⟨S2x8x384, .f32⟩
  | .hbm, ⟨15, _⟩ => ⟨S_, .f32⟩
  | .hbm, ⟨16, _⟩ => ⟨S2x8x384, .f32⟩
  | .hbm, ⟨17, _⟩ => ⟨S2x8x384, .f32⟩
  | .hbm, ⟨18, _⟩ => ⟨S2x8x384, .f32⟩
  | .hbm, ⟨19, _⟩ => ⟨S_, .f32⟩
  | .hbm, ⟨20, _⟩ => ⟨S2x8x384, .f32⟩
  | .hbm, ⟨21, _⟩ => ⟨S2x8x384, .f32⟩
  | .hbm, ⟨22, _⟩ => ⟨S2x8x384, .f32⟩
  | .hbm, ⟨23, _⟩ => ⟨S_, .f32⟩
  | .hbm, ⟨24, _⟩ => ⟨S2x8x384, .f32⟩
  | .hbm, ⟨25, _⟩ => ⟨S2x8x384, .f32⟩
  | .hbm, ⟨26, _⟩ => ⟨S2x8x384, .f32⟩
  | .hbm, ⟨27, _⟩ => ⟨S_, .f32⟩
  | .hbm, ⟨28, _⟩ => ⟨S2x8x384, .f32⟩
  | .hbm, ⟨29, _⟩ => ⟨S2x8x384, .f32⟩
  | .hbm, ⟨30, _⟩ => ⟨S_, .f32⟩
  | .hbm, ⟨31, _⟩ => ⟨S2x8x384, .f32⟩
  | .hbm, ⟨32, _⟩ => ⟨S2x8x384, .f32⟩
  | .hbm, ⟨33, _⟩ => ⟨S2x8x384, .f32⟩
  | .hbm, ⟨34, _⟩ => ⟨S_, .f32⟩
  | .hbm, ⟨35, _⟩ => ⟨S2x8x384, .f32⟩
  | .hbm, ⟨36, _⟩ => ⟨S2x8x384, .f32⟩
  | .hbm, ⟨37, _⟩ => ⟨S2x8x384, .f32⟩
  | .hbm, ⟨38, _⟩ => ⟨S_, .f32⟩
  | .hbm, ⟨39, _⟩ => ⟨S2x8x384, .f32⟩
  | .hbm, ⟨40, _⟩ => ⟨S2x8x384, .f32⟩
  | .hbm, ⟨41, _⟩ => ⟨S2x8x384, .f32⟩
  | .hbm, ⟨42, _⟩ => ⟨S_, .f32⟩
  | .hbm, ⟨43, _⟩ => ⟨S2x8x384, .f32⟩
  | .hbm, ⟨44, _⟩ => ⟨S2x8x384, .f32⟩
  | _, _ => ⟨S8x8x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel19.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel20.lean ====
abbrev S8192x11264 : Shape := ⟨2, ![8192, 11264]⟩
abbrev S8192x5632 : Shape := ⟨2, ![8192, 5632]⟩
abbrev S256x11264 : Shape := ⟨2, ![256, 11264]⟩
abbrev S256x5632 : Shape := ⟨2, ![256, 5632]⟩

abbrev nBuf : Space → Nat
  | .hbm => 3
  | .vmem => 6
  | .smem => 0
  | _ => 0

abbrev bufTy : (tb : Table) → Fin (tcTables nBuf tb) → BufTy
  | .hbm, ⟨0, _⟩ => ⟨S8192x11264, .bf16⟩
  | .hbm, ⟨1, _⟩ => ⟨S8192x5632, .bf16⟩
  | .hbm, ⟨2, _⟩ => ⟨S8192x11264, .bf16⟩
  | .local _ .vmem, ⟨0, _⟩ => ⟨S256x11264, .bf16⟩
  | .local _ .vmem, ⟨1, _⟩ => ⟨S256x11264, .bf16⟩
  | .local _ .vmem, ⟨2, _⟩ => ⟨S256x5632, .bf16⟩
  | .local _ .vmem, ⟨3, _⟩ => ⟨S256x5632, .bf16⟩
  | .local _ .vmem, ⟨4, _⟩ => ⟨S256x11264, .bf16⟩
  | .local _ .vmem, ⟨5, _⟩ => ⟨S256x11264, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S8192x11264 : Shape := ⟨2, ![8192, 11264]⟩
abbrev S8192x5632 : Shape := ⟨2, ![8192, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S8192x5632, .bf16⟩
  | .hbm, ⟨2, _⟩ => ⟨S8192x11264, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S_, .f32⟩
  | .hbm, ⟨23, _⟩ => ⟨S8192x11264, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x11264, .f32⟩
  | .hbm, ⟨30, _⟩ => ⟨S8192x11264, .f32⟩
  | .hbm, ⟨31, _⟩ => ⟨S8192x11264, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel21.lean ====
abbrev S8192x6144 : Shape := ⟨2, ![8192, 6144]⟩
abbrev S8192x2048 : Shape := ⟨2, ![8192, 2048]⟩
abbrev S256x6144 : Shape := ⟨2, ![256, 6144]⟩
abbrev S256x2048 : Shape := ⟨2, ![256, 2048]⟩
abbrev S256x4096 : Shape := ⟨2, ![256, 4096]⟩

abbrev nBuf : Space → Nat
  | .hbm => 9
  | .vmem => 18
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x6144, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .local _ .vmem, ⟨0, _⟩ => ⟨S256x6144, .bf16⟩
  | .local _ .vmem, ⟨1, _⟩ => ⟨S256x6144, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x6144, .bf16⟩
  | .local _ .vmem, ⟨11, _⟩ => ⟨S256x6144, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S8192x6144 : Shape := ⟨2, ![8192, 6144]⟩
abbrev S8192x2048 : Shape := ⟨2, ![8192, 2048]⟩
abbrev S_ : Shape := ⟨0, ![]⟩
abbrev S8192x3x2048 : Shape := ⟨3, ![8192, 3, 2048]⟩
abbrev S8192x1x2048 : Shape := ⟨3, ![8192, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x6144, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x6144, .f32⟩
  | .hbm, ⟨10, _⟩ => ⟨S8192x6144, .f32⟩
  | .hbm, ⟨11, _⟩ => ⟨S_, .f32⟩
  | .hbm, ⟨12, _⟩ => ⟨S8192x6144, .f32⟩
  | .hbm, ⟨13, _⟩ => ⟨S8192x6144, .f32⟩
  | .hbm, ⟨14, _⟩ => ⟨S_, .f32⟩
  | .hbm, ⟨15, _⟩ => ⟨S8192x6144, .f32⟩
  | .hbm, ⟨16, _⟩ => ⟨S8192x6144, .f32⟩
  | .hbm, ⟨17, _⟩ => ⟨S_, .f32⟩
  | .hbm, ⟨18, _⟩ => ⟨S8192x6144, .f32⟩
  | .hbm, ⟨19, _⟩ => ⟨S8192x6144, .f32⟩
  | .hbm, ⟨20, _⟩ => ⟨S8192x6144, .f32⟩
  | .hbm, ⟨21, _⟩ => ⟨S8192x3x2048, .f32⟩
  | .hbm, ⟨22, _⟩ => ⟨S8192x1x2048, .f32⟩
  | .hbm, ⟨23, _⟩ => ⟨S8192x2048, .f32⟩
  | .hbm, ⟨24, _⟩ => ⟨S8192x2048, .f32⟩
  | .hbm, ⟨25, _⟩ => ⟨S8192x1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1x2048, .f32⟩
  | .hbm, ⟨37, _⟩ => ⟨S_, .f32⟩
  | .hbm, ⟨38, _⟩ => ⟨S8192x3x2048, .f32⟩
  | .hbm, ⟨39, _⟩ => ⟨S8192x2048, .f32⟩
  | .hbm, ⟨40, _⟩ => ⟨S8192x2048, .f32⟩
  | .hbm, ⟨41, _⟩ => ⟨S8192x1x2048, .f32⟩
  | .hbm, ⟨42, _⟩ => ⟨S_, .f32⟩
  | .hbm, ⟨43, _⟩ => ⟨S8192x3x2048, .f32⟩
  | .hbm, ⟨44, _⟩ => ⟨S8192x3x2048, .f32⟩
  | .hbm, ⟨45, _⟩ => ⟨S8192x2048, .f32⟩
  | .hbm, ⟨46, _⟩ => ⟨S8192x2048, .f32⟩
  | .hbm, ⟨47, _⟩ => ⟨S8192x1x2048, .f32⟩
  | .hbm, ⟨48, _⟩ => ⟨S_, .f32⟩
  | .hbm, ⟨49, _⟩ => ⟨S8192x3x2048, .f32⟩
  | .hbm, ⟨50, _⟩ => ⟨S8192x3x2048, .f32⟩
  | .hbm, ⟨51, _⟩ => ⟨S8192x6144, .f32⟩
  | .hbm, ⟨52, _⟩ => ⟨S8192x6144, .f32⟩
  | .hbm, ⟨53, _⟩ => ⟨S8192x6144, .bf16⟩
  | .hbm, ⟨54, _⟩ => ⟨S8192x2048, .bf16⟩
  | .hbm, ⟨55, _⟩ => ⟨S8192x2048, .bf16⟩
  | .hbm, ⟨56, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel22.lean ====
abbrev S8192x11264 : Shape := ⟨2, ![8192, 11264]⟩
abbrev S8192x5632 : Shape := ⟨2, ![8192, 5632]⟩
abbrev S256x11264 : Shape := ⟨2, ![256, 11264]⟩
abbrev S256x5632 : Shape := ⟨2, ![256, 5632]⟩

abbrev nBuf : Space → Nat
  | .hbm => 2
  | .vmem => 4
  | .smem => 0
  | _ => 0

abbrev bufTy : (tb : Table) → Fin (tcTables nBuf tb) → BufTy
  | .hbm, ⟨0, _⟩ => ⟨S8192x11264, .bf16⟩
  | .hbm, ⟨1, _⟩ => ⟨S8192x5632, .bf16⟩
  | .local _ .vmem, ⟨0, _⟩ => ⟨S256x11264, .bf16⟩
  | .local _ .vmem, ⟨1, _⟩ => ⟨S256x11264, .bf16⟩
  | .local _ .vmem, ⟨2, _⟩ => ⟨S256x5632, .bf16⟩
  | .local _ .vmem, ⟨3, _⟩ => ⟨S256x5632, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference22Ideal.lean ====
abbrev S8192x11264 : Shape := ⟨2, ![8192, 11264]⟩
abbrev S8192x5632 : Shape := ⟨2, ![8192, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S8192x11264, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel23.lean ====
abbrev S8192x6144 : Shape := ⟨2, ![8192, 6144]⟩
abbrev S8192x2048 : Shape := ⟨2, ![8192, 2048]⟩
abbrev S256x6144 : Shape := ⟨2, ![256, 6144]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .local _ .vmem, ⟨0, _⟩ => ⟨S256x6144, .bf16⟩
  | .local _ .vmem, ⟨1, _⟩ => ⟨S256x6144, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S8192x6144 : Shape := ⟨2, ![8192, 6144]⟩
abbrev S8192x2048 : Shape := ⟨2, ![8192, 2048]⟩
abbrev S_ : Shape := ⟨0, ![]⟩
abbrev S8192x3x2048 : Shape := ⟨3, ![8192, 3, 2048]⟩
abbrev S8192x1x2048 : Shape := ⟨3, ![8192, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x6144, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x6144, .f32⟩
  | .hbm, ⟨9, _⟩ => ⟨S8192x6144, .f32⟩
  | .hbm, ⟨10, _⟩ => ⟨S_, .f32⟩
  | .hbm, ⟨11, _⟩ => ⟨S8192x6144, .f32⟩
  | .hbm, ⟨12, _⟩ => ⟨S8192x6144, .f32⟩
  | .hbm, ⟨13, _⟩ => ⟨S_, .f32⟩
  | .hbm, ⟨14, _⟩ => ⟨S8192x6144, .f32⟩
  | .hbm, ⟨15, _⟩ => ⟨S8192x6144, .f32⟩
  | .hbm, ⟨16, _⟩ => ⟨S8192x3x2048, .f32⟩
  | .hbm, ⟨17, _⟩ => ⟨S8192x1x2048, .f32⟩
  | .hbm, ⟨18, _⟩ => ⟨S8192x2048, .f32⟩
  | .hbm, ⟨19, _⟩ => ⟨S8192x2048, .f32⟩
  | .hbm, ⟨20, _⟩ => ⟨S8192x1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel24.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Frame.lean ====
/- The run of the kernel's launch over any float values: what its outputs and its two carried scratch buffers hold after each grid
   point, the body's obligation, and the launch's frame. The text is the generated frame module's, with two lemmas proved anew: what
   a point holds, in each of the two cases of the kernel's conditionals (`outsAt0_A`, `outsAt0_B`). -/
module

public import proofs.«01_k».proof.Proof.Gen.KernelIdeal.Frame.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 7 tile its block (1 store of `S128x1024`), so they cover it. -/
theorem cover0_A_7 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1 S128x1024.size (by sl_kernel_rfl) y

/-- What case A leaves in output 7's staging buffer: its pieces read back over junk. -/
def out0_A_7 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) : Vec F S128x1024 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1)

/-- Case A's pieces for output 8 tile its block (1 store of `S128x256`), so they cover it. -/
theorem cover0_A_8 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.1 S128x256.size (by sl_kernel_rfl) y

/-- What case A leaves in output 8's staging buffer: its pieces read back over junk. -/
def out0_A_8 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) : Vec F S128x256 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.1)

/-- Case A's pieces for output 9 tile its block (1 store of `S128x256`), so they cover it. -/
theorem cover0_A_9 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.1 S128x256.size (by sl_kernel_rfl) y

/-- What case A leaves in output 9's staging buffer: its pieces read back over junk. -/
def out0_A_9 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) : Vec F S128x256 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.1)

/-- Case A's pieces for output 10 tile its block (1 store of `S1x16`), so they cover it. -/
theorem cover0_A_10 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (y : S1x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.1 S1x16.size (by sl_kernel_rfl) y

/-- What case A leaves in output 10's staging buffer: its pieces read back over junk. -/
def out0_A_10 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) : Vec F S1x16 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.1)

/-- Case A's pieces for scratch `arg12`, which the kernel carries between points, cover it: 2 pieces of `S128x256` tiling it (Lib/Ring.lean `Piece.tiledL`). -/
theorem scover0_A_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1 S128x256.size (by sl_kernel_rfl) y

/-- What case A leaves in scratch `arg12`: its pieces read back over junk. -/
def sout0_A_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) : Vec F S128x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1)

/-- Case A's pieces for scratch `arg13`, which the kernel carries between points, cover it: 2 pieces of `S128x256` tiling it (Lib/Ring.lean `Piece.tiledL`). -/
theorem scover0_A_1 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.2.1 S128x256.size (by sl_kernel_rfl) y

/-- What case A leaves in scratch `arg13`: its pieces read back over junk. -/
def sout0_A_1 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : cond0_0 i) (hc1 : cond0_1 i) (hc2 : ¬cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) : Vec F S128x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.2.1)

/-- Case B's pieces for output 7 tile its block (1 store of `S128x1024`), so they cover it. -/
theorem cover0_B_7 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).1 S128x1024.size (by sl_kernel_rfl) y

/-- What case B leaves in output 7's staging buffer: its pieces read back over junk. -/
def out0_B_7 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) : Vec F S128x1024 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).1)

/-- Case B's pieces for output 8 tile its block (1 store of `S128x256`), so they cover it. -/
theorem cover0_B_8 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.1 S128x256.size (by sl_kernel_rfl) y

/-- What case B leaves in output 8's staging buffer: its pieces read back over junk. -/
def out0_B_8 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) : Vec F S128x256 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.1)

/-- Case B's pieces for output 9 tile its block (1 store of `S128x256`), so they cover it. -/
theorem cover0_B_9 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.1 S128x256.size (by sl_kernel_rfl) y

/-- What case B leaves in output 9's staging buffer: its pieces read back over junk. -/
def out0_B_9 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) : Vec F S128x256 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.1)

/-- Case B's pieces for output 10 tile its block (1 store of `S1x16`), so they cover it. -/
theorem cover0_B_10 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) (y : S1x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.2.1 S1x16.size (by sl_kernel_rfl) y

/-- What case B leaves in output 10's staging buffer: its pieces read back over junk. -/
def out0_B_10 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) : Vec F S1x16 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.2.1)

/-- Case B's pieces for scratch `arg12`, which the kernel carries between points, cover it: 1 piece of `S128x256` tiling it (Lib/Ring.lean `Piece.tiledL`). -/
theorem scover0_B_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.2.2.1 S128x256.size (by sl_kernel_rfl) y

/-- What case B leaves in scratch `arg12`: its pieces read back over junk. -/
def sout0_B_0 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) : Vec F S128x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.2.2.1)

/-- Case B's pieces for scratch `arg13`, which the kernel carries between points, cover it: 1 piece of `S128x256` tiling it (Lib/Ring.lean `Piece.tiledL`). -/
theorem scover0_B_1 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.2.2.2.1 S128x256.size (by sl_kernel_rfl) y

/-- What case B leaves in scratch `arg13`: its pieces read back over junk. -/
def sout0_B_1 (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x16 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1x16 .f32) (harg11 : arg11.IsWhole) (arg12 : Memref sig .tc .vmem S128x256 .f32) (harg12 : arg12.IsWhole) (arg13 : Memref sig .tc .vmem S128x256 .f32) (harg13 : arg13.IsWhole) (hc0 : ¬cond0_0 i) (hc1 : ¬cond0_1 i) (hc2 : cond0_2 i)
    (x0 : Vec F S128x1024 .bf16) (x1 : Vec F S128x256 .bf16) (x2 : Vec F S128x256 .bf16) (x3 : Vec F S128x256 .bf16) (x4 : Vec F S128x256 .bf16) (x5 : Vec F S1x16 .f32) (x6 : Vec F S128x1024 .bf16) (xo10 : Vec F S1x16 .f32) (xs0 : Vec F S128x256 .f32) (xs1 : Vec F S128x256 .f32) : Vec F S128x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo10 xs0 xs1).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S128x1024 .bf16 × Vec F S128x256 .bf16 × Vec F S128x256 .bf16 × Vec F S1x16 .f32 × Vec F S128x256 .f32 × Vec F S128x256 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 64 = 0 then
      if h1 : (n + 1) % 64 = 0 then
        if h2 : 1 ≤ (n + 1) then
          False.elim (by have hN : n + 1 < 64 := lt_of_lt_of_eq hn (show cfg0.N = 64 from N_0); omega)
        else
          (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
      else
        False.elim (by have hN : n + 1 < 64 := lt_of_lt_of_eq hn (show cfg0.N = 64 from N_0); omega)
    else
      if h1 : (n + 1) % 64 = 0 then
        False.elim (by have hN : n + 1 < 64 := lt_of_lt_of_eq hn (show cfg0.N = 64 from N_0); omega)
      else
        if h2 : 1 ≤ (n + 1) then
          (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)
        else
          False.elim (by have hN : n + 1 < 64 := lt_of_lt_of_eq hn (show cfg0.N = 64 from N_0); omega)

/-- `outsAt0` at a point of case A: that case's contents. -/
theorem outsAt0_A (c : Dev nD) (t : Fin cfg0.N) (h0 : t.val % 64 = 0) (h1 : t.val % 64 = 0) (h2 : ¬1 ≤ t.val) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t)) := by
  obtain ⟨n, hn⟩ := t
  cases n with
  | zero => exact rfl
  | succ n => exact absurd (Nat.le_add_left 1 n) h2

/-- `outsAt0` at a point of case B: that case's contents, over what the point before left. -/
theorem outsAt0_B (c : Dev nD) (t : Fin cfg0.N) (h0 : ¬t.val % 64 = 0) (h1 : ¬t.val % 64 = 0) (h2 : 1 ≤ t.val) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n =>
    rw [outsAt0, dif_neg h0, dif_neg h1, dif_pos h2]
    simp only [Nat.add_sub_cancel]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 10's contents CARRY through the points that leave it idle: at such a point, its buffer not fresh, the proof data's
    `after` is the point before's (the case there stores nothing into the window and its term says so; a case that stores
    into it is not idle there by `liveAt0_10_κ`) — the hypothesis of Lib/Pipeline/TableIdle.lean `Dat.before_out_traj`. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 64 := lt_of_lt_of_eq t.isLt (show cfg0.N = 64 from N_0)
  rw [after0_10, after0_10]
  by_cases h0 : t.val % 64 = 0
  · by_cases h1 : t.val % 64 = 0
    · by_cases h2 : 1 ≤ t.val
      · exfalso; omega
      · rw [liveAt0_10_A t ((hcond0_0 t).mpr h0) ((hcond0_1 t).mpr h1) (fun h => h2 ((hcond0_2 t).mp h))] at hi
        exact absurd hi Bool.false_ne_true
    · exfalso; omega
  · by_cases h1 : t.val % 64 = 0
    · exfalso; omega
    · by_cases h2 : 1 ≤ t.val
      · rw [liveAt0_10_B t (fun h => h0 ((hcond0_0 t).mp h)) (fun h => h1 ((hcond0_1 t).mp h)) ((hcond0_2 t).mpr h2)] at hi
        exact absurd hi Bool.false_ne_true
      · exfalso; omega
/-- At a point of case B output 10's current staging buffer holds what the point before left: the buffer is not fresh
    there (`notFresh0_10_B`: stored into since the region's entry or the last write-back, carried through the points that
    leave it idle by `hcarry0_10`; Lib/Pipeline/TableIdle.lean `Dat.before_out_traj`). -/
theorem before0_10_B (c : Dev nD) (t : Fin cfg0.N) (h0 : ¬t.val % 64 = 0) (h1 : ¬t.val % 64 = 0) (h2 : 1 ≤ t.val) (d) :
    (dats m 0 c).before 10 t d = (outsAt0 m c (t.val - 1) (Nat.lt_of_le_of_lt (Nat.sub_le _ _) t.isLt)).2.2.2.1 := by
  rw [Dat.before_out_traj _ 10 rfl (fun _ _ => rfl) (hcarry0_10 m c) t.val t rfl d,
    if_neg (by rw [notFresh0_10_B t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val % 64 = 0
    · by_cases h2 : 1 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (fun h => h2 ((hcond0_2 t).mp h))], after0_10]
        by_cases hz : t.val = 0
        · rw [PhiS_castSucc m c t, PhiS_zero m c _ _ hz, PhiA0_eq]
          rw [outsAt0_A m c t h0 h1 h2]
          unfold out0_A_7 out0_A_8 out0_A_9 out0_A_10 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t)).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, ⟨%e7, H7⟩, ⟨%e8, H8⟩, ⟨%e9, H9⟩, ⟨%e10, H10⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _)
        · exfalso; have hN : t.val < 64 := lt_of_lt_of_eq t.isLt (show cfg0.N = 64 from N_0); omega
    · exfalso; omega
  · by_cases h1 : t.val % 64 = 0
    · exfalso; omega
    · by_cases h2 : 1 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_B t (fun h => h0 ((hcond0_0 t).mp h)) (fun h => h1 ((hcond0_1 t).mp h)) ((hcond0_2 t).mpr h2)], after0_10]
        by_cases hz : t.val = 0
        · exfalso; have hN : t.val < 64 := lt_of_lt_of_eq t.isLt (show cfg0.N = 64 from N_0); omega
        · rw [PhiS_castSucc m c t, PhiS_pos m c _ _ hz]
          rw [outsAt0_B m c t h0 h1 h2]
          simp only [before0_10_B m c t h0 h1 h2]
          unfold out0_B_7 out0_B_8 out0_B_9 out0_B_10 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [H10]; · iexact H10
          isplitl [HS0]; · iexact HS0
          isplitl [HS1]; · iexact HS1
          iintro ⟨H0, H1, H2, H3, H4, H5, H6, ⟨%e7, H7⟩, ⟨%e8, H8⟩, ⟨%e9, H9⟩, ⟨%e10, H10⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the program ends without a fault, with its arguments unchanged and every semaphore at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Value.lean ====
/- The launch's results block by block: the generated value module's text over the run of `Frame.lean`. -/
module

public import proofs.«01_k».proof.Proof.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 64 = 0) (h1 : t.val % 64 = 0) (h2 : ¬1 ≤ t.val) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t)) := by
  simp only [flushed7, outsAt0_A m c t h0 h1 h2]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 64 = 0) (h1 : ¬t.val % 64 = 0) (h2 : 1 ≤ t.val) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed7, outsAt0_B m c t h0 h1 h2]

/-- The index map sends distinct grid points to distinct block indices (decided over the 64 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8192x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 64 = 0) (h1 : t.val % 64 = 0) (h2 : ¬1 ≤ t.val) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t)) := by
  simp only [flushed8, outsAt0_A m c t h0 h1 h2]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 64 = 0) (h1 : ¬t.val % 64 = 0) (h2 : 1 ≤ t.val) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed8, outsAt0_B m c t h0 h1 h2]

/-- The index map sends distinct grid points to distinct block indices (decided over the 64 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8192x256.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 2), read through the window's block. -/
theorem flushed9 (c : Dev nD) (t : Fin cfg0.N) :
    (dats m 0 c).flushed 9 t = (cfg0.win 9).cut (grid0.coords t) ((outsAt0 m c t.val t.isLt).2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 64 = 0) (h1 : t.val % 64 = 0) (h2 : ¬1 ≤ t.val) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t)) := by
  simp only [flushed9, outsAt0_A m c t h0 h1 h2]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 64 = 0) (h1 : ¬t.val % 64 = 0) (h2 : 1 ≤ t.val) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed9, outsAt0_B m c t h0 h1 h2]

/-- The index map sends distinct grid points to distinct block indices (decided over the 64 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8192x256.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 3), read through the window's block. -/
theorem flushed10 (c : Dev nD) (t : Fin cfg0.N) :
    (dats m 0 c).flushed 10 t = (cfg0.win 10).cut (grid0.coords t) ((outsAt0 m c t.val t.isLt).2.2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 64 = 0) (h1 : t.val % 64 = 0) (h2 : ¬1 ≤ t.val) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t)) := by
  simp only [flushed10, outsAt0_A m c t h0 h1 h2]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 64 = 0) (h1 : ¬t.val % 64 = 0) (h2 : 1 ≤ t.val) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed10, outsAt0_B m c t h0 h1 h2]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S1x16.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_3) = (dats m 0 c).arrAt 10 cfg0.N :=
  (h c).1 10

/-- After the frame run, argument `main_arg0` is as launched: input window 4 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))

/-- After the frame run, argument `main_arg1` is as launched: input window 5 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- After the frame run, argument `main_arg2` is as launched: input window 6 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 6).trans (((dats m 0 c).arrAt_in 6 rfl _).trans ((A_eq m c 6).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post7 m r h c,
      post8 m r h c,
      post9 m r h c,
      post10 m r h c,
      kept_main_arg0 m r h c,
      kept_main_arg1 m r h c,
      kept_main_arg2 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S128x256 .f32) : Vec F S128x256 .f32 :=
  if h0 : n % 64 = 0 then
    if h1 : n % 64 = 0 then
      if h2 : 1 ≤ n then
        acc
      else
        sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (X0_0 m c (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
    else
      acc
  else
    if h1 : n % 64 = 0 then
      acc
    else
      if h2 : 1 ≤ n then
        sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (X0_0 m c (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2
      else
        acc

/-- WHAT CARRIED SCRATCH 0 HOLDS after point `t`: the fold of its run up to `t`, from the reset at the run's first point
    `64·(t / 64)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.1 = Pipeline.accAt (fun n h => scAt0_0 m c n h (VS0_0.read (Elt F) VS0_0.junk)) (scAt0_0 m c) (64 * (t.val / 64)) (t.val % 64)
      (by have h1 := t.isLt; have h2 := Nat.div_add_mod t.val 64; omega) :=
  Pipeline.eq_accAt_of_mod (fun n h => (outsAt0 m c n h).2.2.2.2.1) 64 (fun n h => scAt0_0 m c n h (VS0_0.read (Elt F) VS0_0.junk)) (scAt0_0 m c)
    (fun n h hn => by
      have hN := lt_of_lt_of_eq h (show cfg0.N = 64 from N_0)
      by_cases h0 : n % 64 = 0 <;> by_cases h1 : n % 64 = 0 <;> by_cases h2 : 1 ≤ n
      all_goals first | (exfalso; omega) | (rw [outsAt0_A m c ⟨n, h⟩ h0 h1 h2]; dsimp only; unfold scAt0_0; rw [dif_pos h0, dif_pos h1, dif_neg h2] <;> try rfl) | (rw [outsAt0_B m c ⟨n, h⟩ h0 h1 h2]; dsimp only; unfold scAt0_0; rw [dif_neg h0, dif_neg h1, dif_pos h2] <;> try rfl))
    (fun n h hn => by
      have hN := lt_of_lt_of_eq h (show cfg0.N = 64 from N_0)
      by_cases h0 : (n + 1) % 64 = 0 <;> by_cases h1 : (n + 1) % 64 = 0 <;> by_cases h2 : 1 ≤ (n + 1)
      all_goals first | (exfalso; omega) | (rw [outsAt0_A m c ⟨n + 1, h⟩ h0 h1 h2]; dsimp only; unfold scAt0_0; rw [dif_pos h0, dif_pos h1, dif_neg h2] <;> try rfl) | (rw [outsAt0_B m c ⟨n + 1, h⟩ h0 h1 h2]; dsimp only; unfold scAt0_0; rw [dif_neg h0, dif_neg h1, dif_pos h2] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 64 from N_0)
  have hd : n / 64 = 0 := Nat.div_eq_of_lt hN
  have hm : n % 64 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S128x256 .f32) : Vec F S128x256 .f32 :=
  if h0 : n % 64 = 0 then
    if h1 : n % 64 = 0 then
      if h2 : 1 ≤ n then
        acc
      else
        sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (X0_0 m c (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
    else
      acc
  else
    if h1 : n % 64 = 0 then
      acc
    else
      if h2 : 1 ≤ n then
        sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (X0_0 m c (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc
      else
        acc

/-- WHAT CARRIED SCRATCH 1 HOLDS after point `t`: the fold of its run up to `t`, from the reset at the run's first point
    `64·(t / 64)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.2 = Pipeline.accAt (fun n h => scAt0_1 m c n h (VS0_1.read (Elt F) VS0_1.junk)) (scAt0_1 m c) (64 * (t.val / 64)) (t.val % 64)
      (by have h1 := t.isLt; have h2 := Nat.div_add_mod t.val 64; omega) :=
  Pipeline.eq_accAt_of_mod (fun n h => (outsAt0 m c n h).2.2.2.2.2) 64 (fun n h => scAt0_1 m c n h (VS0_1.read (Elt F) VS0_1.junk)) (scAt0_1 m c)
    (fun n h hn => by
      have hN := lt_of_lt_of_eq h (show cfg0.N = 64 from N_0)
      by_cases h0 : n % 64 = 0 <;> by_cases h1 : n % 64 = 0 <;> by_cases h2 : 1 ≤ n
      all_goals first | (exfalso; omega) | (rw [outsAt0_A m c ⟨n, h⟩ h0 h1 h2]; dsimp only; unfold scAt0_1; rw [dif_pos h0, dif_pos h1, dif_neg h2] <;> try rfl) | (rw [outsAt0_B m c ⟨n, h⟩ h0 h1 h2]; dsimp only; unfold scAt0_1; rw [dif_neg h0, dif_neg h1, dif_pos h2] <;> try rfl))
    (fun n h hn => by
      have hN := lt_of_lt_of_eq h (show cfg0.N = 64 from N_0)
      by_cases h0 : (n + 1) % 64 = 0 <;> by_cases h1 : (n + 1) % 64 = 0 <;> by_cases h2 : 1 ≤ (n + 1)
      all_goals first | (exfalso; omega) | (rw [outsAt0_A m c ⟨n + 1, h⟩ h0 h1 h2]; dsimp only; unfold scAt0_1; rw [dif_pos h0, dif_pos h1, dif_neg h2] <;> try rfl) | (rw [outsAt0_B m c ⟨n + 1, h⟩ h0 h1 h2]; dsimp only; unfold scAt0_1; rw [dif_neg h0, dif_neg h1, dif_pos h2] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 64 from N_0)
  have hd : n / 64 = 0 := Nat.div_eq_of_lt hN
  have hm : n % 64 = n := Nat.mod_eq_of_lt hN
  simpa only [hd, hm, Nat.mul_zero] using e

end Cert.KernelIdeal.Value

end
-- ==== Proof.RefVals.lean ====
module

public import proofs.«01_k».proof.Proof.Gen.ReferenceIdeal

/-! The reference one operation at a time: the value each operation writes, as a function of the arguments it depends on. -/

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S8192x1536, .bf16⟩ : BufTy).Contents (Elt F)) : (⟨S8192x1536, .f32⟩ : BufTy).Contents (Elt F) :=
  extf .f32 (x0) bitsLt_bf16_f32

def val_main_v1 (x0 : (⟨S8192x1536, .bf16⟩ : BufTy).Contents (Elt F)) : (⟨S8192x1024, .f32⟩ : BufTy).Contents (Elt F) :=
  extractStridedSlice S8192x1024 ![0, 0] (val_main_v0 (F := F) x0) slices_S8192x1536_S8192x1024_0_0

def val_main_v2 (x0 : (⟨S8192x1536, .bf16⟩ : BufTy).Contents (Elt F)) : (⟨S8192x256, .f32⟩ : BufTy).Contents (Elt F) :=
  extractStridedSlice S8192x256 ![0, 1024] (val_main_v0 (F := F) x0) slices_S8192x1536_S8192x256_0_1024

def val_main_v3 (x0 : (⟨S8192x1536, .bf16⟩ : BufTy).Contents (Elt F)) : (⟨S8192x256, .f32⟩ : BufTy).Contents (Elt F) :=
  extractStridedSlice S8192x256 ![0, 1280] (val_main_v0 (F := F) x0) slices_S8192x1536_S8192x256_0_1280

def val_main_v4 (x0 : (⟨S8192x1536, .bf16⟩ : BufTy).Contents (Elt F)) : (⟨S1x8192x16x64, .f32⟩ : BufTy).Contents (Elt F) :=
  shapeCast _ (val_main_v1 (F := F) x0) shapeCasts_S8192x1024_S1x8192x16x64

def val_main_v5 (x0 : (⟨S8192x1536, .bf16⟩ : BufTy).Contents (Elt F)) : (⟨S1x8192x4x64, .f32⟩ : BufTy).Contents (Elt F) :=
  shapeCast _ (val_main_v2 (F := F) x0) shapeCasts_S8192x256_S1x8192x4x64

def val_main_v6 (x0 : (⟨S8192x1536, .bf16⟩ : BufTy).Contents (Elt F)) : (⟨S1x8192x4x64, .f32⟩ : BufTy).Contents (Elt F) :=
  shapeCast _ (val_main_v3 (F := F) x0) shapeCasts_S8192x256_S1x8192x4x64

def val_main_v7 (x1 : (⟨S1x16, .f32⟩ : BufTy).Contents (Elt F)) : (⟨S16, .f32⟩ : BufTy).Contents (Elt F) :=
  shapeCast _ (x1) shapeCasts_S1x16_S16

def val_main_v8 (x0 : (⟨S8192x1536, .bf16⟩ : BufTy).Contents (Elt F)) : (⟨S1x64x128x4x4x64, .f32⟩ : BufTy).Contents (Elt F) :=
  shapeCast _ (val_main_v4 (F := F) x0) shapeCasts_S1x8192x16x64_S1x64x128x4x4x64

def val_main_v9 (x0 : (⟨S8192x1536, .bf16⟩ : BufTy).Contents (Elt F)) : (⟨S1x64x128x4x64, .f32⟩ : BufTy).Contents (Elt F) :=
  shapeCast _ (val_main_v5 (F := F) x0) shapeCasts_S1x8192x4x64_S1x64x128x4x64

def val_main_v10 (x0 : (⟨S8192x1536, .bf16⟩ : BufTy).Contents (Elt F)) : (⟨S1x64x128x4x64, .f32⟩ : BufTy).Contents (Elt F) :=
  shapeCast _ (val_main_v6 (F := F) x0) shapeCasts_S1x8192x4x64_S1x64x128x4x64

def val_main_v11 (x0 : (⟨S8192x1536, .bf16⟩ : BufTy).Contents (Elt F)) : (⟨S1x1x128x4x64, .f32⟩ : BufTy).Contents (Elt F) :=
  extractStridedSlice S1x1x128x4x64 ![0, 0, 0, 0, 0] (val_main_v9 (F := F) x0) slices_S1x64x128x4x64_S1x1x128x4x64_0_0_0_0_0

def val_main_cst : (⟨S_, .f32⟩ : BufTy).Contents (Elt F) :=
  constant S_ .f32 0x00000000#32

def val_main_v12 : (⟨S1x1x128x4x64, .f32⟩ : BufTy).Contents (Elt F) :=
  broadcastInDim S1x1x128x4x64 ![] bcast_S_S1x1x128x4x64 (val_main_cst (F := F))

def val_main_v13 (x0 : (⟨S8192x1536, .bf16⟩ : BufTy).Contents (Elt F)) : (⟨S1x63x128x4x64, .f32⟩ : BufTy).Contents (Elt F) :=
  extractStridedSlice S1x63x128x4x64 ![0, 0, 0, 0, 0] (val_main_v9 (F := F) x0) slices_S1x64x128x4x64_S1x63x128x4x64_0_0_0_0_0

def val_main_v14 (x0 : (⟨S8192x1536, .bf16⟩ : BufTy).Contents (Elt F)) : (⟨S1x64x128x4x64, .f32⟩ : BufTy).Contents (Elt F) :=
  concatenate S1x64x128x4x64 1 [⟨S1x1x128x4x64, (val_main_v12 (F := F))⟩, ⟨S1x63x128x4x64, (val_main_v13 (F := F) x0)⟩] concatenates_S1x1x128x4x64_S1x63x128x4x64_S1x64x128x4x64_d1

def val_main_cst_0 : (⟨S_, .f32⟩ : BufTy).Contents (Elt F) :=
  constant S_ .f32 0x00000000#32

def val_main_v15 : (⟨S1x1x128x4x64, .f32⟩ : BufTy).Contents (Elt F) :=
  broadcastInDim S1x1x128x4x64 ![] bcast_S_S1x1x128x4x64 (val_main_cst_0 (F := F))

def val_main_v16 (x0 : (⟨S8192x1536, .bf16⟩ : BufTy).Contents (Elt F)) : (⟨S1x64x256x4x64, .f32⟩ : BufTy).Contents (Elt F) :=
  concatenate S1x64x256x4x64 2 [⟨S1x64x128x4x64, (val_main_v14 (F := F) x0)⟩, ⟨S1x64x128x4x64, (val_main_v9 (F := F) x0)⟩] concatenates_S1x64x128x4x64_S1x64x128x4x64_S1x64x256x4x64_d2

def val_main_v17 (x0 : (⟨S8192x1536, .bf16⟩ : BufTy).Contents (Elt F)) : (⟨S1x1x128x4x64, .f32⟩ : BufTy).Contents (Elt F) :=
  extractStridedSlice S1x1x128x4x64 ![0, 0, 0, 0, 0] (val_main_v10 (F := F) x0) slices_S1x64x128x4x64_S1x1x128x4x64_0_0_0_0_0

def val_main_cst_1 : (⟨S_, .f32⟩ : BufTy).Contents (Elt F) :=
  constant S_ .f32 0x00000000#32

def val_main_v18 : (⟨S1x1x128x4x64, .f32⟩ : BufTy).Contents (Elt F) :=
  broadcastInDim S1x1x128x4x64 ![] bcast_S_S1x1x128x4x64 (val_main_cst_1 (F := F))

def val_main_v19 (x0 : (⟨S8192x1536, .bf16⟩ : BufTy).Contents (Elt F)) : (⟨S1x63x128x4x64, .f32⟩ : BufTy).Contents (Elt F) :=
  extractStridedSlice S1x63x128x4x64 ![0, 0, 0, 0, 0] (val_main_v10 (F := F) x0) slices_S1x64x128x4x64_S1x63x128x4x64_0_0_0_0_0

def val_main_v20 (x0 : (⟨S8192x1536, .bf16⟩ : BufTy).Contents (Elt F)) : (⟨S1x64x128x4x64, .f32⟩ : BufTy).Contents (Elt F) :=
  concatenate S1x64x128x4x64 1 [⟨S1x1x128x4x64, (val_main_v18 (F := F))⟩, ⟨S1x63x128x4x64, (val_main_v19 (F := F) x0)⟩] concatenates_S1x1x128x4x64_S1x63x128x4x64_S1x64x128x4x64_d1

def val_main_cst_2 : (⟨S_, .f32⟩ : BufTy).Contents (Elt F) :=
  constant S_ .f32 0x00000000#32

def val_main_v21 : (⟨S1x1x128x4x64, .f32⟩ : BufTy).Contents (Elt F) :=
  broadcastInDim S1x1x128x4x64 ![] bcast_S_S1x1x128x4x64 (val_main_cst_2 (F := F))

def val_main_v22 (x0 : (⟨S8192x1536, .bf16⟩ : BufTy).Contents (Elt F)) : (⟨S1x64x256x4x64, .f32⟩ : BufTy).Contents (Elt F) :=
  concatenate S1x64x256x4x64 2 [⟨S1x64x128x4x64, (val_main_v20 (F := F) x0)⟩, ⟨S1x64x128x4x64, (val_main_v10 (F := F) x0)⟩] concatenates_S1x64x128x4x64_S1x64x128x4x64_S1x64x256x4x64_d2

def val_main_v23 (x0 : (⟨S8192x1536, .bf16⟩ : BufTy).Contents (Elt F)) : (⟨S1x64x4x256x128x4, .f32⟩ : BufTy).Contents (Elt F) :=
  Host.dotGeneral dot_S1x64x256x4x64_S1x64x128x4x4x64_S1x64x4x256x128x4_4_5_2_24_013_013 none (val_main_v16 (F := F) x0) (val_main_v8 (F := F) x0)

def val_main_v24 (x0 : (⟨S8192x1536, .bf16⟩ : BufTy).Contents (Elt F)) : (⟨S1x64x4x4x128x256, .f32⟩ : BufTy).Contents (Elt F) :=
  transpose S1x64x4x4x128x256 [0, 1, 2, 5, 4, 3] (val_main_v23 (F := F) x0) transposes_S1x64x4x256x128x4_S1x64x4x4x128x256_0_1_2_5_4_3

def val_main_cst_3 : (⟨S_, .f32⟩ : BufTy).Contents (Elt F) :=
  constant S_ .f32 0x3E000000#32

def val_main_v25 : (⟨S1x64x4x4x128x256, .f32⟩ : BufTy).Contents (Elt F) :=
  broadcastInDim S1x64x4x4x128x256 ![] bcast_S_S1x64x4x4x128x256 (val_main_cst_3 (F := F))

def val_main_v26 (x0 : (⟨S8192x1536, .bf16⟩ : BufTy).Contents (Elt F)) : (⟨S1x64x4x4x128x256, .f32⟩ : BufTy).Contents (Elt F) :=
  mulf (val_main_v24 (F := F) x0) (val_main_v25 (F := F))

def val_main_v27 : (⟨S64, .i32⟩ : BufTy).Contents (Elt F) :=
  iotaInDim S64 32 0

def val_main_v28 : (⟨S64x1x1, .i32⟩ : BufTy).Contents (Elt F) :=
  broadcastInDim S64x1x1 ![0] bcast_S64_S64x1x1_0 (val_main_v27 (F := F))

def val_main_c : (⟨S_, .i32⟩ : BufTy).Contents (Elt F) :=
  constantI S_ 32 128#32

def val_main_v29 : (⟨S64x1x1, .i32⟩ : BufTy).Contents (Elt F) :=
  broadcastInDim S64x1x1 ![] bcast_S_S64x1x1 (val_main_c (F := F))

def val_main_v30 : (⟨S64x1x1, .i32⟩ : BufTy).Contents (Elt F) :=
  muli (val_main_v28 (F := F)) (val_main_v29 (F := F))

def val_main_v31 : (⟨S128, .i32⟩ : BufTy).Contents (Elt F) :=
  iotaInDim S128 32 0

def val_main_v32 : (⟨S1x128x1, .i32⟩ : BufTy).Contents (Elt F) :=
  broadcastInDim S1x128x1 ![1] bcast_S128_S1x128x1_1 (val_main_v31 (F := F))

def val_main_v33 : (⟨S64x128x1, .i32⟩ : BufTy).Contents (Elt F) :=
  broadcastInDim S64x128x1 ![0, 1, 2] bcast_S64x1x1_S64x128x1_0_1_2 (val_main_v30 (F := F))

def val_main_v34 : (⟨S64x128x1, .i32⟩ : BufTy).Contents (Elt F) :=
  broadcastInDim S64x128x1 ![0, 1, 2] bcast_S1x128x1_S64x128x1_0_1_2 (val_main_v32 (F := F))

def val_main_v35 : (⟨S64x128x1, .i32⟩ : BufTy).Contents (Elt F) :=
  addi (val_main_v33 (F := F)) (val_main_v34 (F := F))

def val_main_c_4 : (⟨S_, .i32⟩ : BufTy).Contents (Elt F) :=
  constantI S_ 32 1#32

def val_main_v36 : (⟨S64x1x1, .i32⟩ : BufTy).Contents (Elt F) :=
  broadcastInDim S64x1x1 ![] bcast_S_S64x1x1 (val_main_c_4 (F := F))

def val_main_v37 : (⟨S64x1x1, .i32⟩ : BufTy).Contents (Elt F) :=
  subi (val_main_v28 (F := F)) (val_main_v36 (F := F))

def val_main_c_5 : (⟨S_, .i32⟩ : BufTy).Contents (Elt F) :=
  constantI S_ 32 128#32

def val_main_v38 : (⟨S64x1x1, .i32⟩ : BufTy).Contents (Elt F) :=
  broadcastInDim S64x1x1 ![] bcast_S_S64x1x1 (val_main_c_5 (F := F))

def val_main_v39 : (⟨S64x1x1, .i32⟩ : BufTy).Contents (Elt F) :=
  muli (val_main_v37 (F := F)) (val_main_v38 (F := F))

def val_main_v40 : (⟨S256, .i32⟩ : BufTy).Contents (Elt F) :=
  iotaInDim S256 32 0

def val_main_v41 : (⟨S1x1x256, .i32⟩ : BufTy).Contents (Elt F) :=
  broadcastInDim S1x1x256 ![2] bcast_S256_S1x1x256_2 (val_main_v40 (F := F))

def val_main_v42 : (⟨S64x1x256, .i32⟩ : BufTy).Contents (Elt F) :=
  broadcastInDim S64x1x256 ![0, 1, 2] bcast_S64x1x1_S64x1x256_0_1_2 (val_main_v39 (F := F))

def val_main_v43 : (⟨S64x1x256, .i32⟩ : BufTy).Contents (Elt F) :=
  broadcastInDim S64x1x256 ![0, 1, 2] bcast_S1x1x256_S64x1x256_0_1_2 (val_main_v41 (F := F))

def val_main_v44 : (⟨S64x1x256, .i32⟩ : BufTy).Contents (Elt F) :=
  addi (val_main_v42 (F := F)) (val_main_v43 (F := F))

def val_main_v45 : (⟨S64x128x256, .i32⟩ : BufTy).Contents (Elt F) :=
  broadcastInDim S64x128x256 ![0, 1, 2] bcast_S64x128x1_S64x128x256_0_1_2 (val_main_v35 (F := F))

def val_main_v46 : (⟨S64x128x256, .i32⟩ : BufTy).Contents (Elt F) :=
  broadcastInDim S64x128x256 ![0, 1, 2] bcast_S64x1x256_S64x128x256_0_1_2 (val_main_v44 (F := F))

def val_main_v47 : (⟨S64x128x256, .i32⟩ : BufTy).Contents (Elt F) :=
  subi (val_main_v45 (F := F)) (val_main_v46 (F := F))

def val_main_c_6 : (⟨S_, .i32⟩ : BufTy).Contents (Elt F) :=
  constantI S_ 32 0#32

def val_main_v48 : (⟨S64x128x256, .i32⟩ : BufTy).Contents (Elt F) :=
  broadcastInDim S64x128x256 ![] bcast_S_S64x128x256 (val_main_c_6 (F := F))

def val_main_v49 : (⟨S64x128x256, .i1⟩ : BufTy).Contents (Elt F) :=
  cmpi .sge (val_main_v47 (F := F)) (val_main_v48 (F := F))

def val_main_c_7 : (⟨S_, .i32⟩ : BufTy).Contents (Elt F) :=
  constantI S_ 32 128#32

def val_main_v50 : (⟨S64x128x256, .i32⟩ : BufTy).Contents (Elt F) :=
  broadcastInDim S64x128x256 ![] bcast_S_S64x128x256 (val_main_c_7 (F := F))

def val_main_v51 : (⟨S64x128x256, .i1⟩ : BufTy).Contents (Elt F) :=
  cmpi .slt (val_main_v47 (F := F)) (val_main_v50 (F := F))

def val_main_v52 : (⟨S64x128x256, .i1⟩ : BufTy).Contents (Elt F) :=
  andi (val_main_v49 (F := F)) (val_main_v51 (F := F))

def val_main_c_8 : (⟨S_, .i32⟩ : BufTy).Contents (Elt F) :=
  constantI S_ 32 0#32

def val_main_v53 : (⟨S64x1x256, .i32⟩ : BufTy).Contents (Elt F) :=
  broadcastInDim S64x1x256 ![] bcast_S_S64x1x256 (val_main_c_8 (F := F))

def val_main_v54 : (⟨S64x1x256, .i1⟩ : BufTy).Contents (Elt F) :=
  cmpi .sge (val_main_v44 (F := F)) (val_main_v53 (F := F))

def val_main_v55 : (⟨S64x128x256, .i1⟩ : BufTy).Contents (Elt F) :=
  broadcastInDim S64x128x256 ![0, 1, 2] bcast_S64x1x256_S64x128x256_0_1_2 (val_main_v54 (F := F))

def val_main_v56 : (⟨S64x128x256, .i1⟩ : BufTy).Contents (Elt F) :=
  andi (val_main_v52 (F := F)) (val_main_v55 (F := F))

def val_main_v57 : (⟨S1x64x1x1x128x256, .i1⟩ : BufTy).Contents (Elt F) :=
  broadcastInDim S1x64x1x1x128x256 ![1, 4, 5] bcast_S64x128x256_S1x64x1x1x128x256_1_4_5 (val_main_v56 (F := F))

def val_main_cst_9 : (⟨S_, .f32⟩ : BufTy).Contents (Elt F) :=
  constant S_ .f32 0xFF800000#32

def val_main_call0_v0 : (⟨S_, .f32⟩ : BufTy).Contents (Elt F) :=
  id (val_main_cst_9 (F := F))

def val_main_v58_1 : (⟨S1x64x4x4x128x256, .i1⟩ : BufTy).Contents (Elt F) :=
  broadcastInDim S1x64x4x4x128x256 ![0, 1, 2, 3, 4, 5] bcast_S1x64x1x1x128x256_S1x64x4x4x128x256_0_1_2_3_4_5 (val_main_v57 (F := F))

def val_main_call0_v2 : (⟨S1x64x4x4x128x256, .f32⟩ : BufTy).Contents (Elt F) :=
  broadcastInDim S1x64x4x4x128x256 ![] bcast_S_S1x64x4x4x128x256 (val_main_call0_v0 (F := F))

def val_main_v58_0 (x0 : (⟨S8192x1536, .bf16⟩ : BufTy).Contents (Elt F)) : (⟨S1x64x4x4x128x256, .f32⟩ : BufTy).Contents (Elt F) :=
  select (val_main_v58_1 (F := F)) (val_main_v26 (F := F) x0) (val_main_call0_v2 (F := F))

def val_main_call0_cst : (⟨S_, .f32⟩ : BufTy).Contents (Elt F) :=
  constant S_ .f32 0x00000000#32

def val_main_v58_2 : (⟨S1x64x4x4x128x256, .f32⟩ : BufTy).Contents (Elt F) :=
  broadcastInDim S1x64x4x4x128x256 ![] bcast_S_S1x64x4x4x128x256 (val_main_call0_cst (F := F))

def val_main_v59 (x1 : (⟨S1x16, .f32⟩ : BufTy).Contents (Elt F)) : (⟨S4x4, .f32⟩ : BufTy).Contents (Elt F) :=
  shapeCast _ (val_main_v7 (F := F) x1) shapeCasts_S16_S4x4

def val_main_v60 (x1 : (⟨S1x16, .f32⟩ : BufTy).Contents (Elt F)) : (⟨S1x1x4x4x1x1, .f32⟩ : BufTy).Contents (Elt F) :=
  broadcastInDim S1x1x4x4x1x1 ![2, 3] bcast_S4x4_S1x1x4x4x1x1_2_3 (val_main_v59 (F := F) x1)

def val_main_v61 (x1 : (⟨S1x16, .f32⟩ : BufTy).Contents (Elt F)) : (⟨S1x64x4x4x128x1, .f32⟩ : BufTy).Contents (Elt F) :=
  broadcastInDim S1x64x4x4x128x1 ![0, 1, 2, 3, 4, 5] bcast_S1x1x4x4x1x1_S1x64x4x4x128x1_0_1_2_3_4_5 (val_main_v60 (F := F) x1)

def val_main_v62 (x0 : (⟨S8192x1536, .bf16⟩ : BufTy).Contents (Elt F)) (x1 : (⟨S1x16, .f32⟩ : BufTy).Contents (Elt F)) : (⟨S1x64x4x4x128x257, .f32⟩ : BufTy).Contents (Elt F) :=
  concatenate S1x64x4x4x128x257 5 [⟨S1x64x4x4x128x256, (val_main_v58_0 (F := F) x0)⟩, ⟨S1x64x4x4x128x1, (val_main_v61 (F := F) x1)⟩] concatenates_S1x64x4x4x128x256_S1x64x4x4x128x1_S1x64x4x4x128x257_d5

def val_main_cst_10 : (⟨S_, .f32⟩ : BufTy).Contents (Elt F) :=
  constant S_ .f32 0xFF800000#32

def val_main_v63 (x0 : (⟨S8192x1536, .bf16⟩ : BufTy).Contents (Elt F)) (x1 : (⟨S1x16, .f32⟩ : BufTy).Contents (Elt F)) : (⟨S1x64x4x4x128, .f32⟩ : BufTy).Contents (Elt F) :=
  Host.reduce FloatOps.maximumf (val_main_v62 (F := F) x0 x1) (val_main_cst_10 (F := F)) reducesTo_S1x64x4x4x128x257_S1x64x4x4x128_d5 h_S_

def val_main_v64 (x0 : (⟨S8192x1536, .bf16⟩ : BufTy).Contents (Elt F)) (x1 : (⟨S1x16, .f32⟩ : BufTy).Contents (Elt F)) : (⟨S1x64x4x4x128x1, .f32⟩ : BufTy).Contents (Elt F) :=
  shapeCast _ (val_main_v63 (F := F) x0 x1) shapeCasts_S1x64x4x4x128_S1x64x4x4x128x1

def val_main_v65 (x0 : (⟨S8192x1536, .bf16⟩ : BufTy).Contents (Elt F)) (x1 : (⟨S1x16, .f32⟩ : BufTy).Contents (Elt F)) : (⟨S1x64x4x4x128x257, .f32⟩ : BufTy).Contents (Elt F) :=
  broadcastInDim S1x64x4x4x128x257 ![0, 1, 2, 3, 4, 5] bcast_S1x64x4x4x128x1_S1x64x4x4x128x257_0_1_2_3_4_5 (val_main_v64 (F := F) x0 x1)

def val_main_v66 (x0 : (⟨S8192x1536, .bf16⟩ : BufTy).Contents (Elt F)) (x1 : (⟨S1x16, .f32⟩ : BufTy).Contents (Elt F)) : (⟨S1x64x4x4x128x257, .i1⟩ : BufTy).Contents (Elt F) :=
  cmpf .oeq (val_main_v62 (F := F) x0 x1) (val_main_v65 (F := F) x0 x1)

def val_main_v67 (x0 : (⟨S8192x1536, .bf16⟩ : BufTy).Contents (Elt F)) (x1 : (⟨S1x16, .f32⟩ : BufTy).Contents (Elt F)) : (⟨S1x64x4x4x128x257, .f32⟩ : BufTy).Contents (Elt F) :=
  uitofp .f32 (val_main_v66 (F := F) x0 x1)

def val_main_cst_11 : (⟨S_, .f32⟩ : BufTy).Contents (Elt F) :=
  constant S_ .f32 0x00000000#32

def val_main_v68 (x0 : (⟨S8192x1536, .bf16⟩ : BufTy).Contents (Elt F)) (x1 : (⟨S1x16, .f32⟩ : BufTy).Contents (Elt F)) : (⟨S1x64x4x4x128, .f32⟩ : BufTy).Contents (Elt F) :=
  Host.reduceAdd (val_main_v67 (F := F) x0 x1) (val_main_cst_11 (F := F)) reducesTo_S1x64x4x4x128x257_S1x64x4x4x128_d5 h_S_

def val_main_cst_12 : (⟨S_, .f32⟩ : BufTy).Contents (Elt F) :=
  constant S_ .f32 0xFF800000#32

def val_main_v69 : (⟨S1x64x4x4x128, .f32⟩ : BufTy).Contents (Elt F) :=
  broadcastInDim S1x64x4x4x128 ![] bcast_S_S1x64x4x4x128 (val_main_cst_12 (F := F))

def val_main_v70 (x0 : (⟨S8192x1536, .bf16⟩ : BufTy).Contents (Elt F)) (x1 : (⟨S1x16, .f32⟩ : BufTy).Contents (Elt F)) : (⟨S1x64x4x4x128, .f32⟩ : BufTy).Contents (Elt F) :=
  maximumf (val_main_v69 (F := F)) (val_main_v63 (F := F) x0 x1)

def val_main_cst_13 : (⟨S_, .f32⟩ : BufTy).Contents (Elt F) :=
  constant S_ .f32 0xFF800000#32

def val_main_v71 : (⟨S1x64x4x4x128, .f32⟩ : BufTy).Contents (Elt F) :=
  broadcastInDim S1x64x4x4x128 ![] bcast_S_S1x64x4x4x128 (val_main_cst_13 (F := F))

def val_main_v72 (x0 : (⟨S8192x1536, .bf16⟩ : BufTy).Contents (Elt F)) (x1 : (⟨S1x16, .f32⟩ : BufTy).Contents (Elt F)) : (⟨S1x64x4x4x128, .i1⟩ : BufTy).Contents (Elt F) :=
  cmpf .ogt (val_main_v63 (F := F) x0 x1) (val_main_v71 (F := F))

def val_main_cst_14 : (⟨S_, .f32⟩ : BufTy).Contents (Elt F) :=
  constant S_ .f32 0xFF800000#32

def val_main_v73 : (⟨S1x64x4x4x128, .f32⟩ : BufTy).Contents (Elt F) :=
  broadcastInDim S1x64x4x4x128 ![] bcast_S_S1x64x4x4x128 (val_main_cst_14 (F := F))

def val_main_v74 (x0 : (⟨S8192x1536, .bf16⟩ : BufTy).Contents (Elt F)) (x1 : (⟨S1x16, .f32⟩ : BufTy).Contents (Elt F)) : (⟨S1x64x4x4x128, .i1⟩ : BufTy).Contents (Elt F) :=
  cmpf .oeq (val_main_v63 (F := F) x0 x1) (val_main_v73 (F := F))

def val_main_cst_15 : (⟨S_, .f32⟩ : BufTy).Contents (Elt F) :=
  constant S_ .f32 0x3F800000#32

def val_main_v75 : (⟨S1x64x4x4x128, .f32⟩ : BufTy).Contents (Elt F) :=
  broadcastInDim S1x64x4x4x128 ![] bcast_S_S1x64x4x4x128 (val_main_cst_15 (F := F))

def val_main_cst_16 : (⟨S_, .f32⟩ : BufTy).Contents (Elt F) :=
  constant S_ .f32 0x00000000#32

def val_main_v76 : (⟨S1x64x4x4x128, .f32⟩ : BufTy).Contents (Elt F) :=
  broadcastInDim S1x64x4x4x128 ![] bcast_S_S1x64x4x4x128 (val_main_cst_16 (F := F))

def val_main_cst_17 : (⟨S_, .f32⟩ : BufTy).Contents (Elt F) :=
  constant S_ .f32 0x3F000000#32

def val_main_v77 : (⟨S1x64x4x4x128, .f32⟩ : BufTy).Contents (Elt F) :=
  broadcastInDim S1x64x4x4x128 ![] bcast_S_S1x64x4x4x128 (val_main_cst_17 (F := F))

def val_main_v78 (x0 : (⟨S8192x1536, .bf16⟩ : BufTy).Contents (Elt F)) (x1 : (⟨S1x16, .f32⟩ : BufTy).Contents (Elt F)) : (⟨S1x64x4x4x128, .f32⟩ : BufTy).Contents (Elt F) :=
  select (val_main_v74 (F := F) x0 x1) (val_main_v77 (F := F)) (val_main_v76 (F := F))

def val_main_v79 (x0 : (⟨S8192x1536, .bf16⟩ : BufTy).Contents (Elt F)) (x1 : (⟨S1x16, .f32⟩ : BufTy).Contents (Elt F)) : (⟨S1x64x4x4x128, .f32⟩ : BufTy).Contents (Elt F) :=
  select (val_main_v72 (F := F) x0 x1) (val_main_v75 (F := F)) (val_main_v78 (F := F) x0 x1)

def val_main_v80 (x0 : (⟨S8192x1536, .bf16⟩ : BufTy).Contents (Elt F)) (x1 : (⟨S1x16, .f32⟩ : BufTy).Contents (Elt F)) : (⟨S1x64x4x4x128x1, .f32⟩ : BufTy).Contents (Elt F) :=
  broadcastInDim S1x64x4x4x128x1 ![0, 1, 2, 3, 4] bcast_S1x64x4x4x128_S1x64x4x4x128x1_0_1_2_3_4 (val_main_v70 (F := F) x0 x1)

def val_main_v81 (x0 : (⟨S8192x1536, .bf16⟩ : BufTy).Contents (Elt F)) (x1 : (⟨S1x16, .f32⟩ : BufTy).Contents (Elt F)) : (⟨S1x64x4x4x128x257, .f32⟩ : BufTy).Contents (Elt F) :=
  broadcastInDim S1x64x4x4x128x257 ![0, 1, 2, 3, 4, 5] bcast_S1x64x4x4x128x1_S1x64x4x4x128x257_0_1_2_3_4_5 (val_main_v80 (F := F) x0 x1)

def val_main_v82 (x0 : (⟨S8192x1536, .bf16⟩ : BufTy).Contents (Elt F)) (x1 : (⟨S1x16, .f32⟩ : BufTy).Contents (Elt F)) : (⟨S1x64x4x4x128x257, .f32⟩ : BufTy).Contents (Elt F) :=
  subf (val_main_v62 (F := F) x0 x1) (val_main_v81 (F := F) x0 x1)

def val_main_v83 (x0 : (⟨S8192x1536, .bf16⟩ : BufTy).Contents (Elt F)) (x1 : (⟨S1x16, .f32⟩ : BufTy).Contents (Elt F)) : (⟨S1x64x4x4x128x257, .f32⟩ : BufTy).Contents (Elt F) :=
  Host.exp (val_main_v82 (F := F) x0 x1)

def val_main_cst_18 : (⟨S_, .f32⟩ : BufTy).Contents (Elt F) :=
  constant S_ .f32 0x00000000#32

def val_main_v84 (x0 : (⟨S8192x1536, .bf16⟩ : BufTy).Contents (Elt F)) (x1 : (⟨S1x16, .f32⟩ : BufTy).Contents (Elt F)) : (⟨S1x64x4x4x128, .f32⟩ : BufTy).Contents (Elt F) :=
  Host.reduceAdd (val_main_v83 (F := F) x0 x1) (val_main_cst_18 (F := F)) reducesTo_S1x64x4x4x128x257_S1x64x4x4x128_d5 h_S_

def val_main_v85 (x0 : (⟨S8192x1536, .bf16⟩ : BufTy).Contents (Elt F)) (x1 : (⟨S1x16, .f32⟩ : BufTy).Contents (Elt F)) : (⟨S1x64x4x4x128x1, .f32⟩ : BufTy).Contents (Elt F) :=
  broadcastInDim S1x64x4x4x128x1 ![0, 1, 2, 3, 4] bcast_S1x64x4x4x128_S1x64x4x4x128x1_0_1_2_3_4 (val_main_v84 (F := F) x0 x1)

def val_main_v86 (x0 : (⟨S8192x1536, .bf16⟩ : BufTy).Contents (Elt F)) (x1 : (⟨S1x16, .f32⟩ : BufTy).Contents (Elt F)) : (⟨S1x64x4x4x128x257, .f32⟩ : BufTy).Contents (Elt F) :=
  broadcastInDim S1x64x4x4x128x257 ![0, 1, 2, 3, 4, 5] bcast_S1x64x4x4x128x1_S1x64x4x4x128x257_0_1_2_3_4_5 (val_main_v85 (F := F) x0 x1)

def val_main_v87 (x0 : (⟨S8192x1536, .bf16⟩ : BufTy).Contents (Elt F)) (x1 : (⟨S1x16, .f32⟩ : BufTy).Contents (Elt F)) : (⟨S1x64x4x4x128x257, .f32⟩ : BufTy).Contents (Elt F) :=
  Host.divf (val_main_v83 (F := F) x0 x1) (val_main_v86 (F := F) x0 x1)

def val_main_v88 (x0 : (⟨S8192x1536, .bf16⟩ : BufTy).Contents (Elt F)) (x1 : (⟨S1x16, .f32⟩ : BufTy).Contents (Elt F)) : (⟨S1x64x4x4x128x1, .f32⟩ : BufTy).Contents (Elt F) :=
  mulf (val_main_v85 (F := F) x0 x1) (val_main_v85 (F := F) x0 x1)

def val_main_cst_19 : (⟨S_, .f32⟩ : BufTy).Contents (Elt F) :=
  constant S_ .f32 0x3F800000#32

def val_main_v89 : (⟨S1x64x4x4x128x1, .f32⟩ : BufTy).Contents (Elt F) :=
  broadcastInDim S1x64x4x4x128x1 ![] bcast_S_S1x64x4x4x128x1 (val_main_cst_19 (F := F))

def val_main_v90 (x0 : (⟨S8192x1536, .bf16⟩ : BufTy).Contents (Elt F)) (x1 : (⟨S1x16, .f32⟩ : BufTy).Contents (Elt F)) : (⟨S1x64x4x4x128x1, .f32⟩ : BufTy).Contents (Elt F) :=
  Host.divf (val_main_v89 (F := F)) (val_main_v88 (F := F) x0 x1)

def val_main_v91 (x0 : (⟨S8192x1536, .bf16⟩ : BufTy).Contents (Elt F)) (x1 : (⟨S1x16, .f32⟩ : BufTy).Contents (Elt F)) : (⟨S1x64x4x4x128x256, .f32⟩ : BufTy).Contents (Elt F) :=
  extractStridedSlice S1x64x4x4x128x256 ![0, 0, 0, 0, 0, 0] (val_main_v87 (F := F) x0 x1) slices_S1x64x4x4x128x257_S1x64x4x4x128x256_0_0_0_0_0_0

def val_main_v92 (x0 : (⟨S8192x1536, .bf16⟩ : BufTy).Contents (Elt F)) (x1 : (⟨S1x16, .f32⟩ : BufTy).Contents (Elt F)) : (⟨S1x64x4x64x4x128, .f32⟩ : BufTy).Contents (Elt F) :=
  Host.dotGeneral dot_S1x64x256x4x64_S1x64x4x4x128x256_S1x64x4x64x4x128_2_5_4_34_013_012 none (val_main_v22 (F := F) x0) (val_main_v91 (F := F) x0 x1)

def val_main_v93 (x0 : (⟨S8192x1536, .bf16⟩ : BufTy).Contents (Elt F)) (x1 : (⟨S1x16, .f32⟩ : BufTy).Contents (Elt F)) : (⟨S1x64x128x4x4x64, .f32⟩ : BufTy).Contents (Elt F) :=
  transpose S1x64x128x4x4x64 [0, 1, 5, 2, 4, 3] (val_main_v92 (F := F) x0 x1) transposes_S1x64x4x64x4x128_S1x64x128x4x4x64_0_1_5_2_4_3

def val_main_v94 (x0 : (⟨S8192x1536, .bf16⟩ : BufTy).Contents (Elt F)) (x1 : (⟨S1x16, .f32⟩ : BufTy).Contents (Elt F)) : (⟨S1x8192x1024, .f32⟩ : BufTy).Contents (Elt F) :=
  shapeCast _ (val_main_v93 (F := F) x0 x1) shapeCasts_S1x64x128x4x4x64_S1x8192x1024

def val_main_v95 (x0 : (⟨S8192x1536, .bf16⟩ : BufTy).Contents (Elt F)) (x1 : (⟨S1x16, .f32⟩ : BufTy).Contents (Elt F)) : (⟨S8192x1024, .f32⟩ : BufTy).Contents (Elt F) :=
  shapeCast _ (val_main_v94 (F := F) x0 x1) shapeCasts_S1x8192x1024_S8192x1024

def val_main_v96 (x2 : (⟨S8192x1024, .bf16⟩ : BufTy).Contents (Elt F)) : (⟨S8192x1024, .f32⟩ : BufTy).Contents (Elt F) :=
  extf .f32 (x2) bitsLt_bf16_f32

def val_main_v97 (x2 : (⟨S8192x1024, .bf16⟩ : BufTy).Contents (Elt F)) : (⟨S1x8192x1024, .f32⟩ : BufTy).Contents (Elt F) :=
  broadcastInDim S1x8192x1024 ![1, 2] bcast_S8192x1024_S1x8192x1024_1_2 (val_main_v96 (F := F) x2)

def val_main_v98 (x2 : (⟨S8192x1024, .bf16⟩ : BufTy).Contents (Elt F)) : (⟨S1x64x128x4x4x64, .f32⟩ : BufTy).Contents (Elt F) :=
  shapeCast _ (val_main_v97 (F := F) x2) shapeCasts_S1x8192x1024_S1x64x128x4x4x64

def val_main_v99 (x2 : (⟨S8192x1024, .bf16⟩ : BufTy).Contents (Elt F)) : (⟨S1x64x4x64x4x128, .f32⟩ : BufTy).Contents (Elt F) :=
  transpose S1x64x4x64x4x128 [0, 1, 3, 5, 4, 2] (val_main_v98 (F := F) x2) transposes_S1x64x128x4x4x64_S1x64x4x64x4x128_0_1_3_5_4_2

def val_main_v100 (x0 : (⟨S8192x1536, .bf16⟩ : BufTy).Contents (Elt F)) (x2 : (⟨S8192x1024, .bf16⟩ : BufTy).Contents (Elt F)) : (⟨S1x64x4x4x128x256, .f32⟩ : BufTy).Contents (Elt F) :=
  Host.dotGeneral dot_S1x64x4x64x4x128_S1x64x256x4x64_S1x64x4x4x128x256_3_4_45_2_012_013 none (val_main_v99 (F := F) x2) (val_main_v22 (F := F) x0)

def val_main_v101 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x64x256, .f32⟩ : BufTy).Contents (Elt F) :=
  Host.dotGeneral dot_S1x64x4x64x4x128_S1x64x4x4x128x256_S1x64x4x64x256_45_34_3_5_012_012 none (val_main_v99 (F := F) x2) (val_main_v91 (F := F) x0 x1)

def val_main_v102 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x256x4x64, .f32⟩ : BufTy).Contents (Elt F) :=
  transpose S1x64x256x4x64 [0, 1, 4, 2, 3] (val_main_v101 (F := F) x0 x1 x2) transposes_S1x64x4x64x256_S1x64x256x4x64_0_1_4_2_3

def val_main_cst_20 : (⟨S_, .f32⟩ : BufTy).Contents (Elt F) :=
  constant S_ .f32 0x00000000#32

def val_main_v103 (x0 : (⟨S8192x1536, .bf16⟩ : BufTy).Contents (Elt F)) (x2 : (⟨S8192x1024, .bf16⟩ : BufTy).Contents (Elt F)) : (⟨S1x64x4x4x128x257, .f32⟩ : BufTy).Contents (Elt F) :=
  pad S1x64x4x4x128x257 ![0, 0, 0, 0, 0, 0] ![0, 0, 0, 0, 0, 1] ![0, 0, 0, 0, 0, 0] (val_main_v100 (F := F) x0 x2) (val_main_cst_20 (F := F)) pads_S1x64x4x4x128x256_S1x64x4x4x128x257_000_000_000_000_000_010 h_S_

def val_main_v104 (x0 : (⟨S8192x1536, .bf16⟩ : BufTy).Contents (Elt F)) (x1 : (⟨S1x16, .f32⟩ : BufTy).Contents (Elt F)) : (⟨S1x64x4x4x128x257, .f32⟩ : BufTy).Contents (Elt F) :=
  broadcastInDim S1x64x4x4x128x257 ![0, 1, 2, 3, 4, 5] bcast_S1x64x4x4x128x1_S1x64x4x4x128x257_0_1_2_3_4_5 (val_main_v90 (F := F) x0 x1)

def val_main_v105 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x257, .f32⟩ : BufTy).Contents (Elt F) :=
  mulf (val_main_v103 (F := F) x0 x2) (val_main_v104 (F := F) x0 x1)

def val_main_v106 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x257, .f32⟩ : BufTy).Contents (Elt F) :=
  mulf (val_main_v105 (F := F) x0 x1 x2) (val_main_v83 (F := F) x0 x1)

def val_main_cst_21 : (⟨S_, .f32⟩ : BufTy).Contents (Elt F) :=
  constant S_ .f32 0x00000000#32

def val_main_v107 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128, .f32⟩ : BufTy).Contents (Elt F) :=
  Host.reduceAdd (val_main_v106 (F := F) x0 x1 x2) (val_main_cst_21 (F := F)) reducesTo_S1x64x4x4x128x257_S1x64x4x4x128_d5 h_S_

def val_main_v108 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x1, .f32⟩ : BufTy).Contents (Elt F) :=
  shapeCast _ (val_main_v107 (F := F) x0 x1 x2) shapeCasts_S1x64x4x4x128_S1x64x4x4x128x1

def val_main_v109 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x1, .f32⟩ : BufTy).Contents (Elt F) :=
  Host.negf (val_main_v108 (F := F) x0 x1 x2)

def val_main_v110 (x0 : (⟨S8192x1536, .bf16⟩ : BufTy).Contents (Elt F)) (x1 : (⟨S1x16, .f32⟩ : BufTy).Contents (Elt F)) : (⟨S1x64x4x4x128x257, .f32⟩ : BufTy).Contents (Elt F) :=
  broadcastInDim S1x64x4x4x128x257 ![0, 1, 2, 3, 4, 5] bcast_S1x64x4x4x128x1_S1x64x4x4x128x257_0_1_2_3_4_5 (val_main_v85 (F := F) x0 x1)

def val_main_v111 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x257, .f32⟩ : BufTy).Contents (Elt F) :=
  Host.divf (val_main_v103 (F := F) x0 x2) (val_main_v110 (F := F) x0 x1)

def val_main_cst_22 : (⟨S_, .f32⟩ : BufTy).Contents (Elt F) :=
  constant S_ .f32 0x00000000#32

def val_main_v112 (x0 : (⟨S8192x1536, .bf16⟩ : BufTy).Contents (Elt F)) (x1 : (⟨S1x16, .f32⟩ : BufTy).Contents (Elt F)) (x2 : (⟨S8192x1024, .bf16⟩ : BufTy).Contents (Elt F)) : (⟨S64x4x4x128, .f32⟩ : BufTy).Contents (Elt F) :=
  Host.reduceAdd (val_main_v109 (F := F) x0 x1 x2) (val_main_cst_22 (F := F)) reducesTo_S1x64x4x4x128x1_S64x4x4x128_d0_5 h_S_

def val_main_v113 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128, .f32⟩ : BufTy).Contents (Elt F) :=
  broadcastInDim S1x64x4x4x128 ![1, 2, 3, 4] bcast_S64x4x4x128_S1x64x4x4x128_1_2_3_4 (val_main_v112 (F := F) x0 x1 x2)

def val_main_v114 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x257, .f32⟩ : BufTy).Contents (Elt F) :=
  broadcastInDim S1x64x4x4x128x257 ![0, 1, 2, 3, 4] bcast_S1x64x4x4x128_S1x64x4x4x128x257_0_1_2_3_4 (val_main_v113 (F := F) x0 x1 x2)

def val_main_v115 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x257, .f32⟩ : BufTy).Contents (Elt F) :=
  addf (val_main_v111 (F := F) x0 x1 x2) (val_main_v114 (F := F) x0 x1 x2)

def val_main_v116 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x257, .f32⟩ : BufTy).Contents (Elt F) :=
  mulf (val_main_v115 (F := F) x0 x1 x2) (val_main_v83 (F := F) x0 x1)

def val_main_v117 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x256, .f32⟩ : BufTy).Contents (Elt F) :=
  extractStridedSlice S1x64x4x4x128x256 ![0, 0, 0, 0, 0, 0] (val_main_v116 (F := F) x0 x1 x2) slices_S1x64x4x4x128x257_S1x64x4x4x128x256_0_0_0_0_0_0

def val_main_v118 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x1, .f32⟩ : BufTy).Contents (Elt F) :=
  extractStridedSlice S1x64x4x4x128x1 ![0, 0, 0, 0, 0, 256] (val_main_v116 (F := F) x0 x1 x2) slices_S1x64x4x4x128x257_S1x64x4x4x128x1_0_0_0_0_0_256

def val_main_cst_23 : (⟨S_, .f32⟩ : BufTy).Contents (Elt F) :=
  constant S_ .f32 0x00000000#32

def val_main_v119 (x0 : (⟨S8192x1536, .bf16⟩ : BufTy).Contents (Elt F)) (x1 : (⟨S1x16, .f32⟩ : BufTy).Contents (Elt F)) (x2 : (⟨S8192x1024, .bf16⟩ : BufTy).Contents (Elt F)) : (⟨S4x4, .f32⟩ : BufTy).Contents (Elt F) :=
  Host.reduceAdd (val_main_v118 (F := F) x0 x1 x2) (val_main_cst_23 (F := F)) reducesTo_S1x64x4x4x128x1_S4x4_d0_1_4_5 h_S_

def val_main_v120 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x1x4x4x1x1, .f32⟩ : BufTy).Contents (Elt F) :=
  broadcastInDim S1x1x4x4x1x1 ![2, 3] bcast_S4x4_S1x1x4x4x1x1_2_3 (val_main_v119 (F := F) x0 x1 x2)

def val_main_cst_24 : (⟨S_, .f32⟩ : BufTy).Contents (Elt F) :=
  constant S_ .f32 0x00000000#32

def val_main_v121 (x0 : (⟨S8192x1536, .bf16⟩ : BufTy).Contents (Elt F)) (x1 : (⟨S1x16, .f32⟩ : BufTy).Contents (Elt F)) (x2 : (⟨S8192x1024, .bf16⟩ : BufTy).Contents (Elt F)) : (⟨S4x4, .f32⟩ : BufTy).Contents (Elt F) :=
  Host.reduceAdd (val_main_v120 (F := F) x0 x1 x2) (val_main_cst_24 (F := F)) reducesTo_S1x1x4x4x1x1_S4x4_d0_1_4_5 h_S_

def val_main_v122 (x0 : (⟨S8192x1536, .bf16⟩ : BufTy).Contents (Elt F)) (x1 : (⟨S1x16, .f32⟩ : BufTy).Contents (Elt F)) (x2 : (⟨S8192x1024, .bf16⟩ : BufTy).Contents (Elt F)) : (⟨S16, .f32⟩ : BufTy).Contents (Elt F) :=
  shapeCast _ (val_main_v121 (F := F) x0 x1 x2) shapeCasts_S4x4_S16

def val_main_call1_cst : (⟨S_, .f32⟩ : BufTy).Contents (Elt F) :=
  constant S_ .f32 0x00000000#32

def val_main_call1_v0 : (⟨S1x64x4x4x128x256, .f32⟩ : BufTy).Contents (Elt F) :=
  broadcastInDim S1x64x4x4x128x256 ![] bcast_S_S1x64x4x4x128x256 (val_main_call1_cst (F := F))

def val_main_v123 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x256, .f32⟩ : BufTy).Contents (Elt F) :=
  select (val_main_v58_1 (F := F)) (val_main_v117 (F := F) x0 x1 x2) (val_main_call1_v0 (F := F))

def val_main_cst_25 : (⟨S_, .f32⟩ : BufTy).Contents (Elt F) :=
  constant S_ .f32 0x3E000000#32

def val_main_v124 : (⟨S1x64x4x4x128x256, .f32⟩ : BufTy).Contents (Elt F) :=
  broadcastInDim S1x64x4x4x128x256 ![] bcast_S_S1x64x4x4x128x256 (val_main_cst_25 (F := F))

def val_main_v125 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x4x128x256, .f32⟩ : BufTy).Contents (Elt F) :=
  mulf (val_main_v123 (F := F) x0 x1 x2) (val_main_v124 (F := F))

def val_main_v126 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x256x128x4, .f32⟩ : BufTy).Contents (Elt F) :=
  transpose S1x64x4x256x128x4 [0, 1, 2, 5, 4, 3] (val_main_v125 (F := F) x0 x1 x2) transposes_S1x64x4x4x128x256_S1x64x4x256x128x4_0_1_2_5_4_3

def val_main_v127 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x128x4x64, .f32⟩ : BufTy).Contents (Elt F) :=
  Host.dotGeneral dot_S1x64x4x256x128x4_S1x64x256x4x64_S1x64x4x128x4x64_3_2_45_4_012_013 none (val_main_v126 (F := F) x0 x1 x2) (val_main_v16 (F := F) x0)

def val_main_v128 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x128x4x4x64, .f32⟩ : BufTy).Contents (Elt F) :=
  transpose S1x64x128x4x4x64 [0, 1, 3, 2, 4, 5] (val_main_v127 (F := F) x0 x1 x2) transposes_S1x64x4x128x4x64_S1x64x128x4x4x64_0_1_3_2_4_5

def val_main_v129 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x4x256x64, .f32⟩ : BufTy).Contents (Elt F) :=
  Host.dotGeneral dot_S1x64x4x256x128x4_S1x64x128x4x4x64_S1x64x4x256x64_45_24_3_5_012_013 none (val_main_v126 (F := F) x0 x1 x2) (val_main_v8 (F := F) x0)

def val_main_v130 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x256x4x64, .f32⟩ : BufTy).Contents (Elt F) :=
  transpose S1x64x256x4x64 [0, 1, 3, 2, 4] (val_main_v129 (F := F) x0 x1 x2) transposes_S1x64x4x256x64_S1x64x256x4x64_0_1_3_2_4

def val_main_v131 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x128x4x64, .f32⟩ : BufTy).Contents (Elt F) :=
  extractStridedSlice S1x64x128x4x64 ![0, 0, 0, 0, 0] (val_main_v102 (F := F) x0 x1 x2) slices_S1x64x256x4x64_S1x64x128x4x64_0_0_0_0_0

def val_main_v132 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x128x4x64, .f32⟩ : BufTy).Contents (Elt F) :=
  extractStridedSlice S1x64x128x4x64 ![0, 0, 128, 0, 0] (val_main_v102 (F := F) x0 x1 x2) slices_S1x64x256x4x64_S1x64x128x4x64_0_0_128_0_0

def val_main_v133 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x1x128x4x64, .f32⟩ : BufTy).Contents (Elt F) :=
  extractStridedSlice S1x1x128x4x64 ![0, 0, 0, 0, 0] (val_main_v131 (F := F) x0 x1 x2) slices_S1x64x128x4x64_S1x1x128x4x64_0_0_0_0_0

def val_main_v134 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x63x128x4x64, .f32⟩ : BufTy).Contents (Elt F) :=
  extractStridedSlice S1x63x128x4x64 ![0, 1, 0, 0, 0] (val_main_v131 (F := F) x0 x1 x2) slices_S1x64x128x4x64_S1x63x128x4x64_0_1_0_0_0

def val_main_cst_26 : (⟨S_, .f32⟩ : BufTy).Contents (Elt F) :=
  constant S_ .f32 0x00000000#32

def val_main_v135 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x128x4x64, .f32⟩ : BufTy).Contents (Elt F) :=
  pad S1x64x128x4x64 ![0, 0, 0, 0, 0] ![0, 1, 0, 0, 0] ![0, 0, 0, 0, 0] (val_main_v134 (F := F) x0 x1 x2) (val_main_cst_26 (F := F)) pads_S1x63x128x4x64_S1x64x128x4x64_000_010_000_000_000 h_S_

def val_main_v136 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x128x4x64, .f32⟩ : BufTy).Contents (Elt F) :=
  addf (val_main_v132 (F := F) x0 x1 x2) (val_main_v135 (F := F) x0 x1 x2)

def val_main_v137 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x128x4x64, .f32⟩ : BufTy).Contents (Elt F) :=
  extractStridedSlice S1x64x128x4x64 ![0, 0, 0, 0, 0] (val_main_v130 (F := F) x0 x1 x2) slices_S1x64x256x4x64_S1x64x128x4x64_0_0_0_0_0

def val_main_v138 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x128x4x64, .f32⟩ : BufTy).Contents (Elt F) :=
  extractStridedSlice S1x64x128x4x64 ![0, 0, 128, 0, 0] (val_main_v130 (F := F) x0 x1 x2) slices_S1x64x256x4x64_S1x64x128x4x64_0_0_128_0_0

def val_main_v139 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x1x128x4x64, .f32⟩ : BufTy).Contents (Elt F) :=
  extractStridedSlice S1x1x128x4x64 ![0, 0, 0, 0, 0] (val_main_v137 (F := F) x0 x1 x2) slices_S1x64x128x4x64_S1x1x128x4x64_0_0_0_0_0

def val_main_v140 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x63x128x4x64, .f32⟩ : BufTy).Contents (Elt F) :=
  extractStridedSlice S1x63x128x4x64 ![0, 1, 0, 0, 0] (val_main_v137 (F := F) x0 x1 x2) slices_S1x64x128x4x64_S1x63x128x4x64_0_1_0_0_0

def val_main_cst_27 : (⟨S_, .f32⟩ : BufTy).Contents (Elt F) :=
  constant S_ .f32 0x00000000#32

def val_main_v141 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x128x4x64, .f32⟩ : BufTy).Contents (Elt F) :=
  pad S1x64x128x4x64 ![0, 0, 0, 0, 0] ![0, 1, 0, 0, 0] ![0, 0, 0, 0, 0] (val_main_v140 (F := F) x0 x1 x2) (val_main_cst_27 (F := F)) pads_S1x63x128x4x64_S1x64x128x4x64_000_010_000_000_000 h_S_

def val_main_v142 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x64x128x4x64, .f32⟩ : BufTy).Contents (Elt F) :=
  addf (val_main_v138 (F := F) x0 x1 x2) (val_main_v141 (F := F) x0 x1 x2)

def val_main_v143 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x8192x4x64, .f32⟩ : BufTy).Contents (Elt F) :=
  shapeCast _ (val_main_v136 (F := F) x0 x1 x2) shapeCasts_S1x64x128x4x64_S1x8192x4x64

def val_main_v144 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x8192x4x64, .f32⟩ : BufTy).Contents (Elt F) :=
  shapeCast _ (val_main_v142 (F := F) x0 x1 x2) shapeCasts_S1x64x128x4x64_S1x8192x4x64

def val_main_v145 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x8192x16x64, .f32⟩ : BufTy).Contents (Elt F) :=
  shapeCast _ (val_main_v128 (F := F) x0 x1 x2) shapeCasts_S1x64x128x4x4x64_S1x8192x16x64

def val_main_v146 (x0 : (⟨S8192x1536, .bf16⟩ : BufTy).Contents (Elt F)) (x1 : (⟨S1x16, .f32⟩ : BufTy).Contents (Elt F)) (x2 : (⟨S8192x1024, .bf16⟩ : BufTy).Contents (Elt F)) : (⟨S1x16, .f32⟩ : BufTy).Contents (Elt F) :=
  broadcastInDim S1x16 ![1] bcast_S16_S1x16_1 (val_main_v122 (F := F) x0 x1 x2)

def val_main_v147 (x0 : (⟨S8192x1536, .bf16⟩ : BufTy).Contents (Elt F)) (x1 : (⟨S1x16, .f32⟩ : BufTy).Contents (Elt F)) (x2 : (⟨S8192x1024, .bf16⟩ : BufTy).Contents (Elt F)) : (⟨S8192x256, .f32⟩ : BufTy).Contents (Elt F) :=
  shapeCast _ (val_main_v143 (F := F) x0 x1 x2) shapeCasts_S1x8192x4x64_S8192x256

def val_main_v148 (x0 : (⟨S8192x1536, .bf16⟩ : BufTy).Contents (Elt F)) (x1 : (⟨S1x16, .f32⟩ : BufTy).Contents (Elt F)) (x2 : (⟨S8192x1024, .bf16⟩ : BufTy).Contents (Elt F)) : (⟨S8192x256, .f32⟩ : BufTy).Contents (Elt F) :=
  shapeCast _ (val_main_v144 (F := F) x0 x1 x2) shapeCasts_S1x8192x4x64_S8192x256

def val_main_v149 (x0 : (⟨S8192x1536, .bf16⟩ : BufTy).Contents (Elt F)) (x1 : (⟨S1x16, .f32⟩ : BufTy).Contents (Elt F)) (x2 : (⟨S8192x1024, .bf16⟩ : BufTy).Contents (Elt F)) : (⟨S8192x1024, .f32⟩ : BufTy).Contents (Elt F) :=
  shapeCast _ (val_main_v145 (F := F) x0 x1 x2) shapeCasts_S1x8192x16x64_S8192x1024

def val_main_v150 (x0 : (⟨S8192x1536, .bf16⟩ : BufTy).Contents (Elt F)) (x1 : (⟨S1x16, .f32⟩ : BufTy).Contents (Elt F)) (x2 : (⟨S8192x1024, .bf16⟩ : BufTy).Contents (Elt F)) : (⟨S8192x1024, .bf16⟩ : BufTy).Contents (Elt F) :=
  truncf .bf16 (val_main_v149 (F := F) x0 x1 x2) bitsLt_bf16_f32

def val_main_v151 (x0 : (⟨S8192x1536, .bf16⟩ : BufTy).Contents (Elt F)) (x1 : (⟨S1x16, .f32⟩ : BufTy).Contents (Elt F)) (x2 : (⟨S8192x1024, .bf16⟩ : BufTy).Contents (Elt F)) : (⟨S8192x256, .bf16⟩ : BufTy).Contents (Elt F) :=
  truncf .bf16 (val_main_v148 (F := F) x0 x1 x2) bitsLt_bf16_f32

def val_main_v152 (x0 : (⟨S8192x1536, .bf16⟩ : BufTy).Contents (Elt F)) (x1 : (⟨S1x16, .f32⟩ : BufTy).Contents (Elt F)) (x2 : (⟨S8192x1024, .bf16⟩ : BufTy).Contents (Elt F)) : (⟨S8192x256, .bf16⟩ : BufTy).Contents (Elt F) :=
  truncf .bf16 (val_main_v147 (F := F) x0 x1 x2) bitsLt_bf16_f32

end Cert.ReferenceIdeal.Stage

end
-- ==== Proof.RefEq.lean ====
module

public import proofs.«01_k».proof.Proof.Gen.ReferenceIdeal.Run
public import proofs.«01_k».proof.Proof.RefVals

/-! The reference's results, as its run states them, are the last operations' values. -/

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The term that the reference's run states for `main_v150` over any contents `V0` is the stage named here. -/
theorem val_main_v150_eq (V0 : Valuation τ sig (Elt F)) :
    truncf .bf16 (shapeCast _ (shapeCast _ (transpose S1x64x128x4x4x64 [0, 1, 3, 2, 4, 5] (Host.dotGeneral dot_S1x64x4x256x128x4_S1x64x256x4x64_S1x64x4x128x4x64_3_2_45_4_012_013 none (Cert.ReferenceIdeal.Value.res_main_v126 V0) (Cert.ReferenceIdeal.Value.res_main_v16 V0)) transposes_S1x64x4x128x4x64_S1x64x128x4x4x64_0_1_3_2_4_5) shapeCasts_S1x64x128x4x4x64_S1x8192x16x64) shapeCasts_S1x8192x16x64_S8192x1024) bitsLt_bf16_f32
      = val_main_v150 (F := F) (V0 (Proc.devRef .tc main_arg0)) (V0 (Proc.devRef .tc main_arg1)) (V0 (Proc.devRef .tc main_arg2)) := rfl

/-- The term that the reference's run states for `main_v151` over any contents `V0` is the stage named here. -/
theorem val_main_v151_eq (V0 : Valuation τ sig (Elt F)) :
    truncf .bf16 (shapeCast _ (shapeCast _ (addf (extractStridedSlice S1x64x128x4x64 ![0, 0, 128, 0, 0] (Cert.ReferenceIdeal.Value.res_main_v130 V0) slices_S1x64x256x4x64_S1x64x128x4x64_0_0_128_0_0) (pad S1x64x128x4x64 ![0, 0, 0, 0, 0] ![0, 1, 0, 0, 0] ![0, 0, 0, 0, 0] (extractStridedSlice S1x63x128x4x64 ![0, 1, 0, 0, 0] (Cert.ReferenceIdeal.Value.res_main_v137 V0) slices_S1x64x128x4x64_S1x63x128x4x64_0_1_0_0_0) (constant S_ .f32 0x00000000#32) pads_S1x63x128x4x64_S1x64x128x4x64_000_010_000_000_000 h_S_)) shapeCasts_S1x64x128x4x64_S1x8192x4x64) shapeCasts_S1x8192x4x64_S8192x256) bitsLt_bf16_f32
      = val_main_v151 (F := F) (V0 (Proc.devRef .tc main_arg0)) (V0 (Proc.devRef .tc main_arg1)) (V0 (Proc.devRef .tc main_arg2)) := rfl

/-- The term that the reference's run states for `main_v152` over any contents `V0` is the stage named here. -/
theorem val_main_v152_eq (V0 : Valuation τ sig (Elt F)) :
    truncf .bf16 (shapeCast _ (shapeCast _ (addf (extractStridedSlice S1x64x128x4x64 ![0, 0, 128, 0, 0] (Cert.ReferenceIdeal.Value.res_main_v102 V0) slices_S1x64x256x4x64_S1x64x128x4x64_0_0_128_0_0) (pad S1x64x128x4x64 ![0, 0, 0, 0, 0] ![0, 1, 0, 0, 0] ![0, 0, 0, 0, 0] (extractStridedSlice S1x63x128x4x64 ![0, 1, 0, 0, 0] (Cert.ReferenceIdeal.Value.res_main_v131 V0) slices_S1x64x128x4x64_S1x63x128x4x64_0_1_0_0_0) (constant S_ .f32 0x00000000#32) pads_S1x63x128x4x64_S1x64x128x4x64_000_010_000_000_000 h_S_)) shapeCasts_S1x64x128x4x64_S1x8192x4x64) shapeCasts_S1x8192x4x64_S8192x256) bitsLt_bf16_f32
      = val_main_v152 (F := F) (V0 (Proc.devRef .tc main_arg0)) (V0 (Proc.devRef .tc main_arg1)) (V0 (Proc.devRef .tc main_arg2)) := rfl

/-- The term that the reference's run states for `main_v146` over any contents `V0` is the stage named here. -/
theorem val_main_v146_eq (V0 : Valuation τ sig (Elt F)) :
    broadcastInDim S1x16 ![1] bcast_S16_S1x16_1 (shapeCast _ (Host.reduceAdd (broadcastInDim S1x1x4x4x1x1 ![2, 3] bcast_S4x4_S1x1x4x4x1x1_2_3 (Host.reduceAdd (extractStridedSlice S1x64x4x4x128x1 ![0, 0, 0, 0, 0, 256] (Cert.ReferenceIdeal.Value.res_main_v116 V0) slices_S1x64x4x4x128x257_S1x64x4x4x128x1_0_0_0_0_0_256) (constant S_ .f32 0x00000000#32) reducesTo_S1x64x4x4x128x1_S4x4_d0_1_4_5 h_S_)) (constant S_ .f32 0x00000000#32) reducesTo_S1x1x4x4x1x1_S4x4_d0_1_4_5 h_S_) shapeCasts_S4x4_S16)
      = val_main_v146 (F := F) (V0 (Proc.devRef .tc main_arg0)) (V0 (Proc.devRef .tc main_arg1)) (V0 (Proc.devRef .tc main_arg2)) := rfl

end Cert.ReferenceIdeal.Stage

end
-- ==== Proof.Head.lean ====
module
public import proofs.«01_k».proof.Proof.Gen.KernelIdeal.Skeleton

/-! One key/value head of the attention's gradient, as the kernel computes it at one block of 128 query rows: the four query heads
that share the key/value head are stacked to 512 rows. Each definition is one step, over the values the steps before it give. -/

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F] [Named F]

/-- A matrix of one constant. -/
abbrev fill (S : Shape) (b : BitVec 32) : FVec F S .f32 := broadcast S (Scalar.ofBits .f32 b)

/-- The sum along a row, as a column. -/
def rowSum (x : FVec F S512x128 .f32) : FVec F S512x1 .f32 :=
  shapeCast S512x1 (multiReduction .add [1] S512 x 0x00000000#32 reduces_S512x128_S512 (.inl rfl) rfl) shapeCasts_S512_S512x1

/-- A column repeated along the rows. -/
def wide (x : FVec F S512x1 .f32) : FVec F S512x128 .f32 := broadcastTo S512x128 x broadcasts_S512x1_S512x128

/-- The scores: a lane holds the current block's key where `cur` says so and the previous block's otherwise. -/
def scores (cur valid : IVec S512x128 1) (q : FVec F S512x64 .bf16) (kc kp : FVec F S128x64 .bf16) : FVec F S512x128 .f32 :=
  select valid (mulf (select cur (matmul dot_S512x64_S128x64_S512x128_1_1_0_0_n_n none q kc (constant S512x128 .f32 0x00000000#32))
    (matmul dot_S512x64_S128x64_S512x128_1_1_0_0_n_n none q kp (constant S512x128 .f32 0x00000000#32))) (fill S512x128 0x3E000000#32))
    (broadcast S512x128 (Named.named κ "mask" 0xF149F2CA#32))

/-- The largest score of a row. -/
def rowMax (s : FVec F S512x128 .f32) : FVec F S512 .f32 :=
  multiReduction .maximumf [1] S512 s 0xFF800000#32 reduces_S512x128_S512 (.inl rfl) rfl

/-- The same as a column. -/
def colMax (s : FVec F S512x128 .f32) : FVec F S512x1 .f32 := shapeCast S512x1 (rowMax s) shapeCasts_S512_S512x1

/-- Which lanes hold their row's largest score. -/
def isMax (s : FVec F S512x128 .f32) : FVec F S512x128 .f32 := sitofp .f32 (extui 32 (cmpf .oeq s (wide (colMax s))) natLt_1_32)

/-- How many lanes do. -/
def countMax (s : FVec F S512x128 .f32) : FVec F S512 .f32 :=
  multiReduction .add [1] S512 (isMax s) 0x00000000#32 reduces_S512x128_S512 (.inl rfl) rfl

/-- What of the maximum's gradient goes to the scores. -/
def shareScores (s : FVec F S512x128 .f32) (sk : FVec F S512x1 .f32) : FVec F S512x1 .f32 :=
  select (cmpf .ogt (colMax s) sk) (fill S512x1 0x3F800000#32)
    (select (cmpf .oeq (colMax s) sk) (fill S512x1 0x3F000000#32) (fill S512x1 0x00000000#32))

/-- What of the maximum's gradient goes to the sink. -/
def shareSink (s : FVec F S512x128 .f32) (sk : FVec F S512x1 .f32) : FVec F S512x1 .f32 :=
  select (cmpf .ogt sk (colMax s)) (fill S512x1 0x3F800000#32)
    (select (cmpf .oeq sk (colMax s)) (fill S512x1 0x3F000000#32) (fill S512x1 0x00000000#32))

/-- The row's shift: the largest of its scores and the sink. -/
def shift (s : FVec F S512x128 .f32) (sk : FVec F S512x1 .f32) : FVec F S512x1 .f32 := maximumf (colMax s) sk

/-- The exponentials of the shifted scores. -/
def expS (s : FVec F S512x128 .f32) (sk : FVec F S512x1 .f32) : FVec F S512x128 .f32 := exp (subf s (wide (shift s sk)))

/-- The exponential of the shifted sink. -/
def expK (s : FVec F S512x128 .f32) (sk : FVec F S512x1 .f32) : FVec F S512x1 .f32 := exp (subf sk (shift s sk))

/-- The normaliser. -/
def norm (s : FVec F S512x128 .f32) (sk : FVec F S512x1 .f32) : FVec F S512x1 .f32 := addf (rowSum (expS s sk)) (expK s sk)

/-- The probabilities. -/
def prob (s : FVec F S512x128 .f32) (sk : FVec F S512x1 .f32) : FVec F S512x128 .f32 := divf (expS s sk) (wide (norm s sk))

/-- One over the square of the normaliser. -/
def invSq (s : FVec F S512x128 .f32) (sk : FVec F S512x1 .f32) : FVec F S512x1 .f32 :=
  divf (fill S512x1 0x3F800000#32) (mulf (norm s sk) (norm s sk))

/-- The part of a matrix on the current block's lanes. -/
def onCur (cur : IVec S512x128 1) (x : FVec F S512x128 .f32) : FVec F S512x128 .f32 := select cur x (fill S512x128 0x00000000#32)

/-- The part of a matrix on the previous block's lanes. -/
def onPrev (cur : IVec S512x128 1) (x : FVec F S512x128 .f32) : FVec F S512x128 .f32 := select cur (fill S512x128 0x00000000#32) x

/-- The gradient of the probabilities. -/
def dProb (cur : IVec S512x128 1) (g : FVec F S512x64 .f32) (vc vp : FVec F S128x64 .bf16) : FVec F S512x128 .f32 :=
  addf (onPrev cur (matmul dot_S512x64_S128x64_S512x128_1_1_0_0_n_n none (truncf .bf16 g bitsLt_bf16_f32) vp (constant S512x128 .f32 0x00000000#32)))
    (onCur cur (matmul dot_S512x64_S128x64_S512x128_1_1_0_0_n_n none (truncf .bf16 g bitsLt_bf16_f32) vc (constant S512x128 .f32 0x00000000#32)))

/-- The gradient of the normaliser. -/
def dNorm (s : FVec F S512x128 .f32) (sk : FVec F S512x1 .f32) (dp : FVec F S512x128 .f32) : FVec F S512x1 .f32 :=
  subf (fill S512x1 0x00000000#32) (rowSum (mulf (mulf dp (wide (invSq s sk))) (expS s sk)))

/-- The gradient of the sink's score, the maximum's part apart. -/
def dSink0 (s : FVec F S512x128 .f32) (sk : FVec F S512x1 .f32) (dp : FVec F S512x128 .f32) : FVec F S512x1 .f32 :=
  mulf (dNorm s sk dp) (expK s sk)

/-- The gradient of the scores, the maximum's part apart. -/
def dScore0 (s : FVec F S512x128 .f32) (sk : FVec F S512x1 .f32) (dp : FVec F S512x128 .f32) : FVec F S512x128 .f32 :=
  mulf (addf (divf dp (wide (norm s sk))) (wide (shapeCast S512x1
    (multiReduction .add [1] S512 (dNorm s sk dp) 0x00000000#32 reduces_S512x1_S512 (.inl rfl) rfl) shapeCasts_S512_S512x1))) (expS s sk)

/-- The gradient of the row's shift. -/
def dShift (s : FVec F S512x128 .f32) (sk : FVec F S512x1 .f32) (dp : FVec F S512x128 .f32) : FVec F S512x1 .f32 :=
  addf (subf (fill S512x1 0x00000000#32) (dSink0 s sk dp)) (rowSum (subf (fill S512x128 0x00000000#32) (dScore0 s sk dp)))

/-- The gradient of the sink's score. -/
def dSink (s : FVec F S512x128 .f32) (sk : FVec F S512x1 .f32) (dp : FVec F S512x128 .f32) : FVec F S512x1 .f32 :=
  addf (dSink0 s sk dp) (mulf (dShift s sk dp) (shareSink s sk))

/-- The gradient of the scores, before the mask. -/
def dScore (s : FVec F S512x128 .f32) (sk : FVec F S512x1 .f32) (dp : FVec F S512x128 .f32) : FVec F S512x128 .f32 :=
  addf (dScore0 s sk dp) (mulf (wide (shapeCast S512x1 (divf
    (multiReduction .add [1] S512 (mulf (dShift s sk dp) (shareScores s sk)) 0x00000000#32 reduces_S512x1_S512 (.inl rfl) rfl)
    (countMax s)) shapeCasts_S512_S512x1)) (isMax s))

/-- The gradient of the products of queries and keys. -/
def dDot (valid : IVec S512x128 1) (x : FVec F S512x128 .f32) : FVec F S512x128 .f32 :=
  mulf (select valid x (fill S512x128 0x00000000#32)) (fill S512x128 0x3E000000#32)

/-- The queries' gradient. -/
def dQ (cur : IVec S512x128 1) (kc kp : FVec F S128x64 .bf16) (d : FVec F S512x128 .f32) : FVec F S512x64 .bf16 :=
  addf (truncf .bf16 (matmul dot_S512x128_S128x64_S512x64_1_0_0_1_n_n none (truncf .bf16 (onPrev cur d) bitsLt_bf16_f32) kp
      (constant S512x64 .f32 0x00000000#32)) bitsLt_bf16_f32)
    (truncf .bf16 (matmul dot_S512x128_S128x64_S512x64_1_0_0_1_n_n none (truncf .bf16 (onCur cur d) bitsLt_bf16_f32) kc
      (constant S512x64 .f32 0x00000000#32)) bitsLt_bf16_f32)

/-- A product over the 512 stacked rows: the gradient of keys or values from a matrix on one block's lanes. -/
def overRows (x : FVec F S512x128 .f32) (y : FVec F S512x64 .bf16) : FVec F S128x64 .bf16 :=
  truncf .bf16 (matmul dot_S512x128_S512x64_S128x64_0_0_1_1_n_n none (truncf .bf16 x bitsLt_bf16_f32) y
    (constant S128x64 .f32 0x00000000#32)) bitsLt_bf16_f32

/-- Four matrices stacked to 512 rows, as a sum of padded ones. -/
def stack (g0 g1 g2 g3 : FVec F S128x64 .f32) : FVec F S512x64 .f32 := k0_pay162 g0 g1 g2 g3

/-- The valid lanes at a grid point: all, but the previous block's at the first block. -/
def validAt (i : grid0.Coords) : IVec S512x128 1 := k0_pay3 i

end Cert.KernelIdeal.Attn
end
-- ==== Proof.Heads.lean ====
module
public import proofs.«01_k».proof.Proof.Head

/-! What one grid point of the kernel leaves, by the key/value head: the slices each head reads, the head's gradients, and how the heads'
gradients are put side by side. -/

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F] [Named F]

/-- The rows of one of the four stacked query heads. -/
def part (g : Fin 4) (x : FVec F S512x64 .bf16) : FVec F S128x64 .bf16 :=
  match g with
  | 0 => extractStridedSlice S128x64 ![0, 0] x slices_S512x64_o0_0_S128x64
  | 1 => extractStridedSlice S128x64 ![128, 0] x slices_S512x64_o128_0_S128x64
  | 2 => extractStridedSlice S128x64 ![256, 0] x slices_S512x64_o256_0_S128x64
  | 3 => extractStridedSlice S128x64 ![384, 0] x slices_S512x64_o384_0_S128x64

/-- The sum of a column over the rows of one of the four stacked query heads. -/
def total (g : Fin 4) (x : FVec F S512x1 .f32) : FVec F S1x1 .f32 :=
  broadcast S1x1 (extractAt ![0, 0, 0] (shapeCast S1x1x1 (multiReduction .add [1, 2] S1 (shapeCast S1x128x1 (match g with
    | 0 => extractStridedSlice S128x1 ![0, 0] x slices_S512x1_o0_0_S128x1
    | 1 => extractStridedSlice S128x1 ![128, 0] x slices_S512x1_o128_0_S128x1
    | 2 => extractStridedSlice S128x1 ![256, 0] x slices_S512x1_o256_0_S128x1
    | 3 => extractStridedSlice S128x1 ![384, 0] x slices_S512x1_o384_0_S128x1) shapeCasts_S128x1_S1x128x1)
    0x00000000#32 reduces_S1x128x1_S1 (.inl rfl) rfl) shapeCasts_S1_S1x1x1) inpos_S1x1x1_p0_0_0)

/-- The four heads' query gradients side by side. -/
def joinQ (x : Fin 4 → FVec F S512x64 .bf16) : FVec F S128x1024 .bf16 :=
  addf (addf (addf (addf (addf (addf (addf (addf (addf (addf (addf (addf (addf (addf (addf ((concatenate S128x1024 1 [⟨S128x960, broadcast S128x960 (Scalar.ofBits .bf16 0x0000#16)⟩, ⟨S128x64, part 3 (x 3)⟩] concatenates_S128x960_S128x64_S128x1024_d1))
    (concatenate S128x1024 1 [⟨S128x960, concatenate S128x960 1 [⟨S128x896, broadcast S128x896 (Scalar.ofBits .bf16 0x0000#16)⟩, ⟨S128x64, part 2 (x 3)⟩] concatenates_S128x896_S128x64_S128x960_d1⟩, ⟨S128x64, broadcast S128x64 (Scalar.ofBits .bf16 0x0000#16)⟩] concatenates_S128x960_S128x64_S128x1024_d1))
    (concatenate S128x1024 1 [⟨S128x896, concatenate S128x896 1 [⟨S128x832, broadcast S128x832 (Scalar.ofBits .bf16 0x0000#16)⟩, ⟨S128x64, part 1 (x 3)⟩] concatenates_S128x832_S128x64_S128x896_d1⟩, ⟨S128x128, broadcast S128x128 (Scalar.ofBits .bf16 0x0000#16)⟩] concatenates_S128x896_S128x128_S128x1024_d1))
    (concatenate S128x1024 1 [⟨S128x832, concatenate S128x832 1 [⟨S128x768, broadcast S128x768 (Scalar.ofBits .bf16 0x0000#16)⟩, ⟨S128x64, part 0 (x 3)⟩] concatenates_S128x768_S128x64_S128x832_d1⟩, ⟨S128x192, broadcast S128x192 (Scalar.ofBits .bf16 0x0000#16)⟩] concatenates_S128x832_S128x192_S128x1024_d1))
    (concatenate S128x1024 1 [⟨S128x768, concatenate S128x768 1 [⟨S128x704, broadcast S128x704 (Scalar.ofBits .bf16 0x0000#16)⟩, ⟨S128x64, part 3 (x 2)⟩] concatenates_S128x704_S128x64_S128x768_d1⟩, ⟨S128x256, broadcast S128x256 (Scalar.ofBits .bf16 0x0000#16)⟩] concatenates_S128x768_S128x256_S128x1024_d1))
    (concatenate S128x1024 1 [⟨S128x704, concatenate S128x704 1 [⟨S128x640, broadcast S128x640 (Scalar.ofBits .bf16 0x0000#16)⟩, ⟨S128x64, part 2 (x 2)⟩] concatenates_S128x640_S128x64_S128x704_d1⟩, ⟨S128x320, broadcast S128x320 (Scalar.ofBits .bf16 0x0000#16)⟩] concatenates_S128x704_S128x320_S128x1024_d1))
    (concatenate S128x1024 1 [⟨S128x640, concatenate S128x640 1 [⟨S128x576, broadcast S128x576 (Scalar.ofBits .bf16 0x0000#16)⟩, ⟨S128x64, part 1 (x 2)⟩] concatenates_S128x576_S128x64_S128x640_d1⟩, ⟨S128x384, broadcast S128x384 (Scalar.ofBits .bf16 0x0000#16)⟩] concatenates_S128x640_S128x384_S128x1024_d1))
    (concatenate S128x1024 1 [⟨S128x576, concatenate S128x576 1 [⟨S128x512, broadcast S128x512 (Scalar.ofBits .bf16 0x0000#16)⟩, ⟨S128x64, part 0 (x 2)⟩] concatenates_S128x512_S128x64_S128x576_d1⟩, ⟨S128x448, broadcast S128x448 (Scalar.ofBits .bf16 0x0000#16)⟩] concatenates_S128x576_S128x448_S128x1024_d1))
    (concatenate S128x1024 1 [⟨S128x512, concatenate S128x512 1 [⟨S128x448, broadcast S128x448 (Scalar.ofBits .bf16 0x0000#16)⟩, ⟨S128x64, part 3 (x 1)⟩] concatenates_S128x448_S128x64_S128x512_d1⟩, ⟨S128x512, broadcast S128x512 (Scalar.ofBits .bf16 0x0000#16)⟩] concatenates_S128x512_S128x512_S128x1024_d1))
    (concatenate S128x1024 1 [⟨S128x448, concatenate S128x448 1 [⟨S128x384, broadcast S128x384 (Scalar.ofBits .bf16 0x0000#16)⟩, ⟨S128x64, part 2 (x 1)⟩] concatenates_S128x384_S128x64_S128x448_d1⟩, ⟨S128x576, broadcast S128x576 (Scalar.ofBits .bf16 0x0000#16)⟩] concatenates_S128x448_S128x576_S128x1024_d1))
    (concatenate S128x1024 1 [⟨S128x384, concatenate S128x384 1 [⟨S128x320, broadcast S128x320 (Scalar.ofBits .bf16 0x0000#16)⟩, ⟨S128x64, part 1 (x 1)⟩] concatenates_S128x320_S128x64_S128x384_d1⟩, ⟨S128x640, broadcast S128x640 (Scalar.ofBits .bf16 0x0000#16)⟩] concatenates_S128x384_S128x640_S128x1024_d1))
    (concatenate S128x1024 1 [⟨S128x320, concatenate S128x320 1 [⟨S128x256, broadcast S128x256 (Scalar.ofBits .bf16 0x0000#16)⟩, ⟨S128x64, part 0 (x 1)⟩] concatenates_S128x256_S128x64_S128x320_d1⟩, ⟨S128x704, broadcast S128x704 (Scalar.ofBits .bf16 0x0000#16)⟩] concatenates_S128x320_S128x704_S128x1024_d1))
    (concatenate S128x1024 1 [⟨S128x256, concatenate S128x256 1 [⟨S128x192, broadcast S128x192 (Scalar.ofBits .bf16 0x0000#16)⟩, ⟨S128x64, part 3 (x 0)⟩] concatenates_S128x192_S128x64_S128x256_d1⟩, ⟨S128x768, broadcast S128x768 (Scalar.ofBits .bf16 0x0000#16)⟩] concatenates_S128x256_S128x768_S128x1024_d1))
    (concatenate S128x1024 1 [⟨S128x192, concatenate S128x192 1 [⟨S128x128, broadcast S128x128 (Scalar.ofBits .bf16 0x0000#16)⟩, ⟨S128x64, part 2 (x 0)⟩] concatenates_S128x128_S128x64_S128x192_d1⟩, ⟨S128x832, broadcast S128x832 (Scalar.ofBits .bf16 0x0000#16)⟩] concatenates_S128x192_S128x832_S128x1024_d1))
    (concatenate S128x1024 1 [⟨S128x128, concatenate S128x128 1 [⟨S128x64, broadcast S128x64 (Scalar.ofBits .bf16 0x0000#16)⟩, ⟨S128x64, part 1 (x 0)⟩] concatenates_S128x64_S128x64_S128x128_d1⟩, ⟨S128x896, broadcast S128x896 (Scalar.ofBits .bf16 0x0000#16)⟩] concatenates_S128x128_S128x896_S128x1024_d1))
    (concatenate S128x1024 1 [⟨S128x64, part 0 (x 0)⟩, ⟨S128x960, broadcast S128x960 (Scalar.ofBits .bf16 0x0000#16)⟩] concatenates_S128x64_S128x960_S128x1024_d1)

/-- Four heads' key or value gradients side by side. -/
def joinK (x : Fin 4 → FVec F S128x64 .bf16) : FVec F S128x256 .bf16 :=
  addf (addf (addf ((concatenate S128x256 1 [⟨S128x192, broadcast S128x192 (Scalar.ofBits .bf16 0x0000#16)⟩, ⟨S128x64, x 3⟩] concatenates_S128x192_S128x64_S128x256_d1))
    (concatenate S128x256 1 [⟨S128x192, concatenate S128x192 1 [⟨S128x128, broadcast S128x128 (Scalar.ofBits .bf16 0x0000#16)⟩, ⟨S128x64, x 2⟩] concatenates_S128x128_S128x64_S128x192_d1⟩, ⟨S128x64, broadcast S128x64 (Scalar.ofBits .bf16 0x0000#16)⟩] concatenates_S128x192_S128x64_S128x256_d1))
    (concatenate S128x256 1 [⟨S128x128, concatenate S128x128 1 [⟨S128x64, broadcast S128x64 (Scalar.ofBits .bf16 0x0000#16)⟩, ⟨S128x64, x 1⟩] concatenates_S128x64_S128x64_S128x128_d1⟩, ⟨S128x128, broadcast S128x128 (Scalar.ofBits .bf16 0x0000#16)⟩] concatenates_S128x128_S128x128_S128x256_d1))
    (concatenate S128x256 1 [⟨S128x64, x 0⟩, ⟨S128x192, broadcast S128x192 (Scalar.ofBits .bf16 0x0000#16)⟩] concatenates_S128x64_S128x192_S128x256_d1)

/-- The sixteen sinks' gradients side by side. -/
def joinS (x : Fin 4 → FVec F S512x1 .f32) : FVec F S1x16 .f32 :=
  addf (addf (addf (addf (addf (addf (addf (addf (addf (addf (addf (addf (addf (addf (addf ((concatenate S1x16 1 [⟨S1x15, broadcast S1x15 (Scalar.ofBits .f32 0x00000000#32)⟩, ⟨S1x1, total 3 (x 3)⟩] concatenates_S1x15_S1x1_S1x16_d1))
    (concatenate S1x16 1 [⟨S1x15, concatenate S1x15 1 [⟨S1x14, broadcast S1x14 (Scalar.ofBits .f32 0x00000000#32)⟩, ⟨S1x1, total 2 (x 3)⟩] concatenates_S1x14_S1x1_S1x15_d1⟩, ⟨S1x1, broadcast S1x1 (Scalar.ofBits .f32 0x00000000#32)⟩] concatenates_S1x15_S1x1_S1x16_d1))
    (concatenate S1x16 1 [⟨S1x14, concatenate S1x14 1 [⟨S1x13, broadcast S1x13 (Scalar.ofBits .f32 0x00000000#32)⟩, ⟨S1x1, total 1 (x 3)⟩] concatenates_S1x13_S1x1_S1x14_d1⟩, ⟨S1x2, broadcast S1x2 (Scalar.ofBits .f32 0x00000000#32)⟩] concatenates_S1x14_S1x2_S1x16_d1))
    (concatenate S1x16 1 [⟨S1x13, concatenate S1x13 1 [⟨S1x12, broadcast S1x12 (Scalar.ofBits .f32 0x00000000#32)⟩, ⟨S1x1, total 0 (x 3)⟩] concatenates_S1x12_S1x1_S1x13_d1⟩, ⟨S1x3, broadcast S1x3 (Scalar.ofBits .f32 0x00000000#32)⟩] concatenates_S1x13_S1x3_S1x16_d1))
    (concatenate S1x16 1 [⟨S1x12, concatenate S1x12 1 [⟨S1x11, broadcast S1x11 (Scalar.ofBits .f32 0x00000000#32)⟩, ⟨S1x1, total 3 (x 2)⟩] concatenates_S1x11_S1x1_S1x12_d1⟩, ⟨S1x4, broadcast S1x4 (Scalar.ofBits .f32 0x00000000#32)⟩] concatenates_S1x12_S1x4_S1x16_d1))
    (concatenate S1x16 1 [⟨S1x11, concatenate S1x11 1 [⟨S1x10, broadcast S1x10 (Scalar.ofBits .f32 0x00000000#32)⟩, ⟨S1x1, total 2 (x 2)⟩] concatenates_S1x10_S1x1_S1x11_d1⟩, ⟨S1x5, broadcast S1x5 (Scalar.ofBits .f32 0x00000000#32)⟩] concatenates_S1x11_S1x5_S1x16_d1))
    (concatenate S1x16 1 [⟨S1x10, concatenate S1x10 1 [⟨S1x9, broadcast S1x9 (Scalar.ofBits .f32 0x00000000#32)⟩, ⟨S1x1, total 1 (x 2)⟩] concatenates_S1x9_S1x1_S1x10_d1⟩, ⟨S1x6, broadcast S1x6 (Scalar.ofBits .f32 0x00000000#32)⟩] concatenates_S1x10_S1x6_S1x16_d1))
    (concatenate S1x16 1 [⟨S1x9, concatenate S1x9 1 [⟨S1x8, broadcast S1x8 (Scalar.ofBits .f32 0x00000000#32)⟩, ⟨S1x1, total 0 (x 2)⟩] concatenates_S1x8_S1x1_S1x9_d1⟩, ⟨S1x7, broadcast S1x7 (Scalar.ofBits .f32 0x00000000#32)⟩] concatenates_S1x9_S1x7_S1x16_d1))
    (concatenate S1x16 1 [⟨S1x8, concatenate S1x8 1 [⟨S1x7, broadcast S1x7 (Scalar.ofBits .f32 0x00000000#32)⟩, ⟨S1x1, total 3 (x 1)⟩] concatenates_S1x7_S1x1_S1x8_d1⟩, ⟨S1x8, broadcast S1x8 (Scalar.ofBits .f32 0x00000000#32)⟩] concatenates_S1x8_S1x8_S1x16_d1))
    (concatenate S1x16 1 [⟨S1x7, concatenate S1x7 1 [⟨S1x6, broadcast S1x6 (Scalar.ofBits .f32 0x00000000#32)⟩, ⟨S1x1, total 2 (x 1)⟩] concatenates_S1x6_S1x1_S1x7_d1⟩, ⟨S1x9, broadcast S1x9 (Scalar.ofBits .f32 0x00000000#32)⟩] concatenates_S1x7_S1x9_S1x16_d1))
    (concatenate S1x16 1 [⟨S1x6, concatenate S1x6 1 [⟨S1x5, broadcast S1x5 (Scalar.ofBits .f32 0x00000000#32)⟩, ⟨S1x1, total 1 (x 1)⟩] concatenates_S1x5_S1x1_S1x6_d1⟩, ⟨S1x10, broadcast S1x10 (Scalar.ofBits .f32 0x00000000#32)⟩] concatenates_S1x6_S1x10_S1x16_d1))
    (concatenate S1x16 1 [⟨S1x5, concatenate S1x5 1 [⟨S1x4, broadcast S1x4 (Scalar.ofBits .f32 0x00000000#32)⟩, ⟨S1x1, total 0 (x 1)⟩] concatenates_S1x4_S1x1_S1x5_d1⟩, ⟨S1x11, broadcast S1x11 (Scalar.ofBits .f32 0x00000000#32)⟩] concatenates_S1x5_S1x11_S1x16_d1))
    (concatenate S1x16 1 [⟨S1x4, concatenate S1x4 1 [⟨S1x3, broadcast S1x3 (Scalar.ofBits .f32 0x00000000#32)⟩, ⟨S1x1, total 3 (x 0)⟩] concatenates_S1x3_S1x1_S1x4_d1⟩, ⟨S1x12, broadcast S1x12 (Scalar.ofBits .f32 0x00000000#32)⟩] concatenates_S1x4_S1x12_S1x16_d1))
    (concatenate S1x16 1 [⟨S1x3, concatenate S1x3 1 [⟨S1x2, broadcast S1x2 (Scalar.ofBits .f32 0x00000000#32)⟩, ⟨S1x1, total 2 (x 0)⟩] concatenates_S1x2_S1x1_S1x3_d1⟩, ⟨S1x13, broadcast S1x13 (Scalar.ofBits .f32 0x00000000#32)⟩] concatenates_S1x3_S1x13_S1x16_d1))
    (concatenate S1x16 1 [⟨S1x2, concatenate S1x2 1 [⟨S1x1, broadcast S1x1 (Scalar.ofBits .f32 0x00000000#32)⟩, ⟨S1x1, total 1 (x 0)⟩] concatenates_S1x1_S1x1_S1x2_d1⟩, ⟨S1x14, broadcast S1x14 (Scalar.ofBits .f32 0x00000000#32)⟩] concatenates_S1x2_S1x14_S1x16_d1))
    (concatenate S1x16 1 [⟨S1x1, total 0 (x 0)⟩, ⟨S1x15, broadcast S1x15 (Scalar.ofBits .f32 0x00000000#32)⟩] concatenates_S1x1_S1x15_S1x16_d1)

/-- A key/value head's columns. -/
def keyHead (k : Fin 4) (x : FVec F S128x256 .bf16) : FVec F S128x64 .bf16 :=
  match k with
  | 0 => k0_pay5 x
  | 1 => k0_pay30 x
  | 2 => k0_pay54 x
  | 3 => k0_pay76 x

/-- A key/value head's four query heads, stacked. -/
def queryHead (k : Fin 4) (x : FVec F S128x1024 .bf16) : FVec F S512x64 .bf16 :=
  match k with
  | 0 => k0_pay4 x
  | 1 => k0_pay29 x (k0_pay28 x)
  | 2 => k0_pay53 x
  | 3 => k0_pay75 x

/-- The sinks of its query heads, each repeated along its rows. -/
def sinkHead (k : Fin 4) (x : FVec F S1x16 .f32) : FVec F S512x1 .f32 :=
  match k with
  | 0 => k0_pay11 x (k0_pay8 x) (k0_pay9 x) (k0_pay10 x)
  | 1 => k0_pay33 x
  | 2 => k0_pay57 x
  | 3 => k0_pay81 x

/-- The gradients its query heads' outputs have. -/
def gradHead (k : Fin 4) (x : FVec F S128x1024 .bf16) : FVec F S512x64 .f32 :=
  match k with
  | 0 => stack (k0_pay97 x) (k0_pay98 x) (k0_pay99 x) (k0_pay100 x)
  | 1 => stack (k0_pay101 x) (k0_pay102 x) (k0_pay103 x) (k0_pay104 x)
  | 2 => stack (k0_pay105 x) (k0_pay106 x) (k0_pay107 x) (k0_pay108 x)
  | 3 => k0_pay109 x

section
variable (valid : IVec S512x128 1) (q : FVec F S128x1024 .bf16) (kc kp vc vp : FVec F S128x256 .bf16)
  (sk : FVec F S1x16 .f32) (g : FVec F S128x1024 .bf16) (k : Fin 4)

/-- The head's scores. -/
def headS : FVec F S512x128 .f32 := scores k0_pay2 valid (queryHead k q) (keyHead k kc) (keyHead k kp)

/-- The head's gradient of the probabilities. -/
def headP : FVec F S512x128 .f32 := dProb k0_pay2 (gradHead k g) (keyHead k vc) (keyHead k vp)

/-- The head's gradient of the products of queries and keys. -/
def headD : FVec F S512x128 .f32 := dDot valid (dScore (headS valid q kc kp k) (sinkHead k sk) (headP vc vp g k))

/-- The head's query gradient. -/
def headQ : FVec F S512x64 .bf16 := dQ k0_pay2 (keyHead k kc) (keyHead k kp) (headD valid q kc kp vc vp sk g k)

/-- The head's gradient of the current block's keys. -/
def headKC : FVec F S128x64 .bf16 := overRows (onCur k0_pay2 (headD valid q kc kp vc vp sk g k)) (queryHead k q)

/-- The head's gradient of the previous block's keys. -/
def headKP : FVec F S128x64 .bf16 := overRows (onPrev k0_pay2 (headD valid q kc kp vc vp sk g k)) (queryHead k q)

/-- The head's gradient of the current block's values. -/
def headVC : FVec F S128x64 .bf16 :=
  overRows (onCur k0_pay2 (prob (headS valid q kc kp k) (sinkHead k sk))) (truncf .bf16 (gradHead k g) bitsLt_bf16_f32)

/-- The head's gradient of the previous block's values. -/
def headVP : FVec F S128x64 .bf16 :=
  overRows (onPrev k0_pay2 (prob (headS valid q kc kp k) (sinkHead k sk))) (truncf .bf16 (gradHead k g) bitsLt_bf16_f32)

/-- The head's gradients of the sinks, by the row. -/
def headSink : FVec F S512x1 .f32 := dSink (headS valid q kc kp k) (sinkHead k sk) (headP vc vp g k)

end

end Cert.KernelIdeal.Attn
end
-- ==== Proof.Outs.lean ====
module
public import proofs.«01_k».proof.Proof.Value
public import proofs.«01_k».proof.Proof.Heads
import Idealize.ShloMosaic.Lib.Pipeline.ValueKit.Acc

/-! The blocks the kernel leaves at a grid point, as functions of the blocks it reads there. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (c : Dev nD) (t : Fin cfg0.N)

/-- A head's values at a grid point: a function of the blocks a head's gradient takes, at the point's blocks. -/
abbrev atPoint {α : Type} (f : IVec S512x128 1 → FVec F S128x1024 .bf16 → FVec F S128x256 .bf16 → FVec F S128x256 .bf16 →
    FVec F S128x256 .bf16 → FVec F S128x256 .bf16 → FVec F S1x16 .f32 → FVec F S128x1024 .bf16 → Fin 4 → α) : Fin 4 → α :=
  f (k0_pay3 (grid0.coords t)) (X0_0 m c t) (iblk m c 1 t) (iblk m c 2 t) (iblk m c 3 t) (iblk m c 4 t) (iblk m c 5 t) (iblk m c 6 t)

/-- The queries' gradient at the first point. -/
theorem outQ_A (h0 : t.val % 64 = 0) (h2 : ¬1 ≤ t.val) : (outsAt0 m c t.val t.isLt).1 = joinQ (atPoint m c t headQ) := by
  rw [outsAt0_A m c t h0 h0 h2]
  dsimp only
  frame_out
  rfl

/-- The keys' gradient at the first point. -/
theorem outK_A (h0 : t.val % 64 = 0) (h2 : ¬1 ≤ t.val) : (outsAt0 m c t.val t.isLt).2.1 = k0_pay219 (joinK (atPoint m c t headKC)) k0_pay217 := by
  rw [outsAt0_A m c t h0 h0 h2]
  dsimp only
  frame_out
  rfl

/-- The values' gradient at the first point. -/
theorem outV_A (h0 : t.val % 64 = 0) (h2 : ¬1 ≤ t.val) : (outsAt0 m c t.val t.isLt).2.2.1 = k0_pay221 (joinK (atPoint m c t fun v q kc kp _ _ sk g k => headVC v q kc kp sk g k)) k0_pay218 := by
  rw [outsAt0_A m c t h0 h0 h2]
  dsimp only
  frame_out
  rfl

/-- The sinks' gradient after the first point. -/
theorem outS_A (h0 : t.val % 64 = 0) (h2 : ¬1 ≤ t.val) : (outsAt0 m c t.val t.isLt).2.2.2.1 = joinS (atPoint m c t headSink) := by
  rw [outsAt0_A m c t h0 h0 h2]
  dsimp only
  frame_out
  rfl

/-- What the first point leaves for the previous block's keys. -/
theorem carryK_A (h0 : t.val % 64 = 0) (h2 : ¬1 ≤ t.val) : (outsAt0 m c t.val t.isLt).2.2.2.2.1 = k0_pay220 (joinK (atPoint m c t headKP)) := by
  rw [outsAt0_A m c t h0 h0 h2]
  dsimp only
  frame_out
  rfl

/-- What the first point leaves for the previous block's values. -/
theorem carryV_A (h0 : t.val % 64 = 0) (h2 : ¬1 ≤ t.val) : (outsAt0 m c t.val t.isLt).2.2.2.2.2 = k0_pay222 (joinK (atPoint m c t fun v q kc kp _ _ sk g k => headVP v q kc kp sk g k)) := by
  rw [outsAt0_A m c t h0 h0 h2]
  dsimp only
  frame_out
  rfl

/-- The queries' gradient at a later point. -/
theorem outQ_B (h0 : ¬t.val % 64 = 0) (h2 : 1 ≤ t.val) : (outsAt0 m c t.val t.isLt).1 =
    joinQ (atPoint m c t headQ) := by
  rw [outsAt0_B m c t h0 h0 h2]
  dsimp only
  frame_out
  rfl

/-- The keys' gradient at a later point: the point before left the next block's part. -/
theorem outK_B (h0 : ¬t.val % 64 = 0) (h2 : 1 ≤ t.val) : (outsAt0 m c t.val t.isLt).2.1 =
    k0_pay219 (joinK (atPoint m c t headKC)) (outsAt0 m c (t.val - 1) (lt_of_le_of_lt (Nat.sub_le _ _) t.isLt)).2.2.2.2.1 := by
  rw [outsAt0_B m c t h0 h0 h2]
  dsimp only
  frame_out
  exact congrArg₂ k0_pay219 rfl (Memref.IsWhole.read_unread (Memref.isWhole_whole _) _)

/-- The values' gradient at a later point. -/
theorem outV_B (h0 : ¬t.val % 64 = 0) (h2 : 1 ≤ t.val) : (outsAt0 m c t.val t.isLt).2.2.1 =
    k0_pay221 (joinK (atPoint m c t fun v q kc kp _ _ sk g k => headVC v q kc kp sk g k)) (outsAt0 m c (t.val - 1) (lt_of_le_of_lt (Nat.sub_le _ _) t.isLt)).2.2.2.2.2 := by
  rw [outsAt0_B m c t h0 h0 h2]
  dsimp only
  frame_out
  exact congrArg₂ k0_pay221 rfl (Memref.IsWhole.read_unread (Memref.isWhole_whole _) _)

/-- The sinks' gradient after a later point. -/
theorem outS_B (h0 : ¬t.val % 64 = 0) (h2 : 1 ≤ t.val) : (outsAt0 m c t.val t.isLt).2.2.2.1 =
    k0_pay1 (joinS (atPoint m c t headSink)) (outsAt0 m c (t.val - 1) (lt_of_le_of_lt (Nat.sub_le _ _) t.isLt)).2.2.2.1 := by
  rw [outsAt0_B m c t h0 h0 h2]
  dsimp only
  frame_out
  rfl

/-- What a later point leaves for the previous block's keys. -/
theorem carryK_B (h0 : ¬t.val % 64 = 0) (h2 : 1 ≤ t.val) : (outsAt0 m c t.val t.isLt).2.2.2.2.1 =
    k0_pay220 (joinK (atPoint m c t headKP)) := by
  rw [outsAt0_B m c t h0 h0 h2]
  dsimp only
  frame_out
  rfl

/-- What a later point leaves for the previous block's values. -/
theorem carryV_B (h0 : ¬t.val % 64 = 0) (h2 : 1 ≤ t.val) : (outsAt0 m c t.val t.isLt).2.2.2.2.2 =
    k0_pay222 (joinK (atPoint m c t fun v q kc kp _ _ sk g k => headVP v q kc kp sk g k)) := by
  rw [outsAt0_B m c t h0 h0 h2]
  dsimp only
  frame_out
  rfl

end Cert.KernelIdeal.Attn
end
-- ==== Proof.Row.lean ====
module
public import Idealize.ShloMosaic.PureOps.Ideal
import Idealize.ShloMosaic.Lib.IdealHost

/-! One row of a softmax over masked scores and a sink, and its gradient, in real numbers: the extended reals the programs compute are
these. -/

@[expose] public section

noncomputable section

namespace Cert.SoftmaxRow

open Idealize.ShloMosaic

/-- A sum of reals, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals. -/
theorem div_real {y : ℝ} (h : y ≠ 0) (x : ℝ) : Ideal.div (x : EReal) (y : EReal) = ((x / y : ℝ) : EReal) := by
  rw [Ideal.div_coe h, ← EReal.coe_mul, mul_one_div]

/-- Zero over anything but zero. -/
theorem div_zero_left {y : EReal} (h : y ≠ 0) : Ideal.div 0 y = 0 := by
  unfold Ideal.div
  rw [if_neg h, zero_mul]

variable {ι : Type} [Fintype ι] (act : ι → Prop) [DecidablePred act] (x g : ι → ℝ) (y : ℝ)

/-- A masked score. -/
def score (j : ι) : EReal := if act j then (x j : EReal) else ⊥

/-- Its exponential. -/
def ex (j : ι) : ℝ := if act j then Real.exp (x j) else 0

/-- The normaliser. -/
def nrm : ℝ := ∑ j, ex act x j + Real.exp y

/-- The probability. -/
def pr (j : ι) : ℝ := ex act x j / nrm act x y

/-- The probabilities' gradient, weighted by them. -/
def wt : ℝ := ∑ j, pr act x y j * g j

/-- The score's gradient. -/
def ds (j : ι) : ℝ := pr act x y j * (g j - wt act x g y)

/-- The sink's gradient. -/
def dk : ℝ := -(Real.exp y / nrm act x y * wt act x g y)

theorem ex_nonneg (j : ι) : 0 ≤ ex act x j := by
  unfold ex
  split
  · exact (Real.exp_pos _).le
  · exact le_rfl

theorem nrm_pos : 0 < nrm act x y :=
  add_pos_of_nonneg_of_pos (Finset.sum_nonneg fun j _ => ex_nonneg act x j) (Real.exp_pos y)

theorem scaled_ne (m : ℝ) : nrm act x y * Real.exp (-m) ≠ 0 := mul_ne_zero (nrm_pos act x y).ne' (Real.exp_pos _).ne'

/-- The largest of the scores is one of them. -/
theorem max_attained [Nonempty ι] (s : ι → EReal) : ∃ j, s j = Finset.univ.fold max ⊥ s := by
  obtain ⟨j, -, h⟩ := Finset.exists_mem_eq_sup' (Finset.univ_nonempty (α := ι)) s
  refine ⟨j, h.symm.trans ?_⟩
  rw [Finset.sup'_eq_sup]
  rfl

/-- The row's shift is a real number. -/
theorem shift_real : ∃ m : ℝ, max (Finset.univ.fold max ⊥ (score act x)) (y : EReal) = (m : EReal) := by
  have top : ∀ j, score act x j < ⊤ := fun j => by
    unfold score
    split
    · exact EReal.coe_lt_top _
    · exact bot_lt_top
  have hf : Finset.univ.fold max ⊥ (score act x) < ⊤ := by
    change Finset.univ.sup (score act x) < ⊤
    rw [Finset.sup_lt_iff bot_lt_top]
    exact fun j _ => top j
  refine ⟨(max (Finset.univ.fold max ⊥ (score act x)) (y : EReal)).toReal, (EReal.coe_toReal ?_ ?_).symm⟩
  · exact (max_lt hf (EReal.coe_lt_top y)).ne
  · exact (lt_of_lt_of_le (EReal.bot_lt_coe y) (le_max_right _ _)).ne'

variable (m : ℝ)

theorem exp_score (j : ι) : Ideal.exp (score act x j - (m : EReal)) = ((ex act x j * Real.exp (-m) : ℝ) : EReal) := by
  unfold score ex
  split
  · rw [← EReal.coe_sub, Ideal.exp_coe, sub_eq_add_neg, Real.exp_add]
  · rw [EReal.bot_sub, Ideal.exp_bot, zero_mul, EReal.coe_zero]

theorem exp_sink : Ideal.exp ((y : EReal) - (m : EReal)) = ((Real.exp y * Real.exp (-m) : ℝ) : EReal) := by
  rw [← EReal.coe_sub, Ideal.exp_coe, sub_eq_add_neg, Real.exp_add]

theorem norm_eq : ∑ j, ((ex act x j * Real.exp (-m) : ℝ) : EReal) + ((Real.exp y * Real.exp (-m) : ℝ) : EReal) =
    ((nrm act x y * Real.exp (-m) : ℝ) : EReal) := by
  rw [← coe_sum, ← EReal.coe_add, ← Finset.sum_mul, ← add_mul, nrm]

theorem prob_eq (j : ι) : Ideal.div ((ex act x j * Real.exp (-m) : ℝ) : EReal) ((nrm act x y * Real.exp (-m) : ℝ) : EReal) =
    ((pr act x y j : ℝ) : EReal) := by
  rw [div_real (scaled_ne act x y m), pr, mul_div_mul_right _ _ (Real.exp_pos _).ne']

theorem sum_scaled : ∑ j, g j * (1 / (nrm act x y * Real.exp (-m) * (nrm act x y * Real.exp (-m)))) * (ex act x j * Real.exp (-m)) =
    wt act x g y / (nrm act x y * Real.exp (-m)) := by
  have h := (nrm_pos act x y).ne'
  have he := (Real.exp_pos (-m)).ne'
  rw [wt, Finset.sum_div]
  refine Finset.sum_congr rfl fun j _ => ?_
  rw [pr]
  field_simp

/-- The normaliser's gradient. -/
theorem dNorm_eq : (0 : EReal) - ∑ j, (g j : EReal) * Ideal.div 1 (((nrm act x y * Real.exp (-m) : ℝ) : EReal) * ((nrm act x y * Real.exp (-m) : ℝ) : EReal)) *
    ((ex act x j * Real.exp (-m) : ℝ) : EReal) = ((-(wt act x g y / (nrm act x y * Real.exp (-m))) : ℝ) : EReal) := by
  have h := scaled_ne act x y m
  rw [← EReal.coe_mul, ← EReal.coe_one, div_real (mul_ne_zero h h)]
  simp only [← EReal.coe_mul]
  rw [← coe_sum, sum_scaled, ← EReal.coe_zero, ← EReal.coe_sub, zero_sub]

/-- The sink's gradient. -/
theorem dSink_eq : ((-(wt act x g y / (nrm act x y * Real.exp (-m))) : ℝ) : EReal) * ((Real.exp y * Real.exp (-m) : ℝ) : EReal) =
    ((dk act x g y : ℝ) : EReal) := by
  have h := (nrm_pos act x y).ne'
  have he := (Real.exp_pos (-m)).ne'
  rw [← EReal.coe_mul, dk]
  congr 1
  field_simp

/-- The score's gradient. -/
theorem dScore_eq (j : ι) : (Ideal.div (g j : EReal) ((nrm act x y * Real.exp (-m) : ℝ) : EReal) +
    ((-(wt act x g y / (nrm act x y * Real.exp (-m))) : ℝ) : EReal)) * ((ex act x j * Real.exp (-m) : ℝ) : EReal) =
    ((ds act x g y j : ℝ) : EReal) := by
  have h := (nrm_pos act x y).ne'
  have he := (Real.exp_pos (-m)).ne'
  rw [div_real (scaled_ne act x y m), ← EReal.coe_add, ← EReal.coe_mul, ds, pr]
  congr 1
  field_simp
  ring

/-- The shift has no gradient. -/
theorem dShift_eq : ((0 : EReal) - ((dk act x g y : ℝ) : EReal)) + ∑ j, ((0 : EReal) - ((ds act x g y j : ℝ) : EReal)) = 0 := by
  have h := (nrm_pos act x y).ne'
  simp only [← EReal.coe_zero, ← EReal.coe_sub]
  rw [← coe_sum, ← EReal.coe_add]
  congr 1
  have e0 : ∀ w : ℝ, ∑ j, (0 - pr act x y j * (g j - w)) = -(∑ j, pr act x y j * g j) + (∑ j, pr act x y j) * w := fun w => by
    rw [Finset.sum_mul, ← Finset.sum_neg_distrib, ← Finset.sum_add_distrib]
    exact Finset.sum_congr rfl fun j _ => by ring
  have e1 : ∑ j, (0 - ds act x g y j) = -wt act x g y + (∑ j, pr act x y j) * wt act x g y := e0 _
  have e2 : ∑ j, pr act x y j = (nrm act x y - Real.exp y) / nrm act x y := by
    rw [nrm, add_sub_cancel_right, ← nrm, Finset.sum_div]
    rfl
  rw [e1, e2, dk]
  field_simp
  ring

theorem pr_of_not {j : ι} (h : ¬act j) : pr act x y j = 0 := by rw [pr, ex, if_neg h, zero_div]

theorem ds_of_not {j : ι} (h : ¬act j) : ds act x g y j = 0 := by rw [ds, pr_of_not act x y h, zero_mul]

end Cert.SoftmaxRow
end
-- ==== Proof.HeadRow.lean ====
module
public import proofs.«01_k».proof.Proof.Heads
public import proofs.«01_k».proof.Proof.Row
public import Idealize.ShloMosaic.Lib.Pointwise
import Idealize.ShloMosaic.Lib.IdealHost

/-! A head's rows: probabilities and gradients are the real ones of the row's masked scores, sink and probability gradients. The gradient
the kernel adds at the row's largest score is zero, since the row's shift has none. -/

@[expose] public section

set_option maxRecDepth 16384

noncomputable section

namespace Cert.KernelIdeal.Attn

open Cert.KernelIdeal Cert.KernelIdeal.Gen Idealize.ShloMosaic Idealize.ShloMosaic.TcCoe Cert.SoftmaxRow

variable (s dp : FVec Ideal S512x128 .f32) (sk : FVec Ideal S512x1 .f32) (r : Fin 512) (j : Fin 128)

theorem rowSum_apply : rowSum s (ix2 r 0) = ∑ j, s (ix2 r j) := by pointwise [rowSum]

theorem colMax_apply : colMax s (ix2 r 0) = Finset.univ.fold max ⊥ fun j => s (ix2 r j) := by
  have h : Ideal.ofBits .f32 4286578688#32 = ⊥ := by simp [Ideal.ofBits, Ideal.ieee]
  pointwise [colMax, rowMax]
  rw [h]

theorem isMax_apply : isMax s (ix2 r j) = if s (ix2 r j) = colMax s (ix2 r 0) then 1 else 0 := by
  pointwise [isMax, wide]
  change ((((BitVec.setWidth 32 (BitVec.ofBool (decide (s (ix2 r j) = colMax s (ix2 r 0))))).toInt : ℝ) : ℝ) : EReal) = _
  by_cases h : s (ix2 r j) = colMax s (ix2 r 0)
  · rw [decide_eq_true h, if_pos h]; simp
  · rw [decide_eq_false h, if_neg h]; simp

theorem countMax_ne : countMax s (ix1 r) ≠ 0 := by
  have e : countMax s (ix1 r) = ∑ j, isMax s (ix2 r j) := by pointwise [countMax]
  obtain ⟨j, hj⟩ := max_attained fun j : Fin 128 => s (ix2 r j)
  have h1 : isMax s (ix2 r j) = 1 := by rw [isMax_apply, if_pos (hj.trans (colMax_apply s r).symm)]
  have h0 : ∀ k, 0 ≤ isMax s (ix2 r k) := fun k => by
    rw [isMax_apply]
    split
    · exact zero_le_one
    · exact le_rfl
  rw [e]
  refine (lt_of_lt_of_le zero_lt_one ?_).ne'
  rw [← h1]
  exact Finset.single_le_sum (fun k _ => h0 k) (Finset.mem_univ j)

variable {s dp sk r} {act : Fin 128 → Prop} [DecidablePred act] {x g : Fin 128 → ℝ} {y : ℝ}
  (hs : ∀ j, s (ix2 r j) = score act x j) (hk : sk (ix2 r 0) = (y : EReal)) (hd : ∀ j, dp (ix2 r j) = (g j : EReal))

include hs hk in
theorem shift_row : ∃ m : ℝ, shift s sk (ix2 r 0) = (m : EReal) := by
  obtain ⟨m, hm⟩ := shift_real act x y
  refine ⟨m, ?_⟩
  pointwise [shift]
  rw [colMax_apply, hk, ← hm]
  simp only [hs]

variable {m : ℝ} (hm : shift s sk (ix2 r 0) = (m : EReal))

include hs hm in
theorem expS_row : expS s sk (ix2 r j) = ((ex act x j * Real.exp (-m) : ℝ) : EReal) := by
  pointwise [expS, wide]
  rw [hs, hm, exp_score]

include hk hm in
theorem expK_row : expK s sk (ix2 r 0) = ((Real.exp y * Real.exp (-m) : ℝ) : EReal) := by
  pointwise [expK]
  rw [hk, hm, exp_sink]

include hs hk hm in
theorem norm_row : norm s sk (ix2 r 0) = ((nrm act x y * Real.exp (-m) : ℝ) : EReal) := by
  pointwise [norm]
  rw [rowSum_apply, expK_row hk hm, ← norm_eq]
  simp only [expS_row _ hs hm]

include hs hk in
/-- The probabilities. -/
theorem prob_row : prob s sk (ix2 r j) = ((pr act x y j : ℝ) : EReal) := by
  obtain ⟨m, hm⟩ := shift_row hs hk
  pointwise [prob, wide]
  rw [expS_row _ hs hm, norm_row hs hk hm, prob_eq]

include hs hk hm hd in
theorem dNorm_row : dNorm s sk dp (ix2 r 0) = ((-(wt act x g y / (nrm act x y * Real.exp (-m))) : ℝ) : EReal) := by
  pointwise [dNorm]
  rw [rowSum_apply, ← dNorm_eq act x g y m]
  refine congrArg (fun t => (0 : EReal) - t) (Finset.sum_congr rfl fun j _ => ?_)
  pointwise [wide, invSq]
  rw [hd, norm_row hs hk hm, expS_row _ hs hm]

include hs hk hd in
theorem dSink0_row : dSink0 s sk dp (ix2 r 0) = ((dk act x g y : ℝ) : EReal) := by
  obtain ⟨m, hm⟩ := shift_row hs hk
  pointwise [dSink0]
  rw [dNorm_row hs hk hd hm, expK_row hk hm, dSink_eq]

include hs hk hd in
theorem dScore0_row : dScore0 s sk dp (ix2 r j) = ((ds act x g y j : ℝ) : EReal) := by
  obtain ⟨m, hm⟩ := shift_row hs hk
  pointwise [dScore0, wide]
  simp only [Fin.sum_univ_one, Fin.isValue]
  rw [hd, norm_row hs hk hm, dNorm_row hs hk hd hm, expS_row _ hs hm, dScore_eq]

include hs hk hd in
theorem dShift_row : dShift s sk dp (ix2 r 0) = 0 := by
  rw [← dShift_eq act x g y]
  pointwise [dShift]
  rw [rowSum_apply, dSink0_row hs hk hd]
  refine congrArg (fun t => (0 : EReal) - _ + t) (Finset.sum_congr rfl fun j _ => ?_)
  pointwise
  rw [dScore0_row _ hs hk hd]

include hs hk hd in
/-- The sink's gradient. -/
theorem dSink_row : dSink s sk dp (ix2 r 0) = ((dk act x g y : ℝ) : EReal) := by
  pointwise [dSink]
  rw [dShift_row hs hk hd, dSink0_row hs hk hd, zero_mul, add_zero]

include hs hk hd in
/-- The scores' gradient. -/
theorem dScore_row : dScore s sk dp (ix2 r j) = ((ds act x g y j : ℝ) : EReal) := by
  pointwise [dScore, wide]
  simp only [Fin.sum_univ_one, Fin.isValue]
  rw [dShift_row hs hk hd, dScore0_row _ hs hk hd, zero_mul, div_zero_left (countMax_ne s r), zero_mul, add_zero]

end Cert.KernelIdeal.Attn
end
-- ==== Proof.HeadRead.lean ====
module
public import proofs.«01_k».proof.Proof.HeadRow
import Idealize.ShloMosaic.Lib.WordCmp

/-! A head's slices, masks and joins, read at an index. -/

@[expose] public section

set_option maxRecDepth 16384

noncomputable section

namespace Cert.KernelIdeal.Attn

open Cert.KernelIdeal Cert.KernelIdeal.Gen Idealize.ShloMosaic Idealize.ShloMosaic.TcCoe Cert.SoftmaxRow

/-- The stacked row of query head `g` and row `p`. -/
def row (g : Fin 4) (p : Fin 128) : Fin 512 := ⟨128 * g.val + p.val, by omega⟩

/-- The column of key/value head `k` and feature `d`. -/
def kcol (k : Fin 4) (d : Fin 64) : Fin 256 := ⟨64 * k.val + d.val, by omega⟩

/-- The column of query head `4 k + g` and feature `d`. -/
def qcol (k g : Fin 4) (d : Fin 64) : Fin 1024 := ⟨64 * (4 * k.val + g.val) + d.val, by omega⟩

/-- The column of query head `4 k + g`'s sink. -/
def scol (k g : Fin 4) : Fin 16 := ⟨4 * k.val + g.val, by omega⟩

/-- The current block's lanes: those up to the row. -/
theorem cur_apply (g : Fin 4) (p j : Fin 128) : (k0_pay2 : IVec S512x128 1) (ix2 (row g p) j) = BitVec.ofBool (decide (j.val ≤ p.val)) := by
  have hp := p.isLt
  have hj := j.isLt
  fin_cases g
  all_goals
    pointwise [k0_pay2, row]
    try simp (disch := omega) only [dif_pos, dif_neg]
    rw [WordCmp.cmpi_sle_ofNat (by omega) (by omega)]
  all_goals exact congrArg BitVec.ofBool (decide_eq_decide.mpr (by omega))

/-- The valid lanes: all, but at the last grid point, which holds the first block, only the current block's. -/
theorem valid_apply (i : grid0.Coords) (g : Fin 4) (p j : Fin 128) :
    k0_pay3 i (ix2 (row g p) j) = BitVec.ofBool (decide (j.val ≤ p.val ∨ (i 0).val ≠ 63)) := by
  have e : k0_pay3 i (ix2 (row g p) j) = IntOp.ori ((k0_pay2 : IVec S512x128 1) (ix2 (row g p) j))
      (Scalar.xori (Scalar.cmpi .eq (Scalar.subi 63#32 (BitVec.ofNat 32 (i 0).val)) 0#32) 1#1) := by
    pointwise [k0_pay3]
  have hi : ∀ n : Fin 64, Scalar.xori (Scalar.cmpi .eq (Scalar.subi 63#32 (BitVec.ofNat 32 n.val)) 0#32) 1#1 =
      BitVec.ofBool (decide (n.val ≠ 63)) := by decide +kernel
  rw [e, cur_apply, hi (i 0)]
  by_cases h : j.val ≤ p.val <;> by_cases h' : (i 0).val ≠ 63 <;> simp [h, h'] <;> rfl

/-- A key/value head's slice. -/
theorem keyHead_apply (k : Fin 4) (x : FVec Ideal S128x256 .bf16) (j : Fin 128) (d : Fin 64) :
    keyHead k x (ix2 j d) = x (ix2 j (kcol k d)) := by
  fin_cases k
  all_goals
    pointwise [keyHead, k0_pay5, k0_pay30, k0_pay54, k0_pay76, kcol]

/-- The stacked query heads. -/
theorem queryHead_apply (k g : Fin 4) (x : FVec Ideal S128x1024 .bf16) (p : Fin 128) (d : Fin 64) :
    queryHead k x (ix2 (row g p) d) = x (ix2 p (qcol k g d)) := by
  have hp := p.isLt
  fin_cases k <;> fin_cases g
  all_goals
    pointwise [queryHead, k0_pay4, k0_pay28, k0_pay29, k0_pay53, k0_pay75, row, qcol]
    try simp (disch := omega) only [dif_pos, dif_neg]
    try exact congrArg x (congrArg (fun a => ix2 a _) (Fin.ext (by dsimp only; omega)))

/-- The sinks of the stacked rows. -/
theorem sinkHead_apply (k g : Fin 4) (x : FVec Ideal S1x16 .f32) (p : Fin 128) : sinkHead k x (ix2 (row g p) 0) = x (ix2 0 (scol k g)) := by
  have hp := p.isLt
  fin_cases k <;> fin_cases g
  all_goals
    pointwise [sinkHead, k0_pay11, k0_pay8, k0_pay9, k0_pay10, k0_pay33, k0_pay57, k0_pay81, row, scol]
    try simp (disch := omega) only [dif_pos, dif_neg]

/-- The stacked gradients of the query heads' outputs. -/
theorem gradHead_apply (k g : Fin 4) (x : FVec Ideal S128x1024 .bf16) (p : Fin 128) (d : Fin 64) :
    gradHead k x (ix2 (row g p) d) = x (ix2 p (qcol k g d)) := by
  have hp := p.isLt
  fin_cases k <;> fin_cases g
  all_goals
    pointwise [gradHead, stack, k0_pay109, k0_pay162, k0_pay96, k0_pay97, k0_pay98, k0_pay99, k0_pay100, k0_pay101, k0_pay102, k0_pay103,
      k0_pay104, k0_pay105, k0_pay106, k0_pay107, k0_pay108, row, qcol]
    try simp (disch := omega) only [dif_pos, dif_neg, zero_add, add_zero]
    try exact congrArg x (congrArg (fun a => ix2 a _) (Fin.ext (by dsimp only; omega)))

/-- Four heads' key or value gradients side by side. -/
theorem joinK_apply (k : Fin 4) (x : Fin 4 → FVec Ideal S128x64 .bf16) (j : Fin 128) (d : Fin 64) :
    joinK x (ix2 j (kcol k d)) = x k (ix2 j d) := by
  have hd := d.isLt
  fin_cases k
  all_goals
    pointwise [joinK, kcol]
    try simp (disch := omega) only [dif_pos, dif_neg, zero_add, add_zero]
    try idx_ext

/-- The sinks' gradients side by side. -/
theorem joinS_apply (k g : Fin 4) (x : Fin 4 → FVec Ideal S512x1 .f32) :
    joinS x (ix2 0 (scol k g)) = ∑ p, x k (ix2 (row g p) 0) := by
  pointwise [joinS, scol, total, row]
  fin_cases k <;> fin_cases g <;> simp

set_option maxHeartbeats 1000000 in
/-- The query gradients side by side. -/
theorem joinQ_apply (k g : Fin 4) (x : Fin 4 → FVec Ideal S512x64 .bf16) (p : Fin 128) (d : Fin 64) :
    joinQ x (ix2 p (qcol k g d)) = x k (ix2 (row g p) d) := by
  have hd := d.isLt
  pointwise [joinQ, qcol, part, row]
  fin_cases k <;> fin_cases g
  all_goals
    simp (disch := omega) only [dif_pos, dif_neg, zero_add, add_zero]
    refine congrArg₂ (fun a b => x _ (ix2 a b)) (Fin.ext ?_) (Fin.ext ?_) <;> dsimp only <;> omega

end Cert.KernelIdeal.Attn
end
-- ==== Proof.Spec.lean ====
module
public import proofs.«01_k».proof.Proof.Row

/-! The gradient of the attention in real numbers, by blocks of 128 tokens. A row of block `n` looks at the 128 keys up to its own: lane `j`
holds the key `j` of its own block where `j` is at most the row, and of the block before otherwise. -/

@[expose] public section

noncomputable section

namespace Cert.Attention

open Cert.SoftmaxRow

/-- The token `p` of block `n`. -/
def tok (n : Fin 64) (p : Fin 128) : Fin 8192 := ⟨128 * n.val + p.val, by omega⟩

/-- The block before (the first block itself at the first, where nothing reads it). -/
def before (n : Fin 64) : Fin 64 := ⟨n.val - 1, by omega⟩

/-- The key a lane holds for a row. -/
def ktok (n : Fin 64) (p j : Fin 128) : Fin 8192 := if j.val ≤ p.val then tok n j else tok (before n) j

/-- The lanes a row looks at: all, but in the first block only its own block's. -/
def act (n : Fin 64) (p j : Fin 128) : Prop := j.val ≤ p.val ∨ n.val ≠ 0

instance (n : Fin 64) (p : Fin 128) : DecidablePred (act n p) := fun j => inferInstanceAs (Decidable (j.val ≤ p.val ∨ n.val ≠ 0))

/-- The arguments, by token, key/value head, query head in it, and feature: queries, keys, values, sinks, the output's gradient. -/
structure Args where
  q : Fin 8192 → Fin 4 → Fin 4 → Fin 64 → ℝ
  k : Fin 8192 → Fin 4 → Fin 64 → ℝ
  v : Fin 8192 → Fin 4 → Fin 64 → ℝ
  s : Fin 4 → Fin 4 → ℝ
  g : Fin 8192 → Fin 4 → Fin 4 → Fin 64 → ℝ

variable (A : Args) (n : Fin 64) (k g : Fin 4) (p j : Fin 128) (d : Fin 64)

/-- A score. -/
def sc : ℝ := (∑ d, A.q (tok n p) k g d * A.k (ktok n p j) k d) * (1 / 8)

/-- A probability's gradient. -/
def gp : ℝ := ∑ d, A.g (tok n p) k g d * A.v (ktok n p j) k d

/-- A probability. -/
def prob : ℝ := pr (act n p) (sc A n k g p) (A.s k g) j

/-- The gradient of a product of a query and a key. -/
def dDot : ℝ := ds (act n p) (sc A n k g p) (gp A n k g p) (A.s k g) j * (1 / 8)

/-- A row's gradient of its sink. -/
def dSink : ℝ := dk (act n p) (sc A n k g p) (gp A n k g p) (A.s k g)

/-- The queries' gradient. -/
def dQ : ℝ := ∑ j, dDot A n k g p j * A.k (ktok n p j) k d

/-- A block's part of the gradient of its own keys. -/
def dKCur : ℝ := ∑ g, ∑ p, if j.val ≤ p.val then dDot A n k g p j * A.q (tok n p) k g d else 0

/-- A block's part of the gradient of the keys of the block before. -/
def dKPrev : ℝ := ∑ g, ∑ p, if j.val ≤ p.val then 0 else dDot A n k g p j * A.q (tok n p) k g d

/-- A block's part of the gradient of its own values. -/
def dVCur : ℝ := ∑ g, ∑ p, if j.val ≤ p.val then prob A n k g p j * A.g (tok n p) k g d else 0

/-- A block's part of the gradient of the values of the block before. -/
def dVPrev : ℝ := ∑ g, ∑ p, if j.val ≤ p.val then 0 else prob A n k g p j * A.g (tok n p) k g d

/-- The keys' gradient: the block's own part and the next block's. -/
def dK : ℝ := dKCur A n k j d + if h : n.val + 1 < 64 then dKPrev A ⟨n.val + 1, h⟩ k j d else 0

/-- The values' gradient. -/
def dV : ℝ := dVCur A n k j d + if h : n.val + 1 < 64 then dVPrev A ⟨n.val + 1, h⟩ k j d else 0

/-- The sinks' gradient. -/
def dS : ℝ := ∑ n, ∑ p, dSink A n k g p

end Cert.Attention
end
-- ==== Proof.HeadVal.lean ====
module
public import proofs.«01_k».proof.Proof.HeadRead
public import proofs.«01_k».proof.Proof.Spec

/-! A head's gradients at a grid point are the real ones of the block it holds. -/

@[expose] public section

set_option maxRecDepth 16384

noncomputable section

namespace Cert.KernelIdeal.Attn

open Cert.KernelIdeal Cert.KernelIdeal.Gen Idealize.ShloMosaic Idealize.ShloMosaic.TcCoe Cert.SoftmaxRow
open Cert.Attention (Args tok ktok before act)

variable (A : Args) (i : grid0.Coords) (n : Fin 64) (q : FVec Ideal S128x1024 .bf16) (kc kp vc vp : FVec Ideal S128x256 .bf16)
  (sk : FVec Ideal S1x16 .f32) (g : FVec Ideal S128x1024 .bf16)

/-- The blocks read at a grid point are the real arguments' at block `n`. -/
structure Reads : Prop where
  i : (i 0).val + n.val = 63
  q : ∀ p k g d, q (ix2 p (qcol k g d)) = (A.q (tok n p) k g d : EReal)
  kc : ∀ j k d, kc (ix2 j (kcol k d)) = (A.k (tok n j) k d : EReal)
  kp : ∀ j k d, kp (ix2 j (kcol k d)) = (A.k (tok (before n) j) k d : EReal)
  vc : ∀ j k d, vc (ix2 j (kcol k d)) = (A.v (tok n j) k d : EReal)
  vp : ∀ j k d, vp (ix2 j (kcol k d)) = (A.v (tok (before n) j) k d : EReal)
  s : ∀ k g, sk (ix2 0 (scol k g)) = (A.s k g : EReal)
  g : ∀ p k h d, g (ix2 p (qcol k h d)) = (A.g (tok n p) k h d : EReal)

/-- A choice by a decided bit. -/
theorem select_dec {α : Type} (P : Prop) [Decidable P] (x y : α) : Scalar.select (BitVec.ofBool (decide P)) x y = if P then x else y := by
  by_cases h : P <;> simp [h, Scalar.select]

theorem eighth : Ideal.ofBits .f32 1040187392#32 = ((1 / 8 : ℝ) : EReal) := by
  simp [Ideal.ofBits, Ideal.ieee]
  rw [← EReal.coe_mul]
  norm_num

theorem mask_bot : (Named.named κ "mask" 4048155338#32 : Ideal .f32) = ⊥ := by
  rfl

variable {A i n q kc kp vc vp sk g} (H : Reads A i n q kc kp vc vp sk g) (k h : Fin 4) (p j : Fin 128) (d : Fin 64)

include H in
theorem headS_apply : headS (k0_pay3 i) q kc kp k (ix2 (row h p) j) = score (act n p) (Attention.sc A n k h p) j := by
  pointwise [headS, scores]
  have hi : (i 0).val ≠ 63 ↔ n.val ≠ 0 := by have := H.i; omega
  rw [valid_apply, cur_apply, select_dec, select_dec, eighth, mask_bot]
  simp only [queryHead_apply, keyHead_apply, H.q, H.kc, H.kp, ← EReal.coe_mul, ← coe_sum, ← EReal.coe_add, hi]
  unfold score
  refine if_congr Iff.rfl ?_ rfl
  rw [Attention.sc, EReal.coe_mul]
  congr 1
  unfold ktok
  split <;> rfl

include H in
theorem headP_apply : headP vc vp g k (ix2 (row h p) j) = ((Attention.gp A n k h p j : ℝ) : EReal) := by
  pointwise [headP, dProb, onPrev, onCur]
  rw [cur_apply]
  simp only [select_dec]
  simp only [gradHead_apply, keyHead_apply, H.g, H.vc, H.vp, ← EReal.coe_mul, ← coe_sum]
  unfold Attention.gp ktok
  split
  · rw [zero_add]
  · rw [add_zero]

include H in
theorem sink_apply : sinkHead k sk (ix2 (row h p) 0) = ((A.s k h : ℝ) : EReal) := by rw [sinkHead_apply, H.s]

include H in
theorem headD_apply : headD (k0_pay3 i) q kc kp vc vp sk g k (ix2 (row h p) j) = ((Attention.dDot A n k h p j : ℝ) : EReal) := by
  pointwise [headD, dDot]
  have hi : (i 0).val ≠ 63 ↔ n.val ≠ 0 := by have := H.i; omega
  rw [valid_apply, select_dec, eighth, dScore_row j (headS_apply H k h p) (sink_apply H k h p) (headP_apply H k h p)]
  rw [Attention.dDot, EReal.coe_mul]
  congr 1
  split
  · rfl
  · rename_i hn
    rw [ds_of_not _ _ _ _ (fun ha => hn (by rwa [hi])), EReal.coe_zero, zero_mul]

include H in
theorem headQ_apply : headQ (k0_pay3 i) q kc kp vc vp sk g k (ix2 (row h p) d) = ((Attention.dQ A n k h p d : ℝ) : EReal) := by
  pointwise [headQ, dQ, onPrev, onCur]
  simp only [cur_apply, select_dec]
  rw [← Finset.sum_add_distrib, Attention.dQ, coe_sum]
  refine Finset.sum_congr rfl fun j _ => ?_
  rw [headD_apply H, keyHead_apply, keyHead_apply, H.kp, H.kc, EReal.coe_mul]
  unfold ktok
  split
  · rw [zero_add]
  · rw [add_zero]

/-- A sum over the stacked rows, by query head and row. -/
theorem sum_rows {M : Type} [AddCommMonoid M] (f : Fin 512 → M) : ∑ x, f x = ∑ h, ∑ p, f (row h p) := by
  rw [Fin.sum_univ_tiles 4 128 rfl f]
  rfl

include H in
theorem headKC_apply : headKC (k0_pay3 i) q kc kp vc vp sk g k (ix2 j d) = ((Attention.dKCur A n k j d : ℝ) : EReal) := by
  pointwise [headKC, overRows, onCur]
  rw [sum_rows, Attention.dKCur, coe_sum]
  refine Finset.sum_congr rfl fun h _ => ?_
  rw [coe_sum]
  refine Finset.sum_congr rfl fun p _ => ?_
  rw [cur_apply, select_dec, headD_apply H, queryHead_apply, H.q]
  split
  · rw [EReal.coe_mul]
  · rfl

include H in
theorem headKP_apply : headKP (k0_pay3 i) q kc kp vc vp sk g k (ix2 j d) = ((Attention.dKPrev A n k j d : ℝ) : EReal) := by
  pointwise [headKP, overRows, onPrev]
  rw [sum_rows, Attention.dKPrev, coe_sum]
  refine Finset.sum_congr rfl fun h _ => ?_
  rw [coe_sum]
  refine Finset.sum_congr rfl fun p _ => ?_
  rw [cur_apply, select_dec, headD_apply H, queryHead_apply, H.q]
  split
  · rfl
  · rw [EReal.coe_mul]

include H in
theorem headVC_apply : headVC (k0_pay3 i) q kc kp sk g k (ix2 j d) = ((Attention.dVCur A n k j d : ℝ) : EReal) := by
  pointwise [headVC, overRows, onCur]
  rw [sum_rows, Attention.dVCur, coe_sum]
  refine Finset.sum_congr rfl fun h _ => ?_
  rw [coe_sum]
  refine Finset.sum_congr rfl fun p _ => ?_
  rw [cur_apply, select_dec, prob_row j (headS_apply H k h p) (sink_apply H k h p), gradHead_apply, H.g]
  split
  · rw [EReal.coe_mul]; rfl
  · rfl

include H in
theorem headVP_apply : headVP (k0_pay3 i) q kc kp sk g k (ix2 j d) = ((Attention.dVPrev A n k j d : ℝ) : EReal) := by
  pointwise [headVP, overRows, onPrev]
  rw [sum_rows, Attention.dVPrev, coe_sum]
  refine Finset.sum_congr rfl fun h _ => ?_
  rw [coe_sum]
  refine Finset.sum_congr rfl fun p _ => ?_
  rw [cur_apply, select_dec, prob_row j (headS_apply H k h p) (sink_apply H k h p), gradHead_apply, H.g]
  split
  · rfl
  · rw [EReal.coe_mul]; rfl

include H in
theorem headSink_apply : headSink (k0_pay3 i) q kc kp vc vp sk g k (ix2 (row h p) 0) = ((Attention.dSink A n k h p : ℝ) : EReal) :=
  dSink_row (headS_apply H k h p) (sink_apply H k h p) (headP_apply H k h p)

end Cert.KernelIdeal.Attn
end
-- ==== Proof.Points.lean ====
module
public import proofs.«01_k».proof.Proof.Outs
public import proofs.«01_k».proof.Proof.HeadVal
public import Idealize.ShloMosaic.Lib.Pipeline.ValueKit

/-! The blocks a grid point reads, out of the arguments. -/

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attention (Args tok ktok before act)

/-- Where each window's block lies, at every grid point: the points walk the blocks from the last to the first. -/
theorem idx : ∀ t : Fin cfg0.N, win0_0.index t = ![63 - t.val, 0] ∧ win0_1.index t = ![63 - t.val, 4]
    ∧ win0_2.index t = ![63 - t.val - 1, 4] ∧ win0_3.index t = ![63 - t.val, 5] ∧ win0_4.index t = ![63 - t.val - 1, 5]
    ∧ win0_5.index t = ![0, 0] ∧ win0_6.index t = ![63 - t.val, 0] ∧ win0_7.index t = ![63 - t.val, 0]
    ∧ win0_8.index t = ![63 - t.val, 0] ∧ win0_9.index t = ![63 - t.val, 0] ∧ win0_10.index t = ![0, 0]
    ∧ (grid0.coords t 0).val = t.val :=
  (by decide +kernel : ∀ t : Fin grid0.N, _)

/-- The columns of the queries, keys and values in the first argument. -/
def colQ (k g : Fin 4) (d : Fin 64) : Fin 1536 := ⟨64 * (4 * k.val + g.val) + d.val, by omega⟩
def colK (k : Fin 4) (d : Fin 64) : Fin 1536 := ⟨1024 + (64 * k.val + d.val), by omega⟩
def colV (k : Fin 4) (d : Fin 64) : Fin 1536 := ⟨1280 + (64 * k.val + d.val), by omega⟩

/-- The arguments hold real numbers. -/
structure Holds (A : Args) (x : FVec Ideal S8192x1536 .bf16) (s : FVec Ideal S1x16 .f32) (g : FVec Ideal S8192x1024 .bf16) : Prop where
  q : ∀ T k g d, x (ix2 T (colQ k g d)) = (A.q T k g d : EReal)
  k : ∀ T k d, x (ix2 T (colK k d)) = (A.k T k d : EReal)
  v : ∀ T k d, x (ix2 T (colV k d)) = (A.v T k d : EReal)
  s : ∀ k g, s (ix2 0 (scol k g)) = (A.s k g : EReal)
  g : ∀ T k h d, g (ix2 T (qcol k h d)) = (A.g T k h d : EReal)

/-- The block a grid point works on. -/
def blockOf (t : Fin cfg0.N) : Fin 64 := ⟨63 - t.val, by omega⟩

variable (m : (ℓ : Loc nD τ sig) → Buf (Elt Ideal) ℓ) (c : Dev nD) (t : Fin cfg0.N)

theorem X0_0_apply (y : (cfg0.win 0).block.Idx) :
    ∃ y' : ((cfg0.win 0).xblock (cfg0.grid.coords t)).Idx, (∀ a, (y' a).val = (y a).val) ∧ X0_0 m c t y = iblk m c 0 t y' := by
  unfold X0_0 Pipeline.Window.fill
  rw [dif_pos (moved0_0 t y)]
  exact ⟨_, fun _ => rfl, rfl⟩

variable {A : Args} (H : Holds A (m ((c : Thread nD τ).loc main_arg0)) (m ((c : Thread nD τ).loc main_arg1)) (m ((c : Thread nD τ).loc main_arg2)))

include H in
theorem reads : Reads A (grid0.coords t) (blockOf t) (X0_0 m c t) (iblk m c 1 t) (iblk m c 2 t) (iblk m c 3 t) (iblk m c 4 t)
    (iblk m c 5 t) (iblk m c 6 t) where
  i := by
    have := t.isLt
    have h64 : cfg0.N = 64 := N_0
    rw [(idx t).2.2.2.2.2.2.2.2.2.2.2]
    show t.val + (63 - t.val) = 63
    omega
  q p k g d := by
    rw [← H.q (tok (blockOf t) p) k g d]
    obtain ⟨y', hy, e⟩ := X0_0_apply m c t (ix2 p (qcol k g d))
    rw [e]
    have h0 : (y' 0).val = p.val := hy 0
    have h1 : (y' 1).val = 64 * (4 * k.val + g.val) + d.val := hy 1
    blk_ext [iblk, V, idx t, tok, blockOf, colQ, qcol]
  kc j k d := by
    rw [← H.k (tok (blockOf t) j) k d]
    blk_ext [iblk, V, idx t, tok, blockOf, colK, kcol]
  kp j k d := by
    rw [← H.k (tok (before (blockOf t)) j) k d]
    blk_ext [iblk, V, idx t, tok, blockOf, before, colK, kcol]
  vc j k d := by
    rw [← H.v (tok (blockOf t) j) k d]
    blk_ext [iblk, V, idx t, tok, blockOf, colV, kcol]
  vp j k d := by
    rw [← H.v (tok (before (blockOf t)) j) k d]
    blk_ext [iblk, V, idx t, tok, blockOf, before, colV, kcol]
  s k g := by
    rw [← H.s k g]
    blk_ext [iblk, V, idx t, scol]
  g p k h d := by
    rw [← H.g (tok (blockOf t) p) k h d]
    blk_ext [iblk, V, idx t, tok, blockOf, qcol]

end Cert.KernelIdeal.Attn
end
-- ==== Proof.Blocks.lean ====
module
public import proofs.«01_k».proof.Proof.Points

/-! The arrays the kernel leaves, as the real gradients. -/

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attention (Args tok ktok before act)

variable (m : (ℓ : Loc nD τ sig) → Buf (Elt Ideal) ℓ) (c : Dev nD)
  {A : Args} (H : Holds A (m ((c : Thread nD τ).loc main_arg0)) (m ((c : Thread nD τ).loc main_arg1)) (m ((c : Thread nD τ).loc main_arg2)))

/-- The grid point that works on a block. -/
def pointOf (n : Fin 64) : Fin cfg0.N := ⟨63 - n.val, by rw [show cfg0.N = 64 from N_0]; omega⟩

theorem blockOf_pointOf (n : Fin 64) : blockOf (pointOf n) = n := Fin.ext (by show 63 - (63 - n.val) = n.val; omega)

/-- The first point takes one branch of the body, every other the other one. -/
theorem first_or (t : Fin cfg0.N) : (t.val % 64 = 0 ∧ ¬1 ≤ t.val) ∨ (¬t.val % 64 = 0 ∧ 1 ≤ t.val) := by
  have : t.val < 64 := lt_of_lt_of_eq t.isLt N_0
  omega

include H in
theorem outQ (t : Fin cfg0.N) (k g : Fin 4) (p : Fin 128) (d : Fin 64) :
    (outsAt0 m c t.val t.isLt).1 (ix2 p (qcol k g d)) = ((Attention.dQ A (blockOf t) k g p d : ℝ) : EReal) := by
  have e : (outsAt0 m c t.val t.isLt).1 = joinQ (atPoint m c t headQ) := by
    rcases first_or t with ⟨h0, h2⟩ | ⟨h0, h2⟩
    · exact outQ_A m c t h0 h2
    · exact outQ_B m c t h0 h2
  rw [e, joinQ_apply]
  exact headQ_apply (reads m c t H) k g p d

include H in
theorem arrQ (n : Fin 64) (k g : Fin 4) (p : Fin 128) (d : Fin 64) :
    (dats m 0 c).arrAt 7 cfg0.N (ix2 (tok n p) (qcol k g d)) = ((Attention.dQ A n k g p d : ℝ) : EReal) := by
  obtain ⟨t, rfl⟩ : ∃ t, blockOf t = n := ⟨_, blockOf_pointOf n⟩
  have h := congrFun (Value.blocks7 m c t (flush0_7 _)) (ix2 p (qcol k g d))
  rw [Value.flushed7] at h
  refine Eq.trans ?_ (h.trans (outQ m c H t k g p d))
  blk_ext [idx t, tok, qcol, blockOf]

/-- The point before, and the block it holds. -/
def prev (t : Fin cfg0.N) : Fin cfg0.N := ⟨t.val - 1, lt_of_le_of_lt (Nat.sub_le _ _) t.isLt⟩

theorem blockOf_prev (t : Fin cfg0.N) (h : 1 ≤ t.val) : ∃ h' : (blockOf t).val + 1 < 64, blockOf (prev t) = ⟨(blockOf t).val + 1, h'⟩ := by
  have : t.val < 64 := lt_of_lt_of_eq t.isLt N_0
  refine ⟨by show 63 - t.val + 1 < 64; omega, Fin.ext ?_⟩
  show 63 - (t.val - 1) = 63 - t.val + 1
  omega

include H in
theorem carryK (t : Fin cfg0.N) (k : Fin 4) (j : Fin 128) (d : Fin 64) :
    (outsAt0 m c t.val t.isLt).2.2.2.2.1 (ix2 j (kcol k d)) = ((Attention.dKPrev A (blockOf t) k j d : ℝ) : EReal) := by
  have e : (outsAt0 m c t.val t.isLt).2.2.2.2.1 = k0_pay220 (joinK (atPoint m c t headKP)) := by
    rcases first_or t with ⟨h0, h2⟩ | ⟨h0, h2⟩
    · exact carryK_A m c t h0 h2
    · exact carryK_B m c t h0 h2
  rw [e]
  refine Eq.trans ?_ (headKP_apply (reads m c t H) k j d)
  refine Eq.trans ?_ (joinK_apply k (atPoint m c t headKP) j d)
  generalize joinK (atPoint m c t headKP) = x
  pointwise [k0_pay220]

include H in
theorem carryV (t : Fin cfg0.N) (k : Fin 4) (j : Fin 128) (d : Fin 64) :
    (outsAt0 m c t.val t.isLt).2.2.2.2.2 (ix2 j (kcol k d)) = ((Attention.dVPrev A (blockOf t) k j d : ℝ) : EReal) := by
  have e : (outsAt0 m c t.val t.isLt).2.2.2.2.2 = k0_pay222 (joinK (atPoint m c t fun v q kc kp _ _ sk g k => headVP v q kc kp sk g k)) := by
    rcases first_or t with ⟨h0, h2⟩ | ⟨h0, h2⟩
    · exact carryV_A m c t h0 h2
    · exact carryV_B m c t h0 h2
  rw [e]
  refine Eq.trans ?_ (headVP_apply (reads m c t H) k j d)
  refine Eq.trans ?_ (joinK_apply k (atPoint m c t fun v q kc kp _ _ sk g k => headVP v q kc kp sk g k) j d)
  generalize joinK (atPoint m c t fun v q kc kp _ _ sk g k => headVP v q kc kp sk g k) = x
  pointwise [k0_pay222]

/-- What a point adds to what the point before carried. -/
theorem addK (x : FVec Ideal S128x256 .bf16) (y : FVec Ideal S128x256 .f32) (i : Fin 128) (j : Fin 256) :
    k0_pay219 x y (ix2 i j) = x (ix2 i j) + y (ix2 i j) := by
  pointwise [k0_pay219]

theorem addV (x : FVec Ideal S128x256 .bf16) (y : FVec Ideal S128x256 .f32) (i : Fin 128) (j : Fin 256) :
    k0_pay221 x y (ix2 i j) = x (ix2 i j) + y (ix2 i j) := by
  pointwise [k0_pay221]

theorem zeroK (i : Fin 128) (j : Fin 256) : k0_pay217 (F := Ideal) (ix2 i j) = ((0 : ℝ) : EReal) := by
  pointwise [k0_pay217]
  rfl

theorem zeroV (i : Fin 128) (j : Fin 256) : k0_pay218 (F := Ideal) (ix2 i j) = ((0 : ℝ) : EReal) := by
  pointwise [k0_pay218]
  rfl

include H in
theorem outK (t : Fin cfg0.N) (k : Fin 4) (j : Fin 128) (d : Fin 64) :
    (outsAt0 m c t.val t.isLt).2.1 (ix2 j (kcol k d)) = ((Attention.dK A (blockOf t) k j d : ℝ) : EReal) := by
  have hc := (joinK_apply k (atPoint m c t headKC) j d).trans (headKC_apply (reads m c t H) k j d)
  rw [Attention.dK, EReal.coe_add, ← hc]
  rcases first_or t with ⟨h0, h2⟩ | ⟨h0, h2⟩
  · rw [outK_A m c t h0 h2, addK, zeroK, dif_neg (by show ¬63 - t.val + 1 < 64; omega)]
  · obtain ⟨h', e⟩ := blockOf_prev t h2
    rw [outK_B m c t h0 h2, addK, dif_pos h', ← e]
    exact congrArg _ (carryK m c H (prev t) k j d)

include H in
theorem outV (t : Fin cfg0.N) (k : Fin 4) (j : Fin 128) (d : Fin 64) :
    (outsAt0 m c t.val t.isLt).2.2.1 (ix2 j (kcol k d)) = ((Attention.dV A (blockOf t) k j d : ℝ) : EReal) := by
  have hc := (joinK_apply k (atPoint m c t fun v q kc kp _ _ sk g k => headVC v q kc kp sk g k) j d).trans (headVC_apply (reads m c t H) k j d)
  rw [Attention.dV, EReal.coe_add, ← hc]
  rcases first_or t with ⟨h0, h2⟩ | ⟨h0, h2⟩
  · rw [outV_A m c t h0 h2, addV, zeroV, dif_neg (by show ¬63 - t.val + 1 < 64; omega)]
  · obtain ⟨h', e⟩ := blockOf_prev t h2
    rw [outV_B m c t h0 h2, addV, dif_pos h', ← e]
    exact congrArg _ (carryV m c H (prev t) k j d)

include H in
theorem arrK (n : Fin 64) (k : Fin 4) (j : Fin 128) (d : Fin 64) :
    (dats m 0 c).arrAt 8 cfg0.N (ix2 (tok n j) (kcol k d)) = ((Attention.dK A n k j d : ℝ) : EReal) := by
  obtain ⟨t, rfl⟩ : ∃ t, blockOf t = n := ⟨_, blockOf_pointOf n⟩
  have h := congrFun (Value.blocks8 m c t (flush0_8 _)) (ix2 j (kcol k d))
  rw [Value.flushed8] at h
  refine Eq.trans ?_ (h.trans (outK m c H t k j d))
  blk_ext [idx t, tok, kcol, blockOf]

include H in
theorem arrV (n : Fin 64) (k : Fin 4) (j : Fin 128) (d : Fin 64) :
    (dats m 0 c).arrAt 9 cfg0.N (ix2 (tok n j) (kcol k d)) = ((Attention.dV A n k j d : ℝ) : EReal) := by
  obtain ⟨t, rfl⟩ : ∃ t, blockOf t = n := ⟨_, blockOf_pointOf n⟩
  have h := congrFun (Value.blocks9 m c t (flush0_9 _)) (ix2 j (kcol k d))
  rw [Value.flushed9] at h
  refine Eq.trans ?_ (h.trans (outV m c H t k j d))
  blk_ext [idx t, tok, kcol, blockOf]

/-- A point's part of the sinks' gradient. -/
def partS (A : Args) (k g : Fin 4) (t : ℕ) : ℝ := if h : t < cfg0.N then ∑ p, Attention.dSink A (blockOf ⟨t, h⟩) k g p else 0

include H in
theorem joinS_at (t : Fin cfg0.N) (k g : Fin 4) :
    joinS (atPoint m c t headSink) (ix2 0 (scol k g)) = ((partS A k g t.val : ℝ) : EReal) := by
  rw [joinS_apply, partS, dif_pos t.isLt, SoftmaxRow.coe_sum]
  exact Finset.sum_congr rfl fun p _ => headSink_apply (reads m c t H) k g p

theorem addS (x y : FVec Ideal S1x16 .f32) (j : Fin 16) : k0_pay1 x y (ix2 0 j) = y (ix2 0 j) + x (ix2 0 j) := by
  pointwise [k0_pay1]

include H in
theorem outS (k g : Fin 4) (t : ℕ) (h : t < cfg0.N) :
    (outsAt0 m c t h).2.2.2.1 (ix2 0 (scol k g)) = ((∑ s ∈ Finset.range (t + 1), partS A k g s : ℝ) : EReal) := by
  induction t with
  | zero =>
    rw [outS_A m c ⟨0, h⟩ rfl (by show ¬1 ≤ 0; omega), joinS_at m c H, Finset.sum_range_one]
  | succ t ih =>
    have h64 : t + 1 < 64 := lt_of_lt_of_eq h N_0
    rw [outS_B m c ⟨t + 1, h⟩ (by show ¬(t + 1) % 64 = 0; omega) (by show 1 ≤ t + 1; omega), addS, joinS_at m c H,
      Finset.sum_range_succ, EReal.coe_add]
    exact congrArg (· + _) (ih (Nat.lt_of_succ_lt h))

theorem sum_parts (A : Args) (k g : Fin 4) : ∑ s ∈ Finset.range 64, partS A k g s = Attention.dS A k g := by
  rw [Finset.sum_range, Attention.dS]
  refine Fintype.sum_equiv Fin.revPerm _ _ fun n => ?_
  rw [partS, dif_pos (lt_of_lt_of_eq n.isLt N_0.symm)]
  refine Finset.sum_congr rfl fun p _ => congrArg (fun n => Attention.dSink A n k g p) (Fin.ext ?_)
  rw [Fin.revPerm_apply, Fin.val_rev]
  show 63 - n.val = 64 - (n.val + 1)
  omega

include H in
theorem arrS (k g : Fin 4) : (dats m 0 c).arrAt 10 cfg0.N (ix2 0 (scol k g)) = ((Attention.dS A k g : ℝ) : EReal) := by
  have e : ∀ t₀ : Fin cfg0.N, t₀.val = 63 → (dats m 0 c).arrAt 10 cfg0.N = (outsAt0 m c t₀.val t₀.isLt).2.2.2.1 := fun t₀ h₀ => by
    refine (dats m 0 c).arrAt_eq_of_covers 10 _ (by decide +kernel) fun t hf y => ?_
    have ht : t.val = 63 := by
      have := (flush0_10 t).mp hf
      have : t.val < 64 := lt_of_lt_of_eq t.isLt N_0
      omega
    obtain rfl : t = t₀ := Fin.ext (ht.trans h₀.symm)
    blk_simp
    rw [after0_10]
    blk_ext [idx t]
  rw [e ⟨63, lt_of_lt_of_eq (by omega) N_0.symm⟩ rfl, outS m c H, sum_parts]

end Cert.KernelIdeal.Attn
end
-- ==== Proof.Window.lean ====
module
public import proofs.«01_k».proof.Proof.Spec

/-! The same gradient over the 256 keys of a block and the block before, of which a row looks at a window of 128. -/

@[expose] public section

noncomputable section

namespace Cert.Attention

open Cert.SoftmaxRow

/-- A row's window among the 256 columns. -/
def win (n : Fin 64) (p : Fin 128) (c : Fin 256) : Prop := (p.val < c.val ∧ c.val ≤ p.val + 128) ∧ (128 ≤ c.val ∨ n.val ≠ 0)

instance (n : Fin 64) (p : Fin 128) : DecidablePred (win n p) := fun c =>
  inferInstanceAs (Decidable ((p.val < c.val ∧ c.val ≤ p.val + 128) ∧ (128 ≤ c.val ∨ n.val ≠ 0)))

/-- A column's key: of the block before (nothing before the first), then of the block itself. -/
def at2 (f : Fin 8192 → ℝ) (n : Fin 64) (c : Fin 256) : ℝ :=
  if h : c.val < 128 then if n.val = 0 then 0 else f (tok (before n) ⟨c.val, h⟩) else f (tok n ⟨c.val - 128, by omega⟩)

/-- The column of a lane. -/
def col (p j : Fin 128) : Fin 256 := if j.val ≤ p.val then ⟨128 + j.val, by omega⟩ else ⟨j.val, by omega⟩

theorem col_val (p j : Fin 128) : (col p j).val = if j.val ≤ p.val then 128 + j.val else j.val := by
  unfold col
  split <;> rfl

theorem win_col (n : Fin 64) (p j : Fin 128) : win n p (col p j) ↔ act n p j := by
  unfold win act
  rw [col_val]
  split <;> omega

theorem at2_col (f : Fin 8192 → ℝ) (n : Fin 64) (p j : Fin 128) (h : act n p j) : at2 f n (col p j) = f (ktok n p j) := by
  unfold act at h
  unfold at2 col ktok
  by_cases hj : j.val ≤ p.val
  · simp only [if_pos hj]
    rw [dif_neg (by omega)]
    exact congrArg f (congrArg (tok n) (Fin.ext (by simp)))
  · simp only [if_neg hj]
    rw [dif_pos j.isLt, if_neg (by omega)]

theorem col_injective (p : Fin 128) : Function.Injective (col p) := fun a b h => by
  have h' := congrArg Fin.val h
  rw [col_val, col_val] at h'
  split at h' <;> split at h' <;> exact Fin.ext (by omega)

/-- A sum over the columns of something that is zero outside the window is the sum over the lanes. -/
theorem sum_col (n : Fin 64) (p : Fin 128) (F : Fin 256 → ℝ) (f : Fin 128 → ℝ) (h0 : ∀ c, ¬win n p c → F c = 0)
    (h1 : ∀ j, F (col p j) = f j) : ∑ c, F c = ∑ j, f j := by
  refine (Fintype.sum_of_injective (col p) (col_injective p) f F (fun c hc => h0 c fun hw => hc ?_) fun j => (h1 j).symm).symm
  by_cases hc : c.val < 128
  · refine ⟨⟨c.val, hc⟩, Fin.ext ?_⟩
    rw [col_val, if_neg (by have := hw.1; show ¬c.val ≤ p.val; omega)]
  · refine ⟨⟨c.val - 128, by omega⟩, Fin.ext ?_⟩
    rw [col_val, if_pos (by have := hw.1; show c.val - 128 ≤ p.val; omega)]
    show 128 + (c.val - 128) = c.val
    omega

section row
variable (n : Fin 64) (p : Fin 128) (X G : Fin 256 → ℝ) (x g : Fin 128 → ℝ) (y : ℝ)
  (hx : ∀ j, act n p j → X (col p j) = x j) (hg : ∀ j, act n p j → G (col p j) = g j)

include hx in
theorem ex_col (j : Fin 128) : ex (win n p) X (col p j) = ex (act n p) x j := by
  unfold ex
  by_cases h : act n p j
  · rw [if_pos h, if_pos ((win_col n p j).mpr h), hx j h]
  · rw [if_neg h, if_neg (mt (win_col n p j).mp h)]

include hx in
theorem nrm_col : nrm (win n p) X y = nrm (act n p) x y :=
  congrArg (· + _) (sum_col n p _ _ (fun c h => by rw [ex, if_neg h]) (ex_col n p X x hx))

include hx in
theorem pr_col (j : Fin 128) : pr (win n p) X y (col p j) = pr (act n p) x y j := by
  rw [pr, pr, ex_col n p X x hx, nrm_col n p X x y hx]

include hx hg in
theorem wt_col : wt (win n p) X G y = wt (act n p) x g y :=
  sum_col n p _ _ (fun c h => by rw [pr_of_not _ _ _ h, zero_mul]) fun j => by
    rw [pr_col n p X x y hx]
    by_cases h : act n p j
    · rw [hg j h]
    · rw [pr_of_not _ _ _ h, zero_mul, zero_mul]

include hx hg in
theorem ds_col (j : Fin 128) : ds (win n p) X G y (col p j) = ds (act n p) x g y j := by
  rw [ds, ds, pr_col n p X x y hx, wt_col n p X G x g y hx hg]
  by_cases h : act n p j
  · rw [hg j h]
  · rw [pr_of_not _ _ _ h, zero_mul, zero_mul]

include hx hg in
theorem dk_col : dk (win n p) X G y = dk (act n p) x g y := by
  rw [dk, dk, nrm_col n p X x y hx, wt_col n p X G x g y hx hg]

end row

variable (A : Args) (n : Fin 64) (k g : Fin 4) (p j : Fin 128) (d : Fin 64) (c : Fin 256)

/-- A score, by column. -/
def scW : ℝ := (∑ d, A.q (tok n p) k g d * at2 (fun t => A.k t k d) n c) * (1 / 8)

/-- A probability's gradient, by column. -/
def gpW : ℝ := ∑ d, A.g (tok n p) k g d * at2 (fun t => A.v t k d) n c

/-- A probability, by column. -/
def probW : ℝ := pr (win n p) (scW A n k g p) (A.s k g) c

/-- The gradient of a product of a query and a key, by column. -/
def dDotW : ℝ := ds (win n p) (scW A n k g p) (gpW A n k g p) (A.s k g) c * (1 / 8)

/-- A row's gradient of its sink. -/
def dSinkW : ℝ := dk (win n p) (scW A n k g p) (gpW A n k g p) (A.s k g)

theorem scW_col (h : act n p j) : scW A n k g p (col p j) = sc A n k g p j := by
  unfold scW sc
  exact congrArg (· * (1 / 8)) (Finset.sum_congr rfl fun d _ => by rw [at2_col _ n p j h])

theorem gpW_col (h : act n p j) : gpW A n k g p (col p j) = gp A n k g p j :=
  Finset.sum_congr rfl fun d _ => by rw [at2_col _ n p j h]

theorem probW_col : probW A n k g p (col p j) = prob A n k g p j :=
  pr_col n p _ _ _ (fun j h => scW_col A n k g p j h) j

theorem dDotW_col : dDotW A n k g p (col p j) = dDot A n k g p j :=
  congrArg (· * (1 / 8)) (ds_col n p _ _ _ _ _ (fun j h => scW_col A n k g p j h) (fun j h => gpW_col A n k g p j h) j)

theorem dSinkW_eq : dSinkW A n k g p = dSink A n k g p :=
  dk_col n p _ _ _ _ _ (fun j h => scW_col A n k g p j h) fun j h => gpW_col A n k g p j h

theorem probW_of_not (h : ¬win n p c) : probW A n k g p c = 0 := pr_of_not _ _ _ h

theorem dDotW_of_not (h : ¬win n p c) : dDotW A n k g p c = 0 := by rw [dDotW, ds_of_not _ _ _ _ h, zero_mul]

theorem dQ_eq : ∑ c, dDotW A n k g p c * at2 (fun t => A.k t k d) n c = dQ A n k g p d :=
  sum_col n p _ _ (fun c h => by rw [dDotW_of_not A n k g p c h, zero_mul]) fun j => by
    by_cases h : act n p j
    · rw [dDotW_col, at2_col _ n p j h]
    · rw [dDotW_of_not A n k g p _ (mt (win_col n p j).mp h), ← dDotW_col, dDotW_of_not A n k g p _ (mt (win_col n p j).mp h), zero_mul, zero_mul]

/-- The column of a key of the block itself, and of the block before. -/
def own (j : Fin 128) : Fin 256 := ⟨128 + j.val, by omega⟩
def old (j : Fin 128) : Fin 256 := ⟨j.val, by omega⟩

theorem own_eq (h : j.val ≤ p.val) : own j = col p j := by rw [col, if_pos h, own]
theorem old_eq (h : ¬j.val ≤ p.val) : old j = col p j := by rw [col, if_neg h, old]
theorem not_own (h : ¬j.val ≤ p.val) : ¬win n p (own j) := fun hw => by
  have := hw.1.2
  have : (own j).val = 128 + j.val := rfl
  omega
theorem not_old (h : j.val ≤ p.val) : ¬win n p (old j) := fun hw => by
  have := hw.1.1
  have : (old j).val = j.val := rfl
  omega

theorem dKCur_eq : ∑ g, ∑ p, dDotW A n k g p (own j) * A.q (tok n p) k g d = dKCur A n k j d :=
  Finset.sum_congr rfl fun g _ => Finset.sum_congr rfl fun p _ => by
    split
    · rename_i h
      rw [own_eq p j h, dDotW_col]
    · rename_i h
      rw [dDotW_of_not A n k g p _ (not_own n p j h), zero_mul]

theorem dKPrev_eq : ∑ g, ∑ p, dDotW A n k g p (old j) * A.q (tok n p) k g d = dKPrev A n k j d :=
  Finset.sum_congr rfl fun g _ => Finset.sum_congr rfl fun p _ => by
    split
    · rename_i h
      rw [dDotW_of_not A n k g p _ (not_old n p j h), zero_mul]
    · rename_i h
      rw [old_eq p j h, dDotW_col]

theorem dVCur_eq : ∑ g, ∑ p, probW A n k g p (own j) * A.g (tok n p) k g d = dVCur A n k j d :=
  Finset.sum_congr rfl fun g _ => Finset.sum_congr rfl fun p _ => by
    split
    · rename_i h
      rw [own_eq p j h, probW_col]
    · rename_i h
      rw [probW_of_not A n k g p _ (not_own n p j h), zero_mul]

theorem dVPrev_eq : ∑ g, ∑ p, probW A n k g p (old j) * A.g (tok n p) k g d = dVPrev A n k j d :=
  Finset.sum_congr rfl fun g _ => Finset.sum_congr rfl fun p _ => by
    split
    · rename_i h
      rw [probW_of_not A n k g p _ (not_old n p j h), zero_mul]
    · rename_i h
      rw [old_eq p j h, probW_col]

end Cert.Attention
end
-- ==== Proof.RefIn.lean ====
module
public import proofs.«01_k».proof.Proof.RefVals
public import proofs.«01_k».proof.Proof.Window
public import Idealize.ShloMosaic.Lib.Pointwise
import Idealize.ShloMosaic.Lib.WordCmp

/-! The reference's arguments, windows and masked scores in real numbers. -/

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo
open Cert.Attention Cert.SoftmaxRow

/-- The arguments hold real numbers. -/
structure Holds (A : Args) (x : FVec Ideal S8192x1536 .bf16) (s : FVec Ideal S1x16 .f32) (g : FVec Ideal S8192x1024 .bf16) : Prop where
  q : ∀ (T : Fin 8192) (k g : Fin 4) (d : Fin 64), x (ix2 T (⟨(k.val * 4 + g.val) * 64 + d.val, by omega⟩ : Fin 1536)) = (A.q T k g d : EReal)
  k : ∀ (T : Fin 8192) (k : Fin 4) (d : Fin 64), x (ix2 T (⟨1024 + (k.val * 64 + d.val), by omega⟩ : Fin 1536)) = (A.k T k d : EReal)
  v : ∀ (T : Fin 8192) (k : Fin 4) (d : Fin 64), x (ix2 T (⟨1280 + (k.val * 64 + d.val), by omega⟩ : Fin 1536)) = (A.v T k d : EReal)
  s : ∀ k g : Fin 4, s (ix2 (0 : Fin 1) (⟨k.val * 4 + g.val, by omega⟩ : Fin 16)) = (A.s k g : EReal)
  g : ∀ (T : Fin 8192) (k g' : Fin 4) (d : Fin 64), g (ix2 T (⟨k.val * 256 + g'.val * 64 + d.val, by omega⟩ : Fin 1024)) = (A.g T k g' d : EReal)

/-- The token of a block, as the reshapes name it. -/
theorem tok_eq (n : Fin 64) (p : Fin 128) (h : n.val * 128 + p.val < 8192) : (⟨n.val * 128 + p.val, h⟩ : Fin 8192) = tok n p :=
  Fin.ext (by show n.val * 128 + p.val = 128 * n.val + p.val; omega)

section words

theorem toInt_small {z : ℤ} (h : -2147483648 ≤ z) (h' : z < 2147483648) : (BitVec.ofInt 32 z).toInt = z := by
  rw [BitVec.toInt_ofInt]
  exact Int.bmod_eq_of_le (by omega) (by omega)

theorem ofInt_sub (a b : ℤ) : BitVec.ofInt 32 a - BitVec.ofInt 32 b = BitVec.ofInt 32 (a - b) := by
  rw [sub_eq_add_neg a b, BitVec.ofInt_add, BitVec.ofInt_neg, BitVec.sub_eq_add_neg]

/-- A key's position. -/
theorem key_word (n : Fin 64) (c : Fin 256) : IntOp.addi (IntOp.muli (IntOp.subi (BitVec.ofNat 32 n.val) 1#32) 128#32) (BitVec.ofNat 32 c.val)
    = BitVec.ofInt 32 (((n.val : ℤ) - 1) * 128 + c.val) := by
  rw [BitVec.ofInt_add, BitVec.ofInt_mul, ← ofInt_sub, BitVec.ofInt_natCast, BitVec.ofInt_natCast]
  rfl

/-- A query's position. -/
theorem row_word (n : Fin 64) (p : Fin 128) : IntOp.addi (IntOp.muli (BitVec.ofNat 32 n.val) 128#32) (BitVec.ofNat 32 p.val)
    = BitVec.ofInt 32 ((n.val : ℤ) * 128 + p.val) := by
  rw [BitVec.ofInt_add, BitVec.ofInt_mul, BitVec.ofInt_natCast, BitVec.ofInt_natCast]
  rfl

theorem sge_word {z : ℤ} (h : -2147483648 ≤ z) (h' : z < 2147483648) : IntOp.cmpi .sge (BitVec.ofInt 32 z) 0#32 = BitVec.ofBool (decide (0 ≤ z)) := by
  rw [WordCmp.cmpi_sge_eq, toInt_small h h']
  rfl

theorem slt_word {z : ℤ} (h : -2147483648 ≤ z) (h' : z < 2147483648) : IntOp.cmpi .slt (BitVec.ofInt 32 z) 128#32 = BitVec.ofBool (decide (z < 128)) := by
  rw [WordCmp.cmpi_slt_eq, toInt_small h h']
  rfl

theorem and_word (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ, IntOp.andi]

end words

/-- A choice by a decided bit. -/
theorem select_dec {α : Type} (P : Prop) [Decidable P] (x y : α) : Scalar.select (BitVec.ofBool (decide P)) x y = if P then x else y := by
  by_cases h : P <;> simp [h, Scalar.select]

theorem eighth : Ideal.ofBits .f32 1040187392#32 = ((1 / 8 : ℝ) : EReal) := by
  simp [Ideal.ofBits, Ideal.ieee]
  rw [← EReal.coe_mul]
  norm_num

theorem bot_word : Ideal.ofBits .f32 4286578688#32 = ⊥ := by
  simp [Ideal.ofBits, Ideal.ieee]

variable {A : Args} {x0 : FVec Ideal S8192x1536 .bf16} {x1 : FVec Ideal S1x16 .f32} {x2 : FVec Ideal S8192x1024 .bf16} (H : Holds A x0 x1 x2)
  (n : Fin 64) (k g : Fin 4) (p j : Fin 128) (c : Fin 256) (d : Fin 64)

theorem mask_apply : (val_main_v58_1 (F := Ideal)) (ix6 (0 : Fin 1) n k g p c) = BitVec.ofBool (decide (win n p c)) := by
  pointwise [val_main_v58_1, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_c, val_main_c_4, val_main_c_5, val_main_c_6, val_main_c_7, val_main_c_8]
  rw [key_word, row_word]
  unfold IntOp.subi
  rw [ofInt_sub, sge_word (by omega) (by omega), sge_word (by omega) (by omega), slt_word (by omega) (by omega), and_word, and_word]
  refine congrArg BitVec.ofBool (decide_eq_decide.mpr ?_)
  unfold win
  omega

include H in
theorem q_apply : val_main_v8 (F := Ideal) x0 (ix6 (0 : Fin 1) n p k g d) = (A.q (tok n p) k g d : EReal) := by
  pointwise [val_main_v8, val_main_v4, val_main_v1, val_main_v0]
  rw [tok_eq, H.q]

include H in
theorem k_apply : val_main_v16 (F := Ideal) x0 (ix5 (0 : Fin 1) n c k d) = (at2 (fun t => A.k t k d) n c : EReal) := by
  pointwise [val_main_v16, val_main_v14, val_main_v9, val_main_v12, val_main_v13, val_main_cst, val_main_v5, val_main_v2, val_main_v0]
  by_cases h : c.val < 128
  · rw [dif_pos h, at2, dif_pos h]
    by_cases h0 : n.val = 0
    · rw [dif_pos (by omega), if_pos h0]
      simp
    · rw [dif_neg (by omega), if_neg h0]
      exact (congrArg (fun T => x0 (ix2 T _)) (tok_eq (before n) ⟨c.val, h⟩ (by show (n.val - 1) * 128 + c.val < 8192; omega))).trans (H.k (tok (before n) _) k d)
  · rw [dif_neg h, at2, dif_neg h]
    exact (congrArg (fun T => x0 (ix2 T _)) (tok_eq n ⟨c.val - 128, by omega⟩ (by show n.val * 128 + (c.val - 128) < 8192; omega))).trans (H.k (tok n _) k d)

include H in
theorem v_apply : val_main_v22 (F := Ideal) x0 (ix5 (0 : Fin 1) n c k d) = (at2 (fun t => A.v t k d) n c : EReal) := by
  pointwise [val_main_v22, val_main_v20, val_main_v10, val_main_v18, val_main_v19, val_main_cst_1, val_main_v6, val_main_v3, val_main_v0]
  by_cases h : c.val < 128
  · rw [dif_pos h, at2, dif_pos h]
    by_cases h0 : n.val = 0
    · rw [dif_pos (by omega), if_pos h0]
      simp
    · rw [dif_neg (by omega), if_neg h0]
      exact (congrArg (fun T => x0 (ix2 T _)) (tok_eq (before n) ⟨c.val, h⟩ (by show (n.val - 1) * 128 + c.val < 8192; omega))).trans (H.v (tok (before n) _) k d)
  · rw [dif_neg h, at2, dif_neg h]
    exact (congrArg (fun T => x0 (ix2 T _)) (tok_eq n ⟨c.val - 128, by omega⟩ (by show n.val * 128 + (c.val - 128) < 8192; omega))).trans (H.v (tok n _) k d)

include H in
theorem dot_apply : val_main_v26 (F := Ideal) x0 (ix6 (0 : Fin 1) n k g p c) = (scW A n k g p c : EReal) := by
  pointwise [val_main_v26, val_main_v25, val_main_cst_3, val_main_v24, val_main_v23]
  simp only [k_apply H, q_apply H, ← EReal.coe_mul]
  rw [← coe_sum, eighth, ← EReal.coe_mul, scW]
  exact congrArg (fun r : ℝ => ((r * (1 / 8) : ℝ) : EReal)) (Finset.sum_congr rfl fun d _ => mul_comm _ _)

include H in
theorem score_apply : val_main_v58_0 (F := Ideal) x0 (ix6 (0 : Fin 1) n k g p c) = score (win n p) (scW A n k g p) c := by
  pointwise [val_main_v58_0, val_main_call0_v2, val_main_call0_v0, val_main_cst_9, id]
  rw [mask_apply, select_dec, dot_apply H, bot_word]
  rfl

include H in
theorem row_apply (e : Fin 257) : val_main_v62 (F := Ideal) x0 x1 (ix6 (0 : Fin 1) n k g p e)
    = if h : e.val < 256 then score (win n p) (scW A n k g p) ⟨e.val, h⟩ else (A.s k g : EReal) := by
  pointwise [val_main_v62, val_main_v61, val_main_v60, val_main_v59, val_main_v7]
  split
  · rw [score_apply H]
  · rw [H.s]

include H in
theorem gp_apply : val_main_v100 (F := Ideal) x0 x2 (ix6 (0 : Fin 1) n k g p c) = (gpW A n k g p c : EReal) := by
  pointwise [val_main_v100, val_main_v99, val_main_v98, val_main_v97, val_main_v96]
  simp only [v_apply H, tok_eq, H.g, ← EReal.coe_mul]
  rw [← coe_sum]
  rfl

end Cert.ReferenceIdeal.Stage
end
-- ==== Proof.RefRed.lean ====
module
public import proofs.«01_k».proof.Proof.RefVals
public import Idealize.ShloMosaic.Lib.Pointwise

/-! The reference's reductions read at an index. -/

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

section general
variable {s t : Shape} {axes : List (Fin s.rank)} (h : s.ReducesTo axes t) (j : t.Idx) {P : Type} [Fintype P] (e : P → s.Idx) (f : s.Idx → P)
  (h1 : ∀ q, h.drop (e q) = j) (h2 : ∀ i, h.drop i = j → e (f i) = i) (h3 : ∀ q, f (e q) = q)

include h1 h2 h3 in
/-- A sum over the indices that fall on one index of the result, by a listing of them. -/
theorem sum_drop (x : s.Idx → EReal) (init : EReal) : Ideal.hostReduceAdd h x init j = init + ∑ q, x (e q) := by
  unfold Ideal.hostReduceAdd
  refine congrArg (init + ·) (Finset.sum_nbij' f e ?_ ?_ ?_ ?_ ?_)
  · exact fun i _ => Finset.mem_univ _
  · exact fun q _ => Finset.mem_filter.mpr ⟨Finset.mem_univ _, h1 q⟩
  · exact fun i hi => h2 i (Finset.mem_filter.mp hi).2
  · exact fun q _ => h3 q
  · exact fun i hi => by rw [h2 i (Finset.mem_filter.mp hi).2]

include h1 h2 h3 in
/-- The same for the largest. -/
theorem fold_drop (x : s.Idx → EReal) (init : EReal) :
    (Finset.univ.filter (fun i => h.drop i = j)).fold max init x = Finset.univ.fold max init fun q => x (e q) := by
  classical
  have hs : Finset.univ.filter (fun i => h.drop i = j) = Finset.univ.image e := by
    ext i
    simp only [Finset.mem_filter, Finset.mem_univ, true_and, Finset.mem_image]
    exact ⟨fun hi => ⟨f i, h2 i hi⟩, fun ⟨q, hq⟩ => hq ▸ h1 q⟩
  rw [hs, Finset.fold_image fun a _ b _ hab => by rw [← h3 a, ← h3 b, hab]]
  rfl

include h1 h2 h3 in
/-- A reduction by the larger. -/
theorem reduce_drop {u : Shape} (hu : 0 < u.numel) (x : FVec Ideal s .f32) (init : FVec Ideal u .f32) :
    Host.reduce FloatOps.maximumf x init h hu j = Finset.univ.fold max (init (Shape.Idx.first hu) : EReal) fun q => (x (e q) : EReal) := by
  rw [Host.reduce_eq_fold]
  exact fold_drop h j e f h1 h2 h3 x (init (Shape.Idx.first hu))
end general

variable (n : Fin 64) (k g : Fin 4) (p : Fin 128)

theorem row_drop (e : Fin 257) : reducesTo_S1x64x4x4x128x257_S1x64x4x4x128_d5.drop (ix6 0 n k g p e) = ix5 0 n k g p := by
  funext a
  fin_cases a <;> rfl

theorem row_of_drop (i : S1x64x4x4x128x257.Idx) (h : reducesTo_S1x64x4x4x128x257_S1x64x4x4x128_d5.drop i = ix5 0 n k g p) :
    ix6 0 n k g p (i 5) = i := by
  have hc := fun b => congrArg Fin.val (congrFun h b)
  funext a
  refine Fin.ext ?_
  fin_cases a
  · exact (hc 0).symm
  · exact (hc 1).symm
  · exact (hc 2).symm
  · exact (hc 3).symm
  · exact (hc 4).symm
  · rfl

theorem sum_row (x : FVec Ideal S1x64x4x4x128x257 .f32) (init : EReal) :
    Ideal.hostReduceAdd reducesTo_S1x64x4x4x128x257_S1x64x4x4x128_d5 x init (ix5 0 n k g p) = init + ∑ e : Fin 257, x (ix6 0 n k g p e) :=
  sum_drop _ _ (fun e : Fin 257 => (ix6 0 n k g p e : S1x64x4x4x128x257.Idx)) (fun i => i 5) (row_drop n k g p) (row_of_drop n k g p) (fun _ => rfl) x init

theorem max_row {u : Shape} (hu : 0 < u.numel) (x : FVec Ideal S1x64x4x4x128x257 .f32) (init : FVec Ideal u .f32) :
    Host.reduce FloatOps.maximumf x init reducesTo_S1x64x4x4x128x257_S1x64x4x4x128_d5 hu (ix5 0 n k g p)
      = Finset.univ.fold max (init (Shape.Idx.first hu) : EReal) fun e : Fin 257 => (x (ix6 0 n k g p e) : EReal) :=
  reduce_drop _ _ (fun e : Fin 257 => (ix6 0 n k g p e : S1x64x4x4x128x257.Idx)) (fun i => i 5) (row_drop n k g p) (row_of_drop n k g p) (fun _ => rfl) hu x init

theorem sum_unit (x : FVec Ideal S1x64x4x4x128x1 .f32) (init : EReal) :
    Ideal.hostReduceAdd reducesTo_S1x64x4x4x128x1_S64x4x4x128_d0_5 x init (ix4 n k g p) = init + x (ix6 0 n k g p 0) := by
  refine (sum_drop reducesTo_S1x64x4x4x128x1_S64x4x4x128_d0_5 (ix4 n k g p) (fun _ : Unit => ix6 0 n k g p 0) (fun _ => ())
    (fun _ => by funext a; fin_cases a <;> rfl) (fun i h => ?_) (fun _ => rfl) x init).trans (by simp)
  have hc := fun b => congrArg Fin.val (congrFun h b)
  funext a
  refine Fin.ext ?_
  fin_cases a
  · exact (Nat.lt_one_iff.mp (i 0).isLt).symm
  · exact (hc 0).symm
  · exact (hc 1).symm
  · exact (hc 2).symm
  · exact (hc 3).symm
  · exact (Nat.lt_one_iff.mp (i 5).isLt).symm

theorem sum_sink (x : FVec Ideal S1x64x4x4x128x1 .f32) (init : EReal) :
    Ideal.hostReduceAdd reducesTo_S1x64x4x4x128x1_S4x4_d0_1_4_5 x init (ix2 k g) = init + ∑ n, ∑ p, x (ix6 0 n k g p 0) := by
  refine (sum_drop reducesTo_S1x64x4x4x128x1_S4x4_d0_1_4_5 (ix2 k g) (fun q : Fin 64 × Fin 128 => ix6 0 q.1 k g q.2 0) (fun i => (i 1, i 4))
    (fun _ => by funext a; fin_cases a <;> rfl) (fun i h => ?_) (fun _ => rfl) x init).trans (by rw [Fintype.sum_prod_type])
  have hc := fun b => congrArg Fin.val (congrFun h b)
  funext a
  refine Fin.ext ?_
  fin_cases a
  · exact (Nat.lt_one_iff.mp (i 0).isLt).symm
  · rfl
  · exact (hc 0).symm
  · exact (hc 1).symm
  · rfl
  · exact (Nat.lt_one_iff.mp (i 5).isLt).symm

theorem sum_units (x : FVec Ideal S1x1x4x4x1x1 .f32) (init : EReal) :
    Ideal.hostReduceAdd reducesTo_S1x1x4x4x1x1_S4x4_d0_1_4_5 x init (ix2 k g) = init + x (ix6 0 0 k g 0 0) := by
  refine (sum_drop reducesTo_S1x1x4x4x1x1_S4x4_d0_1_4_5 (ix2 k g) (fun _ : Unit => ix6 0 0 k g 0 0) (fun _ => ())
    (fun _ => by funext a; fin_cases a <;> rfl) (fun i h => ?_) (fun _ => rfl) x init).trans (by simp)
  have hc := fun b => congrArg Fin.val (congrFun h b)
  funext a
  refine Fin.ext ?_
  fin_cases a
  · exact (Nat.lt_one_iff.mp (i 0).isLt).symm
  · exact (Nat.lt_one_iff.mp (i 1).isLt).symm
  · exact (hc 0).symm
  · exact (hc 1).symm
  · exact (Nat.lt_one_iff.mp (i 4).isLt).symm
  · exact (Nat.lt_one_iff.mp (i 5).isLt).symm

end Cert.ReferenceIdeal.Stage
end
-- ==== Proof.RefSoft.lean ====
module
public import proofs.«01_k».proof.Proof.RefIn
public import proofs.«01_k».proof.Proof.RefRed

/-! The reference's softmax and its gradient, row by row, in real numbers. -/

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo
open Cert.Attention Cert.SoftmaxRow

theorem zero_word : Ideal.ofBits .f32 0#32 = 0 := by
  simp [Ideal.ofBits, Ideal.ieee]

theorem one_word : Ideal.ofBits .f32 1065353216#32 = 1 := by
  simp [Ideal.ofBits, Ideal.ieee]
  rw [← EReal.coe_mul]
  norm_num

theorem fold_last (f : Fin 257 → EReal) :
    Finset.univ.fold max ⊥ f = max (Finset.univ.fold max ⊥ fun c : Fin 256 => f ⟨c.val, by omega⟩) (f ⟨256, by omega⟩) := by
  rw [Fin.univ_castSuccEmb, Finset.fold_cons, Finset.fold_map, max_comm]
  rfl

theorem sum_last (f : Fin 257 → EReal) : ∑ e, f e = (∑ c : Fin 256, f ⟨c.val, by omega⟩) + f ⟨256, by omega⟩ :=
  Fin.sum_univ_castSucc (n := 256) f

section read
variable (x0 : FVec Ideal S8192x1536 .bf16) (x1 : FVec Ideal S1x16 .f32) (x2 : FVec Ideal S8192x1024 .bf16)
  (n : Fin 64) (k g : Fin 4) (p : Fin 128) (e : Fin 257)

theorem v63_apply : val_main_v63 (F := Ideal) x0 x1 (ix5 (0 : Fin 1) n k g p)
    = Finset.univ.fold max ⊥ fun e : Fin 257 => val_main_v62 (F := Ideal) x0 x1 (ix6 (0 : Fin 1) n k g p e) := by
  rw [← bot_word]
  exact max_row n k g p h_S_ (val_main_v62 (F := Ideal) x0 x1) (val_main_cst_10 (F := Ideal))

theorem max_least (w : FVec Ideal S1x64x4x4x128 .f32) :
    (maximumf (val_main_v69 (F := Ideal)) w : FVec Ideal S1x64x4x4x128 .f32) (ix5 (0 : Fin 1) n k g p) = w (ix5 (0 : Fin 1) n k g p) := by
  have h : val_main_v69 (F := Ideal) (ix5 (0 : Fin 1) n k g p) = (⊥ : EReal) := bot_word
  show max (val_main_v69 (F := Ideal) (ix5 (0 : Fin 1) n k g p) : EReal) _ = _
  rw [h]
  exact max_eq_right (bot_le (α := EReal))

theorem v70_apply : val_main_v70 (F := Ideal) x0 x1 (ix5 (0 : Fin 1) n k g p)
    = Finset.univ.fold max ⊥ fun e : Fin 257 => val_main_v62 (F := Ideal) x0 x1 (ix6 (0 : Fin 1) n k g p e) :=
  (max_least n k g p _).trans (v63_apply x0 x1 n k g p)

theorem v81_apply : val_main_v81 (F := Ideal) x0 x1 (ix6 (0 : Fin 1) n k g p e) = val_main_v70 (F := Ideal) x0 x1 (ix5 (0 : Fin 1) n k g p) := by
  unfold val_main_v81 val_main_v80
  generalize val_main_v70 (F := Ideal) x0 x1 = w
  pointwise []

theorem v83_apply : val_main_v83 (F := Ideal) x0 x1 (ix6 (0 : Fin 1) n k g p e)
    = Ideal.exp (val_main_v62 (F := Ideal) x0 x1 (ix6 (0 : Fin 1) n k g p e) - val_main_v70 (F := Ideal) x0 x1 (ix5 (0 : Fin 1) n k g p)) := by
  rw [← v81_apply x0 x1 n k g p e]
  rfl

theorem v84_apply : val_main_v84 (F := Ideal) x0 x1 (ix5 (0 : Fin 1) n k g p) = ∑ e : Fin 257, val_main_v83 (F := Ideal) x0 x1 (ix6 (0 : Fin 1) n k g p e) := by
  have h := sum_row n k g p (val_main_v83 (F := Ideal) x0 x1) (Ideal.ofBits .f32 0#32)
  rw [zero_word, zero_add, ← zero_word] at h
  exact h

theorem v85_apply : val_main_v85 (F := Ideal) x0 x1 (ix6 (0 : Fin 1) n k g p (0 : Fin 1)) = val_main_v84 (F := Ideal) x0 x1 (ix5 (0 : Fin 1) n k g p) := by
  unfold val_main_v85
  generalize val_main_v84 (F := Ideal) x0 x1 = w
  pointwise []

theorem v86_apply : val_main_v86 (F := Ideal) x0 x1 (ix6 (0 : Fin 1) n k g p e) = val_main_v85 (F := Ideal) x0 x1 (ix6 (0 : Fin 1) n k g p (0 : Fin 1)) := by
  unfold val_main_v86
  generalize val_main_v85 (F := Ideal) x0 x1 = w
  pointwise []

theorem v87_apply : val_main_v87 (F := Ideal) x0 x1 (ix6 (0 : Fin 1) n k g p e)
    = Ideal.div (val_main_v83 (F := Ideal) x0 x1 (ix6 (0 : Fin 1) n k g p e)) (val_main_v84 (F := Ideal) x0 x1 (ix5 (0 : Fin 1) n k g p)) := by
  rw [← v85_apply, ← v86_apply x0 x1 n k g p e]
  rfl

theorem v104_apply : val_main_v104 (F := Ideal) x0 x1 (ix6 (0 : Fin 1) n k g p e)
    = Ideal.div 1 (val_main_v84 (F := Ideal) x0 x1 (ix5 (0 : Fin 1) n k g p) * val_main_v84 (F := Ideal) x0 x1 (ix5 (0 : Fin 1) n k g p)) := by
  rw [← v85_apply]
  unfold val_main_v104 val_main_v90 val_main_v88
  generalize val_main_v85 (F := Ideal) x0 x1 = w
  pointwise [val_main_v89, val_main_cst_19]

theorem v106_apply : val_main_v106 (F := Ideal) x0 x1 x2 (ix6 (0 : Fin 1) n k g p e)
    = val_main_v103 (F := Ideal) x0 x2 (ix6 (0 : Fin 1) n k g p e) * val_main_v104 (F := Ideal) x0 x1 (ix6 (0 : Fin 1) n k g p e)
      * val_main_v83 (F := Ideal) x0 x1 (ix6 (0 : Fin 1) n k g p e) := rfl

theorem v107_apply : val_main_v107 (F := Ideal) x0 x1 x2 (ix5 (0 : Fin 1) n k g p)
    = ∑ e : Fin 257, val_main_v106 (F := Ideal) x0 x1 x2 (ix6 (0 : Fin 1) n k g p e) := by
  have h := sum_row n k g p (val_main_v106 (F := Ideal) x0 x1 x2) (Ideal.ofBits .f32 0#32)
  rw [zero_word, zero_add, ← zero_word] at h
  exact h

theorem v109_apply : val_main_v109 (F := Ideal) x0 x1 x2 (ix6 (0 : Fin 1) n k g p (0 : Fin 1))
    = -val_main_v107 (F := Ideal) x0 x1 x2 (ix5 (0 : Fin 1) n k g p) := by
  unfold val_main_v109 val_main_v108
  generalize val_main_v107 (F := Ideal) x0 x1 x2 = w
  pointwise []

theorem v112_apply : val_main_v112 (F := Ideal) x0 x1 x2 (ix4 n k g p) = val_main_v109 (F := Ideal) x0 x1 x2 (ix6 (0 : Fin 1) n k g p (0 : Fin 1)) := by
  have h := sum_unit n k g p (val_main_v109 (F := Ideal) x0 x1 x2) (Ideal.ofBits .f32 0#32)
  rw [zero_word, zero_add, ← zero_word] at h
  exact h

theorem v114_apply : val_main_v114 (F := Ideal) x0 x1 x2 (ix6 (0 : Fin 1) n k g p e) = val_main_v112 (F := Ideal) x0 x1 x2 (ix4 n k g p) := by
  unfold val_main_v114 val_main_v113
  generalize val_main_v112 (F := Ideal) x0 x1 x2 = w
  pointwise []

theorem v111_apply : val_main_v111 (F := Ideal) x0 x1 x2 (ix6 (0 : Fin 1) n k g p e)
    = Ideal.div (val_main_v103 (F := Ideal) x0 x2 (ix6 (0 : Fin 1) n k g p e)) (val_main_v84 (F := Ideal) x0 x1 (ix5 (0 : Fin 1) n k g p)) := by
  rw [← v85_apply, ← v86_apply x0 x1 n k g p e]
  rfl

theorem v116_apply : val_main_v116 (F := Ideal) x0 x1 x2 (ix6 (0 : Fin 1) n k g p e)
    = (val_main_v111 (F := Ideal) x0 x1 x2 (ix6 (0 : Fin 1) n k g p e) + val_main_v114 (F := Ideal) x0 x1 x2 (ix6 (0 : Fin 1) n k g p e))
      * val_main_v83 (F := Ideal) x0 x1 (ix6 (0 : Fin 1) n k g p e) := rfl

theorem v103_lane (c : Fin 256) : val_main_v103 (F := Ideal) x0 x2 (ix6 (0 : Fin 1) n k g p (⟨c.val, by omega⟩ : Fin 257))
    = val_main_v100 (F := Ideal) x0 x2 (ix6 (0 : Fin 1) n k g p c) := by
  unfold val_main_v103
  generalize val_main_v100 (F := Ideal) x0 x2 = w
  pointwise [val_main_cst_20]

theorem v103_sink : val_main_v103 (F := Ideal) x0 x2 (ix6 (0 : Fin 1) n k g p (⟨256, by omega⟩ : Fin 257)) = 0 := by
  unfold val_main_v103
  generalize val_main_v100 (F := Ideal) x0 x2 = w
  pointwise [val_main_cst_20]

end read

variable (A : Args) {x0 : FVec Ideal S8192x1536 .bf16} {x1 : FVec Ideal S1x16 .f32} {x2 : FVec Ideal S8192x1024 .bf16} (H : Holds A x0 x1 x2)
  (n : Fin 64) (k g : Fin 4) (p j : Fin 128) (c : Fin 256) (d : Fin 64)

/-- A row's shift. -/
def shift : ℝ := (shift_real (win n p) (scW A n k g p) (A.s k g)).choose

theorem shift_spec : max (Finset.univ.fold max ⊥ (score (win n p) (scW A n k g p))) (A.s k g : EReal) = (shift A n k g p : EReal) :=
  (shift_real (win n p) (scW A n k g p) (A.s k g)).choose_spec

/-- A row's shifted exponentials, and their sum with the sink's. -/
def exS : ℝ := ex (win n p) (scW A n k g p) c * Real.exp (-shift A n k g p)
def nrmS : ℝ := nrm (win n p) (scW A n k g p) (A.s k g) * Real.exp (-shift A n k g p)
/-- The normaliser's gradient. -/
def dNrm : ℝ := -(wt (win n p) (scW A n k g p) (gpW A n k g p) (A.s k g) / nrmS A n k g p)

variable {A}
include H

theorem lane_apply : val_main_v62 (F := Ideal) x0 x1 (ix6 (0 : Fin 1) n k g p (⟨c.val, by omega⟩ : Fin 257)) = score (win n p) (scW A n k g p) c := by
  rw [row_apply H, dif_pos c.isLt]

theorem sink_apply : val_main_v62 (F := Ideal) x0 x1 (ix6 (0 : Fin 1) n k g p (⟨256, by omega⟩ : Fin 257)) = (A.s k g : EReal) := by
  rw [row_apply H, dif_neg (by show ¬256 < 256; omega)]

theorem shift_apply : val_main_v70 (F := Ideal) x0 x1 (ix5 (0 : Fin 1) n k g p) = (shift A n k g p : EReal) := by
  rw [v70_apply, fold_last, sink_apply H]
  simp only [lane_apply H]
  exact shift_spec A n k g p

theorem exp_lane : val_main_v83 (F := Ideal) x0 x1 (ix6 (0 : Fin 1) n k g p (⟨c.val, by omega⟩ : Fin 257)) = (exS A n k g p c : EReal) := by
  rw [v83_apply, lane_apply H, shift_apply H]
  exact exp_score _ _ _ _

theorem exp_last : val_main_v83 (F := Ideal) x0 x1 (ix6 (0 : Fin 1) n k g p (⟨256, by omega⟩ : Fin 257))
    = ((Real.exp (A.s k g) * Real.exp (-shift A n k g p) : ℝ) : EReal) := by
  rw [v83_apply, sink_apply H, shift_apply H]
  exact exp_sink _ _

theorem norm_apply : val_main_v84 (F := Ideal) x0 x1 (ix5 (0 : Fin 1) n k g p) = (nrmS A n k g p : EReal) := by
  rw [v84_apply, sum_last, exp_last H]
  simp only [exp_lane H]
  exact norm_eq _ _ _ _

theorem prob_lane : val_main_v87 (F := Ideal) x0 x1 (ix6 (0 : Fin 1) n k g p (⟨c.val, by omega⟩ : Fin 257)) = (probW A n k g p c : EReal) := by
  rw [v87_apply, exp_lane H, norm_apply H]
  exact prob_eq _ _ _ _ _

theorem dNorm_apply (e : Fin 257) : val_main_v114 (F := Ideal) x0 x1 x2 (ix6 (0 : Fin 1) n k g p e) = (dNrm A n k g p : EReal) := by
  rw [v114_apply, v112_apply, v109_apply, v107_apply, sum_last]
  simp only [v106_apply, v104_apply, v103_lane, v103_sink, exp_lane H, norm_apply H, gp_apply H]
  rw [zero_mul, zero_mul, add_zero, ← zero_sub]
  exact dNorm_eq (win n p) (scW A n k g p) (gpW A n k g p) (A.s k g) (shift A n k g p)

theorem dScore_lane : val_main_v116 (F := Ideal) x0 x1 x2 (ix6 (0 : Fin 1) n k g p (⟨c.val, by omega⟩ : Fin 257))
    = (ds (win n p) (scW A n k g p) (gpW A n k g p) (A.s k g) c : EReal) := by
  rw [v116_apply, v111_apply, v103_lane, dNorm_apply H, exp_lane H, norm_apply H, gp_apply H]
  exact dScore_eq (win n p) (scW A n k g p) (gpW A n k g p) (A.s k g) (shift A n k g p) c

theorem dScore_sink : val_main_v116 (F := Ideal) x0 x1 x2 (ix6 (0 : Fin 1) n k g p (⟨256, by omega⟩ : Fin 257)) = (dSinkW A n k g p : EReal) := by
  rw [v116_apply, v111_apply, v103_sink, dNorm_apply H, exp_last H, norm_apply H, nrmS,
    div_zero_left (EReal.coe_ne_zero.mpr (scaled_ne (win n p) (scW A n k g p) (A.s k g) (shift A n k g p))), zero_add]
  exact dSink_eq (win n p) (scW A n k g p) (gpW A n k g p) (A.s k g) (shift A n k g p)

end Cert.ReferenceIdeal.Stage
end
-- ==== Proof.RefOut.lean ====
module
public import proofs.«01_k».proof.Proof.RefSoft

/-! The reference's results in real numbers. -/

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo
open Cert.Attention Cert.SoftmaxRow

section read
variable (x0 : FVec Ideal S8192x1536 .bf16) (x1 : FVec Ideal S1x16 .f32) (x2 : FVec Ideal S8192x1024 .bf16)
  (n : Fin 64) (k g : Fin 4) (p j : Fin 128) (c : Fin 256) (d : Fin 64)

theorem v91_apply : val_main_v91 (F := Ideal) x0 x1 (ix6 (0 : Fin 1) n k g p c)
    = val_main_v87 (F := Ideal) x0 x1 (ix6 (0 : Fin 1) n k g p (⟨c.val, by omega⟩ : Fin 257)) := by
  unfold val_main_v91
  generalize val_main_v87 (F := Ideal) x0 x1 = w
  pointwise []

theorem v117_apply : val_main_v117 (F := Ideal) x0 x1 x2 (ix6 (0 : Fin 1) n k g p c)
    = val_main_v116 (F := Ideal) x0 x1 x2 (ix6 (0 : Fin 1) n k g p (⟨c.val, by omega⟩ : Fin 257)) := by
  unfold val_main_v117
  generalize val_main_v116 (F := Ideal) x0 x1 x2 = w
  pointwise []

theorem v118_apply : val_main_v118 (F := Ideal) x0 x1 x2 (ix6 (0 : Fin 1) n k g p (0 : Fin 1))
    = val_main_v116 (F := Ideal) x0 x1 x2 (ix6 (0 : Fin 1) n k g p (⟨256, by omega⟩ : Fin 257)) := by
  unfold val_main_v118
  generalize val_main_v116 (F := Ideal) x0 x1 x2 = w
  pointwise []

theorem v119_apply : val_main_v119 (F := Ideal) x0 x1 x2 (ix2 k g) = ∑ n : Fin 64, ∑ p : Fin 128, val_main_v118 (F := Ideal) x0 x1 x2 (ix6 (0 : Fin 1) n k g p (0 : Fin 1)) := by
  have h := sum_sink k g (val_main_v118 (F := Ideal) x0 x1 x2) (Ideal.ofBits .f32 0#32)
  rw [zero_word, zero_add, ← zero_word] at h
  exact h

theorem v120_apply : val_main_v120 (F := Ideal) x0 x1 x2 (ix6 (0 : Fin 1) (0 : Fin 1) k g (0 : Fin 1) (0 : Fin 1)) = val_main_v119 (F := Ideal) x0 x1 x2 (ix2 k g) := by
  unfold val_main_v120
  generalize val_main_v119 (F := Ideal) x0 x1 x2 = w
  pointwise []

theorem v121_apply : val_main_v121 (F := Ideal) x0 x1 x2 (ix2 k g) = val_main_v120 (F := Ideal) x0 x1 x2 (ix6 (0 : Fin 1) (0 : Fin 1) k g (0 : Fin 1) (0 : Fin 1)) := by
  have h := sum_units k g (val_main_v120 (F := Ideal) x0 x1 x2) (Ideal.ofBits .f32 0#32)
  rw [zero_word, zero_add, ← zero_word] at h
  exact h

theorem v146_apply : val_main_v146 (F := Ideal) x0 x1 x2 (ix2 (0 : Fin 1) (⟨4 * k.val + g.val, by omega⟩ : Fin 16)) = val_main_v121 (F := Ideal) x0 x1 x2 (ix2 k g) := by
  unfold val_main_v146 val_main_v122
  generalize val_main_v121 (F := Ideal) x0 x1 x2 = w
  pointwise []

theorem v123_apply : val_main_v123 (F := Ideal) x0 x1 x2 (ix6 (0 : Fin 1) n k g p c)
    = if win n p c then val_main_v117 (F := Ideal) x0 x1 x2 (ix6 (0 : Fin 1) n k g p c) else 0 := by
  have h : val_main_v123 (F := Ideal) x0 x1 x2 (ix6 (0 : Fin 1) n k g p c)
      = Scalar.select (val_main_v58_1 (F := Ideal) (ix6 (0 : Fin 1) n k g p c)) (val_main_v117 (F := Ideal) x0 x1 x2 (ix6 (0 : Fin 1) n k g p c))
        (val_main_call1_v0 (F := Ideal) (ix6 (0 : Fin 1) n k g p c)) := rfl
  rw [h, mask_apply, select_dec]
  exact if_congr Iff.rfl rfl zero_word

theorem v125_apply : val_main_v125 (F := Ideal) x0 x1 x2 (ix6 (0 : Fin 1) n k g p c)
    = val_main_v123 (F := Ideal) x0 x1 x2 (ix6 (0 : Fin 1) n k g p c) * ((1 / 8 : ℝ) : EReal) := by
  rw [← eighth]
  rfl

theorem v150_apply : val_main_v150 (F := Ideal) x0 x1 x2 (ix2 (⟨128 * n.val + p.val, by omega⟩ : Fin 8192) (⟨64 * (4 * k.val + g.val) + d.val, by omega⟩ : Fin 1024))
    = ∑ c : Fin 256, val_main_v125 (F := Ideal) x0 x1 x2 (ix6 (0 : Fin 1) n k g p c) * val_main_v16 (F := Ideal) x0 (ix5 (0 : Fin 1) n c k d) := by
  unfold val_main_v150 val_main_v149 val_main_v145 val_main_v128 val_main_v127 val_main_v126
  generalize val_main_v125 (F := Ideal) x0 x1 x2 = w
  generalize val_main_v16 (F := Ideal) x0 = z
  pointwise []

theorem v130_apply : val_main_v130 (F := Ideal) x0 x1 x2 (ix5 (0 : Fin 1) n c k d)
    = ∑ p : Fin 128, ∑ g : Fin 4, val_main_v125 (F := Ideal) x0 x1 x2 (ix6 (0 : Fin 1) n k g p c) * val_main_v8 (F := Ideal) x0 (ix6 (0 : Fin 1) n p k g d) := by
  unfold val_main_v130 val_main_v129 val_main_v126
  generalize val_main_v125 (F := Ideal) x0 x1 x2 = w
  generalize val_main_v8 (F := Ideal) x0 = z
  pointwise []

theorem v98_apply : val_main_v98 (F := Ideal) x2 (ix6 (0 : Fin 1) n p k g d)
    = x2 (ix2 (⟨n.val * 128 + p.val, by omega⟩ : Fin 8192) (⟨k.val * 256 + g.val * 64 + d.val, by omega⟩ : Fin 1024)) := by
  pointwise [val_main_v98, val_main_v97, val_main_v96]

theorem v102_apply : val_main_v102 (F := Ideal) x0 x1 x2 (ix5 (0 : Fin 1) n c k d)
    = ∑ g : Fin 4, ∑ p : Fin 128, val_main_v98 (F := Ideal) x2 (ix6 (0 : Fin 1) n p k g d) * val_main_v91 (F := Ideal) x0 x1 (ix6 (0 : Fin 1) n k g p c) := by
  unfold val_main_v102 val_main_v101 val_main_v99
  generalize val_main_v91 (F := Ideal) x0 x1 = w
  generalize val_main_v98 (F := Ideal) x2 = z
  pointwise []

theorem v151_apply : val_main_v151 (F := Ideal) x0 x1 x2 (ix2 (⟨128 * n.val + j.val, by omega⟩ : Fin 8192) (⟨64 * k.val + d.val, by omega⟩ : Fin 256))
    = val_main_v130 (F := Ideal) x0 x1 x2 (ix5 (0 : Fin 1) n (own j) k d)
      + if h : n.val + 1 < 64 then val_main_v130 (F := Ideal) x0 x1 x2 (ix5 (0 : Fin 1) (⟨n.val + 1, h⟩ : Fin 64) (old j) k d) else 0 := by
  unfold val_main_v151 val_main_v148 val_main_v144 val_main_v142 val_main_v141 val_main_v140 val_main_v138 val_main_v137
  generalize val_main_v130 (F := Ideal) x0 x1 x2 = w
  pointwise [val_main_cst_27]
  refine congrArg (w (ix5 (0 : Fin 1) n (own j) k d) + ·) ?_
  by_cases h : n.val + 1 < 64
  · rw [dif_pos h, dif_pos (by omega)]
    exact congrArg (fun i => w (ix5 (0 : Fin 1) i (old j) k d)) (Fin.ext (Nat.add_comm _ _))
  · rw [dif_neg h, dif_neg (by omega)]

theorem v152_apply : val_main_v152 (F := Ideal) x0 x1 x2 (ix2 (⟨128 * n.val + j.val, by omega⟩ : Fin 8192) (⟨64 * k.val + d.val, by omega⟩ : Fin 256))
    = val_main_v102 (F := Ideal) x0 x1 x2 (ix5 (0 : Fin 1) n (own j) k d)
      + if h : n.val + 1 < 64 then val_main_v102 (F := Ideal) x0 x1 x2 (ix5 (0 : Fin 1) (⟨n.val + 1, h⟩ : Fin 64) (old j) k d) else 0 := by
  unfold val_main_v152 val_main_v147 val_main_v143 val_main_v136 val_main_v135 val_main_v134 val_main_v132 val_main_v131
  generalize val_main_v102 (F := Ideal) x0 x1 x2 = w
  pointwise [val_main_cst_26]
  refine congrArg (w (ix5 (0 : Fin 1) n (own j) k d) + ·) ?_
  by_cases h : n.val + 1 < 64
  · rw [dif_pos h, dif_pos (by omega)]
    exact congrArg (fun i => w (ix5 (0 : Fin 1) i (old j) k d)) (Fin.ext (Nat.add_comm _ _))
  · rw [dif_neg h, dif_neg (by omega)]

end read

variable {A : Args} {x0 : FVec Ideal S8192x1536 .bf16} {x1 : FVec Ideal S1x16 .f32} {x2 : FVec Ideal S8192x1024 .bf16} (H : Holds A x0 x1 x2)
  (n : Fin 64) (k g : Fin 4) (p j : Fin 128) (c : Fin 256) (d : Fin 64)
include H

theorem dDot_apply : val_main_v125 (F := Ideal) x0 x1 x2 (ix6 (0 : Fin 1) n k g p c) = (dDotW A n k g p c : EReal) := by
  rw [v125_apply, v123_apply, v117_apply, dScore_lane H, dDotW, EReal.coe_mul]
  by_cases h : win n p c
  · rw [if_pos h]
  · rw [if_neg h, ds_of_not _ _ _ _ h, EReal.coe_zero]

theorem dKeys_apply : val_main_v130 (F := Ideal) x0 x1 x2 (ix5 (0 : Fin 1) n c k d)
    = ((∑ g, ∑ p, dDotW A n k g p c * A.q (tok n p) k g d : ℝ) : EReal) := by
  rw [v130_apply, Finset.sum_comm]
  simp only [dDot_apply H, q_apply H, ← EReal.coe_mul, ← coe_sum]

theorem dVals_apply : val_main_v102 (F := Ideal) x0 x1 x2 (ix5 (0 : Fin 1) n c k d)
    = ((∑ g, ∑ p, probW A n k g p c * A.g (tok n p) k g d : ℝ) : EReal) := by
  rw [v102_apply]
  simp only [v91_apply, prob_lane H, v98_apply, tok_eq, H.g, ← EReal.coe_mul, ← coe_sum]
  simp only [mul_comm (probW _ _ _ _ _ _)]

theorem resQ : val_main_v150 (F := Ideal) x0 x1 x2 (ix2 (tok n p) (⟨64 * (4 * k.val + g.val) + d.val, by omega⟩ : Fin 1024)) = (dQ A n k g p d : EReal) := by
  refine (v150_apply x0 x1 x2 n k g p d).trans ?_
  simp only [dDot_apply H, k_apply H, ← EReal.coe_mul, ← coe_sum]
  rw [dQ_eq]

theorem resK : val_main_v151 (F := Ideal) x0 x1 x2 (ix2 (tok n j) (⟨64 * k.val + d.val, by omega⟩ : Fin 256)) = (dK A n k j d : EReal) := by
  refine (v151_apply x0 x1 x2 n k j d).trans ?_
  simp only [dKeys_apply H, dKCur_eq, dKPrev_eq]
  rw [dK, EReal.coe_add]
  split <;> rfl

theorem resV : val_main_v152 (F := Ideal) x0 x1 x2 (ix2 (tok n j) (⟨64 * k.val + d.val, by omega⟩ : Fin 256)) = (dV A n k j d : EReal) := by
  refine (v152_apply x0 x1 x2 n k j d).trans ?_
  simp only [dVals_apply H, dVCur_eq, dVPrev_eq]
  rw [dV, EReal.coe_add]
  split <;> rfl

theorem resS : val_main_v146 (F := Ideal) x0 x1 x2 (ix2 (0 : Fin 1) (⟨4 * k.val + g.val, by omega⟩ : Fin 16)) = (dS A k g : EReal) := by
  rw [v146_apply, v121_apply, v120_apply, v119_apply]
  simp only [v118_apply, dScore_sink H, dSinkW_eq, ← coe_sum]
  rfl

end Cert.ReferenceIdeal.Stage
end
-- ==== Proof.Finite.lean ====
module
public import proofs.«01_k».proof.Proof.Gen.Pre_finite
public import Idealize.ShloMosaic.PureOps.Ideal
import Idealize.ShloMosaic.Lib.ReduceAll

/-! Where the precondition holds, every entry of the arguments is a real number. -/

@[expose] public section

noncomputable section

namespace Cert.Pre_finite

open Cert.Pre_finite.Gen Idealize.ShloMosaic

theorem both_one {a b : BitVec 1} (h : IntOp.andi a b = 1#1) : a = 1#1 ∧ b = 1#1 := by
  revert a b
  decide

theorem top_word : Ideal.ofBits .f32 0x7F800000#32 = ⊤ := by
  simp [Ideal.ofBits, Ideal.ieee]

theorem real_of {x : EReal} (h : Ideal.cmp .olt (max x (-x)) (Ideal.ofBits .f32 0x7F800000#32) = 1#1) : ∃ r : ℝ, x = (r : EReal) := by
  rw [top_word] at h
  have hlt : max x (-x) < ⊤ := by
    by_contra hn
    rw [Ideal.cmp] at h
    simp only [hn, decide_false] at h
    exact absurd h (by decide)
  refine ⟨x.toReal, (EReal.coe_toReal ?_ ?_).symm⟩
  · exact (lt_of_le_of_lt (le_max_left _ _) hlt).ne
  · rintro rfl
    exact absurd (lt_of_le_of_lt (le_max_right _ _) hlt) (by simp)

instance : Subsingleton S_.Idx := ⟨fun a b => funext fun i => i.elim0⟩

/-- A check of all of an array's entries gives each. -/
theorem real_entries {s : Shape} {axes : List (Fin s.rank)} (h : s.ReducesTo axes S_) (x : s.Idx → EReal) (p : s.Idx → BitVec 1)
    (hp : ∀ i, p i = Ideal.cmp .olt (max (x i) (-x i)) (Ideal.ofBits .f32 0x7F800000#32)) (init : S_.Idx → BitVec 1) (hu : 0 < S_.numel) (j : S_.Idx)
    (e : Host.reduce IntOp.andi p init h hu j = 1#1) (i : s.Idx) : ∃ r : ℝ, x i = (r : EReal) :=
  real_of ((hp i).symm.trans (Host.reduce_andi_all p init h hu j e i))

variable {x0 : FVec Ideal S8192x1536 .bf16} {x1 : FVec Ideal S1x16 .f32} {x2 : FVec Ideal S8192x1024 .bf16}

theorem all_real (h : fn (F := Ideal) x0 x1 x2 = fun _ => 1#1) :
    (∀ i, ∃ r : ℝ, (x0 i : EReal) = (r : EReal)) ∧ (∀ i, ∃ r : ℝ, (x1 i : EReal) = (r : EReal)) ∧ ∀ i, ∃ r : ℝ, (x2 i : EReal) = (r : EReal) := by
  have h' := congrFun h (Shape.Idx.first h_S_)
  obtain ⟨h01, h2⟩ := both_one h'
  obtain ⟨h0, h1⟩ := both_one h01
  exact ⟨real_entries _ x0 _ (fun _ => rfl) _ _ _ h0, real_entries _ x1 _ (fun _ => rfl) _ _ _ h1, real_entries _ x2 _ (fun _ => rfl) _ _ _ h2⟩

end Cert.Pre_finite
end
-- ==== Proof.Meet.lean ====
module
public import proofs.«01_k».proof.Proof.Blocks
public import proofs.«01_k».proof.Proof.RefOut
public import proofs.«01_k».proof.Proof.Finite

/-! The kernel's arrays are the reference's results. -/

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attention (Args tok)

section index

/-- Every index of the outputs, by block, row, head and feature. -/
theorem tok_cases (T : Fin 8192) : ∃ n p, T = tok n p :=
  ⟨⟨T.val / 128, by omega⟩, ⟨T.val % 128, by omega⟩, Fin.ext (by show T.val = 128 * (T.val / 128) + T.val % 128; omega)⟩

theorem kcol_cases (C : Fin 256) : ∃ k d, C = kcol k d :=
  ⟨⟨C.val / 64, by omega⟩, ⟨C.val % 64, by omega⟩, Fin.ext (by show C.val = 64 * (C.val / 64) + C.val % 64; omega)⟩

theorem qcol_cases (C : Fin 1024) : ∃ k g d, C = qcol k g d :=
  ⟨⟨C.val / 256, by omega⟩, ⟨C.val / 64 % 4, by omega⟩, ⟨C.val % 64, by omega⟩,
    Fin.ext (by show C.val = 64 * (4 * (C.val / 256) + C.val / 64 % 4) + C.val % 64; omega)⟩

theorem scol_cases (C : Fin 16) : ∃ k g, C = scol k g :=
  ⟨⟨C.val / 4, by omega⟩, ⟨C.val % 4, by omega⟩, Fin.ext (by show C.val = 4 * (C.val / 4) + C.val % 4; omega)⟩

theorem idx_eq {a b : ℕ} (i : (⟨2, ![a, b]⟩ : Shape).Idx) {T : Fin a} {C : Fin b} (h0 : (i 0).val = T.val) (h1 : (i 1).val = C.val) : i = ix2 T C := by
  funext x
  fin_cases x
  · exact Fin.ext h0
  · exact Fin.ext h1

end index

variable (m : (ℓ : Loc nD τ sig) → Buf (Elt Ideal) ℓ) (c : Dev nD)

/-- The first, second and third argument, as arrays of extended reals. -/
def in0 : FVec Ideal S8192x1536 .bf16 := m ((c : Thread nD τ).loc main_arg0)
def in1 : FVec Ideal S1x16 .f32 := m ((c : Thread nD τ).loc main_arg1)
def in2 : FVec Ideal S8192x1024 .bf16 := m ((c : Thread nD τ).loc main_arg2)

/-- The arguments' real numbers. -/
def args : Args where
  q T k g d := EReal.toReal (in0 m c (ix2 T (colQ k g d)))
  k T k d := EReal.toReal (in0 m c (ix2 T (colK k d)))
  v T k d := EReal.toReal (in0 m c (ix2 T (colV k d)))
  s k g := EReal.toReal (in1 m c (ix2 0 (scol k g)))
  g T k h d := EReal.toReal (in2 m c (ix2 T (qcol k h d)))

theorem real_eq {x : EReal} (h : ∃ r : ℝ, x = (r : EReal)) : x = (x.toReal : EReal) := by
  obtain ⟨r, rfl⟩ := h
  rw [EReal.toReal_coe]

variable (hpre : Cert.Pre_finite.fn (F := Ideal) (in0 m c) (in1 m c) (in2 m c) = fun _ => 1#1)

include hpre in
theorem holds : Holds (args m c) (m ((c : Thread nD τ).loc main_arg0)) (m ((c : Thread nD τ).loc main_arg1)) (m ((c : Thread nD τ).loc main_arg2)) :=
  have h := Cert.Pre_finite.all_real hpre
  ⟨fun _ _ _ _ => real_eq (h.1 _), fun _ _ _ => real_eq (h.1 _), fun _ _ _ => real_eq (h.1 _), fun _ _ => real_eq (h.2.1 _), fun _ _ _ _ => real_eq (h.2.2 _)⟩

include hpre in
theorem ref_holds : Cert.ReferenceIdeal.Stage.Holds (args m c) (in0 m c) (in1 m c) (in2 m c) where
  q T k g d := (congrArg (fun C => in0 m c (ix2 T C)) (Fin.ext (by show (k.val * 4 + g.val) * 64 + d.val = 64 * (4 * k.val + g.val) + d.val; omega))).trans ((holds m c hpre).q T k g d)
  k T k d := (congrArg (fun C => in0 m c (ix2 T C)) (Fin.ext (by show 1024 + (k.val * 64 + d.val) = 1024 + (64 * k.val + d.val); omega))).trans ((holds m c hpre).k T k d)
  v T k d := (congrArg (fun C => in0 m c (ix2 T C)) (Fin.ext (by show 1280 + (k.val * 64 + d.val) = 1280 + (64 * k.val + d.val); omega))).trans ((holds m c hpre).v T k d)
  s k g := (congrArg (fun C => in1 m c (ix2 0 C)) (Fin.ext (by show k.val * 4 + g.val = 4 * k.val + g.val; omega))).trans ((holds m c hpre).s k g)
  g T k g' d := (congrArg (fun C => in2 m c (ix2 T C)) (Fin.ext (by show k.val * 256 + g'.val * 64 + d.val = 64 * (4 * k.val + g'.val) + d.val; omega))).trans ((holds m c hpre).g T k g' d)

include hpre in
theorem meetQ : Cert.ReferenceIdeal.Stage.val_main_v150 (F := Ideal) (in0 m c) (in1 m c) (in2 m c) = (dats m 0 c).arrAt 7 cfg0.N := by
  refine funext fun (i : S8192x1024.Idx) => ?_
  obtain ⟨n, p, hT⟩ := tok_cases (i 0)
  obtain ⟨k, g, d, hC⟩ := qcol_cases (i 1)
  have hi : i = ix2 (tok n p) (qcol k g d) := idx_eq i (congrArg Fin.val hT) (congrArg Fin.val hC)
  rw [hi]
  exact (Cert.ReferenceIdeal.Stage.resQ (ref_holds m c hpre) n k g p d).trans (arrQ m c (holds m c hpre) n k g p d).symm

include hpre in
theorem meetK : Cert.ReferenceIdeal.Stage.val_main_v151 (F := Ideal) (in0 m c) (in1 m c) (in2 m c) = (dats m 0 c).arrAt 8 cfg0.N := by
  refine funext fun (i : S8192x256.Idx) => ?_
  obtain ⟨n, p, hT⟩ := tok_cases (i 0)
  obtain ⟨k, d, hC⟩ := kcol_cases (i 1)
  have hi : i = ix2 (tok n p) (kcol k d) := idx_eq i (congrArg Fin.val hT) (congrArg Fin.val hC)
  rw [hi]
  exact (Cert.ReferenceIdeal.Stage.resK (ref_holds m c hpre) n k p d).trans (arrK m c (holds m c hpre) n k p d).symm

include hpre in
theorem meetV : Cert.ReferenceIdeal.Stage.val_main_v152 (F := Ideal) (in0 m c) (in1 m c) (in2 m c) = (dats m 0 c).arrAt 9 cfg0.N := by
  refine funext fun (i : S8192x256.Idx) => ?_
  obtain ⟨n, p, hT⟩ := tok_cases (i 0)
  obtain ⟨k, d, hC⟩ := kcol_cases (i 1)
  have hi : i = ix2 (tok n p) (kcol k d) := idx_eq i (congrArg Fin.val hT) (congrArg Fin.val hC)
  rw [hi]
  exact (Cert.ReferenceIdeal.Stage.resV (ref_holds m c hpre) n k p d).trans (arrV m c (holds m c hpre) n k p d).symm

include hpre in
theorem meetS : Cert.ReferenceIdeal.Stage.val_main_v146 (F := Ideal) (in0 m c) (in1 m c) (in2 m c) = (dats m 0 c).arrAt 10 cfg0.N := by
  refine funext fun (i : S1x16.Idx) => ?_
  obtain ⟨k, g, hC⟩ := scol_cases (i 1)
  have hi : i = ix2 (0 : Fin 1) (scol k g) := idx_eq i (Nat.lt_one_iff.mp (i 0).isLt) (congrArg Fin.val hC)
  rw [hi]
  exact (Cert.ReferenceIdeal.Stage.resS (ref_holds m c hpre) k g).trans (arrS m c (holds m c hpre) k g).symm

end Cert.KernelIdeal.Attn
end
-- ==== Proof.DAct.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Quiescent

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (m : (ℓ : Loc nD τ sig) → Buf (Elt Ideal) ℓ)

/-- The reference's result, over the arguments. -/
abbrev REF (a : FVec Ideal S8192x2048 .f32) (b : FVec Ideal S5632x2048 .bf16) : FVec Ideal S8192x5632 .bf16 :=
  truncf .bf16 (Host.dotGeneral Cert.Reference2Ideal.dot_S8192x2048_S5632x2048_S8192x5632_1_1_0_0_n_n none a (extf .f32 b Cert.Reference2Ideal.Gen.bitsLt_bf16_f32)) Cert.Reference2Ideal.Gen.bitsLt_bf16_f32

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- What the body stores at each place is the reference's result there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array that the call leaves is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The reference runs, its arguments unchanged, its counters at zero. -/
theorem reference_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From the same arguments the call and the reference end with the same array. -/
theorem value : Cert.algebraic_Kernel2Ideal_Reference2Ideal := by
  intro m ρ m' ρ' _ hm
  refine ⟨fun c => (dats m 0 c).arrAt 2 cfg0.N, run_blocks m ρ, ?_⟩
  refine (θ_run Cert.Reference2Ideal.defs _ _).mono (fun _ h c => ⟨?_, (h c).2⟩) (Cert.Reference2Ideal.Value.run (F := Ideal) m' ρ')
  rw [(h c).1]
  simp only [hm c]
  exact (final m c).symm

end Cert.Kernel2Ideal.Value

end
-- ==== Proof.GDown.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Quiescent

@[expose] public section

set_option maxRecDepth 16384

noncomputable section

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ)

/-- The reference's result, over the arguments. -/
abbrev REF (a : FVec Ideal S8192x5632 .bf16) (b : FVec Ideal S8192x2048 .f32) : FVec Ideal S5632x2048 .bf16 :=
  truncf .bf16 (transpose Cert.Reference3Ideal.S5632x2048 [1, 0] (Host.dotGeneral Cert.Reference3Ideal.dot_S8192x2048_S8192x5632_S2048x5632_0_0_1_1_n_n none b (extf .f32 a Cert.Reference3Ideal.Gen.bitsLt_bf16_f32)) Cert.Reference3Ideal.Gen.transposes_S2048x5632_S5632x2048_1_0) Cert.Reference3Ideal.Gen.bitsLt_bf16_f32

theorem first (a : Vec Ideal S2048x512 .bf16) (b : Vec Ideal S2048x1024 .f32) (j) :
    k0_pay2 a b j = 0 + ∑ k : Fin 2048, a (ix2 k (j 0)) * b (ix2 k (j 1)) := by
  pointwise [k0_pay2, k0_pay1]
theorem next (a : Vec Ideal S2048x512 .bf16) (b : Vec Ideal S2048x1024 .f32) (s : Vec Ideal S512x1024 .f32) (j) :
    k0_pay3 a b s j = s j + ∑ k : Fin 2048, a (ix2 k (j 0)) * b (ix2 k (j 1)) := by
  pointwise [k0_pay3, k0_pay1]
theorem last (s : Vec Ideal S512x1024 .f32) (j) : k0_pay4 s j = s j := by pointwise [k0_pay4]
theorem ref (a b j) : REF a b j = ∑ q : Fin 8192, a (ix2 q (j 0)) * b (ix2 q (j 1)) := by
  pointwise [REF]
  exact Finset.sum_congr rfl fun _ _ => mul_comm _ _

theorem idx : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, _)

/-- At the last point of a run the body stores the accumulator. -/
theorem outs_eq (c : Dev nD) (t : Fin cfg0.N) (hm : t.val % 4 = 3) (j) :
    (outsAt0 m c t.val t.isLt).1 j = (outsAt0 m c t.val t.isLt).2 j := by
  rw [outsAt0_C m c t (by omega) (by omega) hm]
  frame_out
  rw [last]

/-- The array that the call leaves is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  rw [after0_2, outs_eq m c t hm, Pipeline.eq_sum_fin_of_reset_step_apply_of_flush (fun n h => (outsAt0 m c n h).2) 4 (fun _ => 0) _
    (fun t h j => by rw [outsAt0_A m c t h (by omega) (by omega)]; frame_out; rw [first])
    (fun t h j => by
      by_cases h3 : t.val % 4 = 3
      · rw [outsAt0_C m c t h (by omega) h3]; frame_out; rw [next]; exact congrArg (· + _) (congrFun (Memref.IsWhole.read_unread _ _) _)
      · rw [outsAt0_B m c t h (by omega) h3]; frame_out; rw [next]; exact congrArg (· + _) (congrFun (Memref.IsWhole.read_unread _ _) _))
    t hm _, zero_add, ref]
  refine Fin.sum_mul_add_congr fun s k hl => ?_
  blk_point [iblk, V, idx t, idx ⟨_, Pipeline.run_point_lt_of_flush t hm s⟩]

/-- The reference runs, its arguments unchanged, its counters at zero. -/
theorem reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From the same arguments the call and the reference end with the same array. -/
theorem value : Cert.algebraic_Kernel3Ideal_Reference3Ideal := by
  intro m ρ m' ρ' _ hm
  refine ⟨fun c => (dats m 0 c).arrAt 2 cfg0.N, run_blocks m ρ, ?_⟩
  refine (θ_run Cert.Reference3Ideal.defs _ _).mono (fun _ h c => ⟨?_, (h c).2⟩) (Cert.Reference3Ideal.Value.run (F := Ideal) m' ρ')
  rw [(h c).1]
  simp only [hm c]
  exact (final m c).symm

end Cert.Kernel3Ideal.Value

end
-- ==== Proof.DH2.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Quiescent

@[expose] public section

set_option maxRecDepth 16384

noncomputable section

namespace Cert.Kernel4Ideal.Value

open Cert.Kernel4Ideal Cert.Kernel4Ideal.Gen Idealize.ShloMosaic Idealize.ShloMosaic.TcCoe Idealize.SL.Sem

variable (m : (ℓ : Loc nD τ sig) → Buf (Elt Ideal) ℓ)

/-- The reference's result, over the arguments. -/
abbrev REF (a : FVec Ideal S8192x11264 .bf16) (b : FVec Ideal S8x2048x1408 .bf16) : FVec Ideal S8192x2048 .bf16 :=
  truncf .bf16 (Host.dotGeneral Cert.Reference4Ideal.dot_S8192x11264_S2048x11264_S8192x2048_1_1_0_0_n_n none (extf .f32 a Cert.Reference4Ideal.Gen.bitsLt_bf16_f32) (shapeCast _ (transpose Cert.Reference4Ideal.S2048x8x1408 [1, 0, 2] (extf .f32 b Cert.Reference4Ideal.Gen.bitsLt_bf16_f32) Cert.Reference4Ideal.Gen.transposes_S8x2048x1408_S2048x8x1408_1_0_2) Cert.Reference4Ideal.Gen.shapeCasts_S2048x8x1408_S2048x11264)) Cert.Reference4Ideal.Gen.bitsLt_bf16_f32

theorem first (a : Vec Ideal S1024x1408 .bf16) (b : Vec Ideal S1x1024x1408 .bf16) (j) :
    k0_pay2 a b j = 0 + ∑ k : Fin 1408, a (ix2 (j 0) k) * b (ix3 0 (j 1) k) := by
  pointwise [k0_pay2, k0_pay1]
theorem next (a : Vec Ideal S1024x1408 .bf16) (b : Vec Ideal S1x1024x1408 .bf16) (s : Vec Ideal S1024x1024 .f32) (j) :
    k0_pay3 a b s j = s j + ∑ k : Fin 1408, a (ix2 (j 0) k) * b (ix3 0 (j 1) k) := by
  pointwise [k0_pay3, k0_pay1]
theorem last (s : Vec Ideal S1024x1024 .f32) (j) : k0_pay4 s j = s j := by pointwise [k0_pay4]
theorem ref (a b j) : REF a b j = ∑ q : Fin 11264, a (ix2 (j 0) q) * b (ix3 ⟨q.val / 1408, by omega⟩ (j 1) ⟨q.val % 1408, by omega⟩) := by
  pointwise [REF]

theorem idx : ∀ t : Fin cfg0.N, win0_0.index t = ![t.val / 16, t.val % 8] ∧ win0_1.index t = ![t.val % 8, t.val / 8 % 2, 0] ∧ win0_2.index t = ![t.val / 16, t.val / 8 % 2] :=
  (by decide +kernel : ∀ t : Fin grid0.N, _)

/-- At the last point of a run the body stores the accumulator. -/
theorem outs_eq (c : Dev nD) (t : Fin cfg0.N) (hm : t.val % 8 = 7) (j) :
    (outsAt0 m c t.val t.isLt).1 j = (outsAt0 m c t.val t.isLt).2 j := by
  rw [outsAt0_C m c t (by omega) (by omega) hm]
  frame_out
  rw [last]

/-- The array that the call leaves is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  rw [after0_2, outs_eq m c t hm, Pipeline.eq_sum_fin_of_reset_step_apply_of_flush (fun n h => (outsAt0 m c n h).2) 8 (fun _ => 0) _
    (fun t h j => by rw [outsAt0_A m c t h (by omega) (by omega)]; frame_out; rw [first])
    (fun t h j => by
      by_cases h3 : t.val % 8 = 7
      · rw [outsAt0_C m c t h (by omega) h3]; frame_out; rw [next]; exact congrArg (· + _) (congrFun (Memref.IsWhole.read_unread _ _) _)
      · rw [outsAt0_B m c t h (by omega) h3]; frame_out; rw [next]; exact congrArg (· + _) (congrFun (Memref.IsWhole.read_unread _ _) _))
    t hm _, zero_add, ref]
  refine Fin.sum_mul_add_congr fun s k hl => ?_
  blk_point [iblk, V, idx t, idx ⟨_, Pipeline.run_point_lt_of_flush t hm s⟩]

/-- The reference runs, its arguments unchanged, its counters at zero. -/
theorem reference_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From the same arguments the call and the reference end with the same array. -/
theorem value : Cert.algebraic_Kernel4Ideal_Reference4Ideal := by
  intro m ρ m' ρ' _ hm
  refine ⟨fun c => (dats m 0 c).arrAt 2 cfg0.N, run_blocks m ρ, ?_⟩
  refine (θ_run Cert.Reference4Ideal.defs _ _).mono (fun _ h c => ⟨?_, (h c).2⟩) (Cert.Reference4Ideal.Value.run (F := Ideal) m' ρ')
  rw [(h c).1]
  simp only [hm c]
  exact (final m c).symm

end Cert.Kernel4Ideal.Value

end
-- ==== Proof.GGu.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Quiescent

@[expose] public section

set_option maxRecDepth 16384

noncomputable section

namespace Cert.Kernel5Ideal.Value

open Cert.Kernel5Ideal Cert.Kernel5Ideal.Gen Idealize.ShloMosaic Idealize.ShloMosaic.TcCoe Idealize.SL.Sem

variable (m : (ℓ : Loc nD τ sig) → Buf (Elt Ideal) ℓ)

/-- The reference's result, over the arguments. -/
abbrev REF (a : FVec Ideal S8192x2048 .bf16) (b : FVec Ideal S8192x11264 .bf16) : FVec Ideal S8x2048x1408 .bf16 :=
  truncf .bf16 (transpose Cert.Reference5Ideal.S8x2048x1408 [1, 0, 2] (shapeCast _ (transpose Cert.Reference5Ideal.S2048x11264 [1, 0] (Host.dotGeneral Cert.Reference5Ideal.dot_S8192x11264_S8192x2048_S11264x2048_0_0_1_1_n_n none (extf .f32 b Cert.Reference5Ideal.Gen.bitsLt_bf16_f32) (extf .f32 a Cert.Reference5Ideal.Gen.bitsLt_bf16_f32)) Cert.Reference5Ideal.Gen.transposes_S11264x2048_S2048x11264_1_0) Cert.Reference5Ideal.Gen.shapeCasts_S2048x11264_S2048x8x1408) Cert.Reference5Ideal.Gen.transposes_S2048x8x1408_S8x2048x1408_1_0_2) Cert.Reference5Ideal.Gen.bitsLt_bf16_f32

theorem first (a : Vec Ideal S2048x1024 .bf16) (b : Vec Ideal S2048x1408 .bf16) (j) :
    k0_pay2 a b j = 0 + ∑ k : Fin 2048, a (ix2 k (j 0)) * b (ix2 k (j 1)) := by
  pointwise [k0_pay2, k0_pay1]
theorem next (a : Vec Ideal S2048x1024 .bf16) (b : Vec Ideal S2048x1408 .bf16) (s : Vec Ideal S1024x1408 .f32) (j) :
    k0_pay3 a b s j = s j + ∑ k : Fin 2048, a (ix2 k (j 0)) * b (ix2 k (j 1)) := by
  pointwise [k0_pay3, k0_pay1]
theorem last (s : Vec Ideal S1024x1408 .f32) (j) : k0_pay4 s j = s (ix2 (j 1) (j 2)) := by pointwise [k0_pay4]
/-- The column of the whole matrix that column `k` of block `d` is. -/
def col (d : Fin 8) (k : Fin 1408) : Fin 11264 := ⟨d.val * 1408 + k.val, by omega⟩

theorem ref (a b j) : REF a b j = ∑ q : Fin 8192, a (ix2 q (j 1)) * b (ix2 q (col (j 0) (j 2))) := by
  pointwise [REF]
  exact Finset.sum_congr rfl fun _ _ => mul_comm _ _

theorem idx : ∀ t : Fin cfg0.N, win0_0.index t = ![t.val % 4, t.val / 32] ∧ win0_1.index t = ![t.val % 4, t.val / 4 % 8] ∧ win0_2.index t = ![t.val / 4 % 8, t.val / 32, 0] :=
  (by decide +kernel : ∀ t : Fin grid0.N, _)

/-- At the last point of a run the body stores the accumulator. -/
theorem outs_eq (c : Dev nD) (t : Fin cfg0.N) (hm : t.val % 4 = 3) (j) :
    (outsAt0 m c t.val t.isLt).1 j = (outsAt0 m c t.val t.isLt).2 (ix2 (j 1) (j 2)) := by
  rw [outsAt0_C m c t (by omega) (by omega) hm]
  frame_out
  rw [last]

/-- The array that the call leaves is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  rw [after0_2, outs_eq m c t hm, Pipeline.eq_sum_fin_of_reset_step_apply_of_flush (fun n h => (outsAt0 m c n h).2) 4 (fun _ => 0) _
    (fun t h j => by rw [outsAt0_A m c t h (by omega) (by omega)]; frame_out; rw [first])
    (fun t h j => by
      by_cases h3 : t.val % 4 = 3
      · rw [outsAt0_C m c t h (by omega) h3]; frame_out; rw [next]; exact congrArg (· + _) (congrFun (Memref.IsWhole.read_unread _ _) _)
      · rw [outsAt0_B m c t h (by omega) h3]; frame_out; rw [next]; exact congrArg (· + _) (congrFun (Memref.IsWhole.read_unread _ _) _))
    t hm _, zero_add, ref]
  refine Fin.sum_mul_add_congr fun s k hl => ?_
  blk_point [iblk, V, col, idx t, idx ⟨_, Pipeline.run_point_lt_of_flush t hm s⟩]

/-- The reference runs, its arguments unchanged, its counters at zero. -/
theorem reference_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- From the same arguments the call and the reference end with the same array. -/
theorem value : Cert.algebraic_Kernel5Ideal_Reference5Ideal := by
  intro m ρ m' ρ' _ hm
  refine ⟨fun c => (dats m 0 c).arrAt 2 cfg0.N, run_blocks m ρ, ?_⟩
  refine (θ_run Cert.Reference5Ideal.defs _ _).mono (fun _ h c => ⟨?_, (h c).2⟩) (Cert.Reference5Ideal.Value.run (F := Ideal) m' ρ')
  rw [(h c).1]
  simp only [hm c]
  exact (final m c).symm

end Cert.Kernel5Ideal.Value

end
-- ==== Proof.GIn.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Quiescent

@[expose] public section

set_option maxRecDepth 16384

noncomputable section

namespace Cert.Kernel6Ideal.Value

open Cert.Kernel6Ideal Cert.Kernel6Ideal.Gen Idealize.ShloMosaic Idealize.ShloMosaic.TcCoe Idealize.SL.Sem

variable (m : (ℓ : Loc nD τ sig) → Buf (Elt Ideal) ℓ)

/-- The reference's result, over the arguments. -/
abbrev REF (a : FVec Ideal S8192x2048 .bf16) (b : FVec Ideal S8192x14080 .bf16) : FVec Ideal S2048x14080 .bf16 :=
  truncf .bf16 (transpose Cert.Reference6Ideal.S2048x14080 [1, 0] (Host.dotGeneral Cert.Reference6Ideal.dot_S8192x14080_S8192x2048_S14080x2048_0_0_1_1_n_n none (extf .f32 b Cert.Reference6Ideal.Gen.bitsLt_bf16_f32) (extf .f32 a Cert.Reference6Ideal.Gen.bitsLt_bf16_f32)) Cert.Reference6Ideal.Gen.transposes_S14080x2048_S2048x14080_1_0) Cert.Reference6Ideal.Gen.bitsLt_bf16_f32

theorem first (a : Vec Ideal S2048x1024 .bf16) (b : Vec Ideal S2048x1408 .bf16) (j) :
    k0_pay2 a b j = 0 + ∑ k : Fin 2048, a (ix2 k (j 0)) * b (ix2 k (j 1)) := by
  pointwise [k0_pay2, k0_pay1]
theorem next (a : Vec Ideal S2048x1024 .bf16) (b : Vec Ideal S2048x1408 .bf16) (s : Vec Ideal S1024x1408 .f32) (j) :
    k0_pay3 a b s j = s j + ∑ k : Fin 2048, a (ix2 k (j 0)) * b (ix2 k (j 1)) := by
  pointwise [k0_pay3, k0_pay1]
theorem last (s : Vec Ideal S1024x1408 .f32) (j) : k0_pay4 s j = s j := by pointwise [k0_pay4]
theorem ref (a b j) : REF a b j = ∑ q : Fin 8192, a (ix2 q (j 0)) * b (ix2 q (j 1)) := by
  pointwise [REF]
  exact Finset.sum_congr rfl fun _ _ => mul_comm _ _

theorem idx : ∀ t : Fin cfg0.N, win0_0.index t = ![t.val % 4, t.val / 40] ∧ win0_1.index t = ![t.val % 4, t.val / 4 % 10] ∧ win0_2.index t = ![t.val / 40, t.val / 4 % 10] :=
  (by decide +kernel : ∀ t : Fin grid0.N, _)

/-- At the last point of a run the body stores the accumulator. -/
theorem outs_eq (c : Dev nD) (t : Fin cfg0.N) (hm : t.val % 4 = 3) (j) :
    (outsAt0 m c t.val t.isLt).1 j = (outsAt0 m c t.val t.isLt).2 j := by
  rw [outsAt0_C m c t (by omega) (by omega) hm]
  frame_out
  rw [last]

/-- The array that the call leaves is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  rw [after0_2, outs_eq m c t hm, Pipeline.eq_sum_fin_of_reset_step_apply_of_flush (fun n h => (outsAt0 m c n h).2) 4 (fun _ => 0) _
    (fun t h j => by rw [outsAt0_A m c t h (by omega) (by omega)]; frame_out; rw [first])
    (fun t h j => by
      by_cases h3 : t.val % 4 = 3
      · rw [outsAt0_C m c t h (by omega) h3]; frame_out; rw [next]; exact congrArg (· + _) (congrFun (Memref.IsWhole.read_unread _ _) _)
      · rw [outsAt0_B m c t h (by omega) h3]; frame_out; rw [next]; exact congrArg (· + _) (congrFun (Memref.IsWhole.read_unread _ _) _))
    t hm _, zero_add, ref]
  refine Fin.sum_mul_add_congr fun s k hl => ?_
  blk_point [iblk, V, idx t, idx ⟨_, Pipeline.run_point_lt_of_flush t hm s⟩]

/-- The reference runs, its arguments unchanged, its counters at zero. -/
theorem reference_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- From the same arguments the call and the reference end with the same array. -/
theorem value : Cert.algebraic_Kernel6Ideal_Reference6Ideal := by
  intro m ρ m' ρ' _ hm
  refine ⟨fun c => (dats m 0 c).arrAt 2 cfg0.N, run_blocks m ρ, ?_⟩
  refine (θ_run Cert.Reference6Ideal.defs _ _).mono (fun _ h c => ⟨?_, (h c).2⟩) (Cert.Reference6Ideal.Value.run (F := Ideal) m' ρ')
  rw [(h c).1]
  simp only [hm c]
  exact (final m c).symm

end Cert.Kernel6Ideal.Value

end
-- ==== Proof.DH.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Quiescent

@[expose] public section

set_option maxRecDepth 16384

noncomputable section

namespace Cert.Kernel7Ideal.Value

open Cert.Kernel7Ideal Cert.Kernel7Ideal.Gen Idealize.ShloMosaic Idealize.ShloMosaic.TcCoe Idealize.SL.Sem

variable (m : (ℓ : Loc nD τ sig) → Buf (Elt Ideal) ℓ)

/-- The reference's result, over the arguments. -/
abbrev REF (a : FVec Ideal S8192x14080 .bf16) (b : FVec Ideal S2048x14080 .bf16) : FVec Ideal S8192x2048 .bf16 :=
  truncf .bf16 (Host.dotGeneral Cert.Reference7Ideal.dot_S8192x14080_S2048x14080_S8192x2048_1_1_0_0_n_n none (extf .f32 a Cert.Reference7Ideal.Gen.bitsLt_bf16_f32) (extf .f32 b Cert.Reference7Ideal.Gen.bitsLt_bf16_f32)) Cert.Reference7Ideal.Gen.bitsLt_bf16_f32

theorem first (a : Vec Ideal S1024x2816 .bf16) (b : Vec Ideal S1024x2816 .bf16) (j) :
    k0_pay2 a b j = 0 + ∑ k : Fin 2816, a (ix2 (j 0) k) * b (ix2 (j 1) k) := by
  pointwise [k0_pay2, k0_pay1]
theorem next (a : Vec Ideal S1024x2816 .bf16) (b : Vec Ideal S1024x2816 .bf16) (s : Vec Ideal S1024x1024 .f32) (j) :
    k0_pay3 a b s j = s j + ∑ k : Fin 2816, a (ix2 (j 0) k) * b (ix2 (j 1) k) := by
  pointwise [k0_pay3, k0_pay1]
theorem last (s : Vec Ideal S1024x1024 .f32) (j) : k0_pay4 s j = s j := by pointwise [k0_pay4]
theorem ref (a b j) : REF a b j = ∑ q : Fin 14080, a (ix2 (j 0) q) * b (ix2 (j 1) q) := by
  pointwise [REF]

theorem idx : ∀ t : Fin cfg0.N, win0_0.index t = ![t.val / 10, t.val % 5] ∧ win0_1.index t = ![t.val / 5 % 2, t.val % 5] ∧ win0_2.index t = ![t.val / 10, t.val / 5 % 2] :=
  (by decide +kernel : ∀ t : Fin grid0.N, _)

/-- At the last point of a run the body stores the accumulator. -/
theorem outs_eq (c : Dev nD) (t : Fin cfg0.N) (hm : t.val % 5 = 4) (j) :
    (outsAt0 m c t.val t.isLt).1 j = (outsAt0 m c t.val t.isLt).2 j := by
  rw [outsAt0_C m c t (by omega) (by omega) hm]
  frame_out
  rw [last]

/-- The array that the call leaves is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  rw [after0_2, outs_eq m c t hm, Pipeline.eq_sum_fin_of_reset_step_apply_of_flush (fun n h => (outsAt0 m c n h).2) 5 (fun _ => 0) _
    (fun t h j => by rw [outsAt0_A m c t h (by omega) (by omega)]; frame_out; rw [first])
    (fun t h j => by
      by_cases h3 : t.val % 5 = 4
      · rw [outsAt0_C m c t h (by omega) h3]; frame_out; rw [next]; exact congrArg (· + _) (congrFun (Memref.IsWhole.read_unread _ _) _)
      · rw [outsAt0_B m c t h (by omega) h3]; frame_out; rw [next]; exact congrArg (· + _) (congrFun (Memref.IsWhole.read_unread _ _) _))
    t hm _, zero_add, ref]
  refine Fin.sum_mul_add_congr fun s k hl => ?_
  blk_point [iblk, V, idx t, idx ⟨_, Pipeline.run_point_lt_of_flush t hm s⟩]

/-- The reference runs, its arguments unchanged, its counters at zero. -/
theorem reference_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- From the same arguments the call and the reference end with the same array. -/
theorem value : Cert.algebraic_Kernel7Ideal_Reference7Ideal := by
  intro m ρ m' ρ' _ hm
  refine ⟨fun c => (dats m 0 c).arrAt 2 cfg0.N, run_blocks m ρ, ?_⟩
  refine (θ_run Cert.Reference7Ideal.defs _ _).mono (fun _ h c => ⟨?_, (h c).2⟩) (Cert.Reference7Ideal.Value.run (F := Ideal) m' ρ')
  rw [(h c).1]
  simp only [hm c]
  exact (final m c).symm

end Cert.Kernel7Ideal.Value

end
-- ==== Proof.Gu.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Quiescent

@[expose] public section

set_option maxRecDepth 16384

noncomputable section

namespace Cert.Kernel8Ideal.Value

open Cert.Kernel8Ideal Cert.Kernel8Ideal.Gen Idealize.ShloMosaic Idealize.ShloMosaic.TcCoe Idealize.SL.Sem

variable (m : (ℓ : Loc nD τ sig) → Buf (Elt Ideal) ℓ)

/-- The reference's result, over the arguments. -/
abbrev REF (a : FVec Ideal S8192x2048 .bf16) (b : FVec Ideal S8x2048x1408 .bf16) : FVec Ideal S8192x11264 .bf16 :=
  truncf .bf16 (Host.dotGeneral Cert.Reference8Ideal.dot_S8192x2048_S2048x11264_S8192x11264_1_0_0_1_n_n none (extf .f32 a Cert.Reference8Ideal.Gen.bitsLt_bf16_f32) (shapeCast _ (transpose Cert.Reference8Ideal.S2048x8x1408 [1, 0, 2] (extf .f32 b Cert.Reference8Ideal.Gen.bitsLt_bf16_f32) Cert.Reference8Ideal.Gen.transposes_S8x2048x1408_S2048x8x1408_1_0_2) Cert.Reference8Ideal.Gen.shapeCasts_S2048x8x1408_S2048x11264)) Cert.Reference8Ideal.Gen.bitsLt_bf16_f32

theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

/-- What the body stores at each place is the reference's result there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array that the call leaves is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The reference runs, its arguments unchanged, its counters at zero. -/
theorem reference_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- From the same arguments the call and the reference end with the same array. -/
theorem value : Cert.algebraic_Kernel8Ideal_Reference8Ideal := by
  intro m ρ m' ρ' _ hm
  refine ⟨fun c => (dats m 0 c).arrAt 2 cfg0.N, run_blocks m ρ, ?_⟩
  refine (θ_run Cert.Reference8Ideal.defs _ _).mono (fun _ h c => ⟨?_, (h c).2⟩) (Cert.Reference8Ideal.Value.run (F := Ideal) m' ρ')
  rw [(h c).1]
  simp only [hm c]
  exact (final m c).symm

end Cert.Kernel8Ideal.Value

end
-- ==== Proof.Down.lean ====
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Quiescent

@[expose] public section

set_option maxRecDepth 16384

noncomputable section

namespace Cert.Kernel9Ideal.Value

open Cert.Kernel9Ideal Cert.Kernel9Ideal.Gen Idealize.ShloMosaic Idealize.ShloMosaic.TcCoe Idealize.SL.Sem

variable (m : (ℓ : Loc nD τ sig) → Buf (Elt Ideal) ℓ)

/-- The reference's result, over the arguments. -/
abbrev REF (a : FVec Ideal S8192x5632 .bf16) (b : FVec Ideal S5632x2048 .bf16) (c : FVec Ideal S8192x2048 .f32) : FVec Ideal S8192x2048 .f32 :=
  addf c (Host.dotGeneral Cert.Reference9Ideal.dot_S8192x5632_S5632x2048_S8192x2048_1_0_0_1_n_n none (extf .f32 a Cert.Reference9Ideal.Gen.bitsLt_bf16_f32) (extf .f32 b Cert.Reference9Ideal.Gen.bitsLt_bf16_f32))

/-- The product of two blocks at a place. -/
abbrev part (a : FVec Ideal S1024x2816 .bf16) (b : FVec Ideal S2816x1024 .bf16) (j : S1024x1024.Idx) : EReal :=
  ∑ k : Fin 2816, a (ix2 (j 0) k) * b (ix2 k (j 1))

theorem first (a : Vec Ideal S1024x2816 .bf16) (b : Vec Ideal S2816x1024 .bf16) (s : Vec Ideal S1024x1024 .f32) (j) :
    k0_pay2 a b s j = s j + part a b j := by
  pointwise [k0_pay2, k0_pay1]
  exact add_comm _ _
theorem next (a : Vec Ideal S1024x2816 .bf16) (b : Vec Ideal S2816x1024 .bf16) (s : Vec Ideal S1024x1024 .f32) (j) :
    k0_pay3 a b s j = s j + part a b j := by
  pointwise [k0_pay3, k0_pay1]
theorem ref (a b c j) : REF a b c j = c j + ∑ q : Fin 5632, a (ix2 (j 0) q) * b (ix2 q (j 1)) := by
  pointwise [REF]

theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

/-- The point before a run's last one. -/
def prev (t : Fin cfg0.N) : Fin cfg0.N := ⟨t.val - 1, by omega⟩

/-- A run's first point leaves the summand and the first product in the accumulator. -/
theorem acc_first (c : Dev nD) (t : Fin cfg0.N) (hm : t.val % 2 = 0) (j : S1024x1024.Idx) :
    (outsAt0 m c t.val t.isLt).2 j = (id (iblk m c 2 t) : FVec Ideal S1024x1024 .f32) j + part (iblk m c 0 t) (iblk m c 1 t) j := by
  rw [outsAt0_A m c t hm (by omega) (by omega)]
  frame_out
  rw [first]
  rfl

/-- Its last point stores that and the second product. -/
theorem out_last (c : Dev nD) (t : Fin cfg0.N) (hm : t.val % 2 = 1) (j : S1024x1024.Idx) :
    (outsAt0 m c t.val t.isLt).1 j = (outsAt0 m c (prev t).val (prev t).isLt).2 j + part (iblk m c 0 t) (iblk m c 1 t) j := by
  rw [outsAt0_B m c t (by omega) hm hm]
  frame_out
  rw [next]
  exact congrArg (· + _) (congrFun (Memref.IsWhole.read_unread _ _) _)

/-- The array that the call leaves is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hm := (flush0_3 t).mp hf
  have hp : (prev t).val = t.val - 1 := rfl
  rw [after0_3, out_last m c t hm, acc_first m c (prev t) (by omega), ref, ← Fin.sum_mul_add_fin 2 2816, Fin.sum_univ_two, add_assoc]
  have z0 : ((0 : Fin 2) : ℕ) = 0 := rfl
  have z1 : ((1 : Fin 2) : ℕ) = 1 := rfl
  refine congrArg₂ (· + ·) ?_ (congrArg₂ (· + ·) (Fin.sum_fin_congr fun k => ?_) (Fin.sum_fin_congr fun k => ?_))
  · show iblk m c 2 (prev t) y = _
    blk_point [iblk, V, idx t, idx (prev t), hp]
  · blk_point [iblk, V, idx t, idx (prev t), hp, z0]
  · blk_point [iblk, V, idx t, idx (prev t), hp, z1]

/-- The reference runs, its arguments unchanged, its counters at zero. -/
theorem reference_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- From the same arguments the call and the reference end with the same array. -/
theorem value : Cert.algebraic_Kernel9Ideal_Reference9Ideal := by
  intro m ρ m' ρ' _ hm
  refine ⟨fun c => (dats m 0 c).arrAt 3 cfg0.N, run_blocks m ρ, ?_⟩
  refine (θ_run Cert.Reference9Ideal.defs _ _).mono (fun _ h c => ⟨?_, (h c).2⟩) (Cert.Reference9Ideal.Value.run (F := Ideal) m' ρ')
  rw [(h c).1]
  simp only [hm c]
  exact (final m c).symm

end Cert.Kernel9Ideal.Value

end
-- ==== Proof.PGl.lean ====
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Quiescent

@[expose] public section

set_option maxRecDepth 16384

noncomputable section

namespace Cert.Kernel10Ideal.Value

open Cert.Kernel10Ideal Cert.Kernel10Ideal.Gen Idealize.ShloMosaic Idealize.ShloMosaic.TcCoe Idealize.SL.Sem

variable (m : (ℓ : Loc nD τ sig) → Buf (Elt Ideal) ℓ)

/-- The reference's result, over the arguments. -/
abbrev REF (a : FVec Ideal S8192x2048 .bf16) (b : FVec Ideal S2048x6144 .bf16) : FVec Ideal S8192x6144 .bf16 :=
  truncf .bf16 (Host.dotGeneral Cert.Reference10Ideal.dot_S8192x2048_S2048x6144_S8192x6144_1_0_0_1_n_n none (extf .f32 a Cert.Reference10Ideal.Gen.bitsLt_bf16_f32) (extf .f32 b Cert.Reference10Ideal.Gen.bitsLt_bf16_f32)) Cert.Reference10Ideal.Gen.bitsLt_bf16_f32

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- What the body stores at each place is the reference's result there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array that the call leaves is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The reference runs, its arguments unchanged, its counters at zero. -/
theorem reference_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- From the same arguments the call and the reference end with the same array. -/
theorem value : Cert.algebraic_Kernel10Ideal_Reference10Ideal := by
  intro m ρ m' ρ' _ hm
  refine ⟨fun c => (dats m 0 c).arrAt 2 cfg0.N, run_blocks m ρ, ?_⟩
  refine (θ_run Cert.Reference10Ideal.defs _ _).mono (fun _ h c => ⟨?_, (h c).2⟩) (Cert.Reference10Ideal.Value.run (F := Ideal) m' ρ')
  rw [(h c).1]
  simp only [hm c]
  exact (final m c).symm

end Cert.Kernel10Ideal.Value

end
-- ==== Proof.PXbc.lean ====
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Quiescent

@[expose] public section

set_option maxRecDepth 16384

noncomputable section

namespace Cert.Kernel11Ideal.Value

open Cert.Kernel11Ideal Cert.Kernel11Ideal.Gen Idealize.ShloMosaic Idealize.ShloMosaic.TcCoe Idealize.SL.Sem

variable (m : (ℓ : Loc nD τ sig) → Buf (Elt Ideal) ℓ)

/-- The reference's result, over the arguments. -/
abbrev REF (a : FVec Ideal S8192x2048 .bf16) (b : FVec Ideal S2048x3072 .bf16) : FVec Ideal S8192x3072 .f32 :=
  Host.dotGeneral Cert.Reference11Ideal.dot_S8192x2048_S2048x3072_S8192x3072_1_0_0_1_n_n none (extf .f32 a Cert.Reference11Ideal.Gen.bitsLt_bf16_f32) (extf .f32 b Cert.Reference11Ideal.Gen.bitsLt_bf16_f32)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- What the body stores at each place is the reference's result there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array that the call leaves is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The reference runs, its arguments unchanged, its counters at zero. -/
theorem reference_frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- From the same arguments the call and the reference end with the same array. -/
theorem value : Cert.algebraic_Kernel11Ideal_Reference11Ideal := by
  intro m ρ m' ρ' _ hm
  refine ⟨fun c => (dats m 0 c).arrAt 2 cfg0.N, run_blocks m ρ, ?_⟩
  refine (θ_run Cert.Reference11Ideal.defs _ _).mono (fun _ h c => ⟨?_, (h c).2⟩) (Cert.Reference11Ideal.Value.run (F := Ideal) m' ρ')
  rw [(h c).1]
  simp only [hm c]
  exact (final m c).symm

end Cert.Kernel11Ideal.Value

end
-- ==== Proof.Adam.lean ====
module

public import Idealize.ShloMosaic.Lib.Pipeline.ValueKit

@[expose] public section

noncomputable section

namespace Cert.Adam

open Idealize.ShloMosaic

/-- The new first moment, of the gradient `g` and the old moment `m`. -/
abbrev first (g m : EReal) : EReal :=
  Ideal.ofBits .f32 0x3F666666#32 * m + Ideal.ofBits .f32 0x3DCCCCCD#32 * g
/-- The new second moment, of the gradient `g` and the old moment `v`. -/
abbrev second (g v : EReal) : EReal :=
  Ideal.ofBits .f32 0x3F7FBE77#32 * v + Ideal.ofBits .f32 0x3A83126F#32 * (g * g)
/-- The change of the weight `w`. -/
abbrev step (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

variable {R C : ℕ}

/-- The sum of the devices' parts of a layer's gradient. -/
abbrev total (p : Shape.Idx ⟨3, ![8, R, C]⟩ → EReal) (i : Shape.Idx ⟨3, ![2, R, C]⟩) : EReal := ∑ d : Fin 8, p (ix3 d (i 1) (i 2))
/-- The sums of both layers, one above the other. -/
abbrev layers (p q : Shape.Idx ⟨3, ![8, R, C]⟩ → EReal) (i : Shape.Idx ⟨3, ![2, R, C]⟩) : EReal := if (i 0 : ℕ) < 1 then total p i else total q i

end Cert.Adam

end
-- ==== Proof.AdDown.lean ====
module

public import proofs.«01_k».proof.Defs
public import proofs.«01_k».proof.Proof.Adam
public import proofs.«01_k».proof.Proof.Gen.Kernel12Ideal.Frame
public import proofs.«01_k».proof.Proof.Gen.Reference12Ideal.Run
public import Idealize.ShloMosaic.Lib.Quiescent

@[expose] public section

set_option maxRecDepth 16384

noncomputable section

namespace Cert.Kernel12Ideal.Value

open Cert.Kernel12Ideal Cert.Kernel12Ideal.Gen Cert.Adam Idealize.ShloMosaic Idealize.ShloMosaic.TcCoe Idealize.SL.Sem

variable (m : (ℓ : Loc nD τ sig) → Buf (Elt Ideal) ℓ) (ρ : Dev nD → PrngReg)

/-- What the body stores at each place. -/
theorem body (x0 : Vec Ideal S8x64x2048 .bf16) (x1 x2 x3 : Vec Ideal S1x64x2048 .f32) (y) :
    out0_4 x0 x1 x2 x3 y = ∑ d : Fin 8, x0 (ix3 d (y 1) (y 2))
    ∧ out0_5 x0 x1 x2 x3 y = step (x1 y) (∑ d : Fin 8, x0 (ix3 d (y 1) (y 2))) (x2 y) (x3 y)
    ∧ out0_6 x0 x1 x2 x3 y = first (∑ d : Fin 8, x0 (ix3 d (y 1) (y 2))) (x2 y)
    ∧ out0_7 x0 x1 x2 x3 y = second (∑ d : Fin 8, x0 (ix3 d (y 1) (y 2))) (x3 y) := by
  simp only [Fin.sum_univ_eight]
  refine ⟨?_, ?_, ?_, ?_⟩
  all_goals
    frame_out
    pointwise [k0_pay1, k0_pay2, k0_pay3, k0_pay4, k0_pay5, k0_pay6, k0_pay7, k0_pay8]

theorem idx0 : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)
theorem idx1 : ∀ t : Fin cfg1.N, win1_0.index t = ![0, t.val, 0] ∧ win1_1.index t = ![0, t.val, 0] ∧ win1_2.index t = ![0, t.val, 0] ∧ win1_3.index t = ![0, t.val, 0] ∧ win1_4.index t = ![0, t.val, 0] ∧ win1_5.index t = ![0, t.val, 0] ∧ win1_6.index t = ![0, t.val, 0] ∧ win1_7.index t = ![0, t.val, 0] :=
  (by decide +kernel : ∀ t : Fin grid1.N, _)
section
variable (V : (c : Dev nD) → (b : Ref sig .tc) → Buf (Elt Ideal) ((c : Thread nD τ).loc b))

/-- Where the launch's blocks come from. -/
theorem reads0 (c : Dev nD) (t : Fin cfg0.N) (y : S1x64x2048.Idx) (e : S2x704x2048.Idx) (h0 : (e 0 : ℕ) = 1) (h1 : (e 1 : ℕ) = t.val * 64 + (y 1 : ℕ)) (h2 : (e 2 : ℕ) = (y 2 : ℕ)) :
    ((∑ d : Fin 8, iblk0 V c 0 t (ix3 d (y 1) (y 2)) : EReal) = total (V c main_arg1) e)
    ∧ iblk0 V c 1 t y = V c main_arg2 e ∧ iblk0 V c 2 t y = V c main_arg3 e ∧ iblk0 V c 3 t y = V c main_arg4 e := by
  refine ⟨Finset.sum_congr rfl fun d _ => ?_, ?_, ?_, ?_⟩
  all_goals blk_point [iblk0, idx0 t]

/-- The first launch fills the second layer of each result. -/
theorem final0 (c : Dev nD) :
    (dat0 V c).arrAt 4 cfg0.N = (fun i => if (i 0 : ℕ) = 1 then total (V c main_arg1) i else V c main_v0_0 i)
    ∧ (dat0 V c).arrAt 5 cfg0.N = (fun i => if (i 0 : ℕ) = 1 then step (V c main_arg2 i) (total (V c main_arg1) i) (V c main_arg3 i) (V c main_arg4 i) else V c main_v0_1 i)
    ∧ (dat0 V c).arrAt 6 cfg0.N = (fun i => if (i 0 : ℕ) = 1 then first (total (V c main_arg1) i) (V c main_arg3 i) else V c main_v0_2 i)
    ∧ (dat0 V c).arrAt 7 cfg0.N = (fun i => if (i 0 : ℕ) = 1 then second (total (V c main_arg1) i) (V c main_arg4 i) else V c main_v0_3 i) := by
  refine ⟨?_, ?_, ?_, ?_⟩
  all_goals
    refine (dat0 V c).arrAt_eq_of_coversWhere _ _ (fun β => β 0 = 1) (by decide +kernel) (fun t _ y => ?_)
      (fun j => by blk_simp [Pipeline.Window.cell_apply]; omega)
    blk_simp
    first | rw [after0_4] | rw [after0_5] | rw [after0_6] | rw [after0_7]
    obtain ⟨r0, r1, r2, r3⟩ := reads0 V c t y (((cfg0.win _).blk t).view.emb y) (by blk_simp [idx0 t]) (by blk_simp [idx0 t]) (by blk_simp [idx0 t])
    simp only [body, r0, r1, r2, r3]

/-- The second launch's body stores what the first's does. -/
theorem outs1 (c : Dev nD) (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
      out0_6 (iblk1 V c 0 t) (iblk1 V c 1 t) (iblk1 V c 2 t) (iblk1 V c 3 t), out0_7 (iblk1 V c 0 t) (iblk1 V c 1 t) (iblk1 V c 2 t) (iblk1 V c 3 t)) := by
  refine Prod.ext ?_ (Prod.ext ?_ (Prod.ext ?_ ?_))
  all_goals
    unfold outsAt1
    funext y
    frame_out
    rfl

/-- Where the launch's blocks come from. -/
theorem reads1 (c : Dev nD) (t : Fin cfg1.N) (y : S1x64x2048.Idx) (e : S2x704x2048.Idx) (h0 : (e 0 : ℕ) = 0) (h1 : (e 1 : ℕ) = t.val * 64 + (y 1 : ℕ)) (h2 : (e 2 : ℕ) = (y 2 : ℕ)) :
    ((∑ d : Fin 8, iblk1 V c 0 t (ix3 d (y 1) (y 2)) : EReal) = total (V c main_arg0) e)
    ∧ iblk1 V c 1 t y = V c main_arg2 e ∧ iblk1 V c 2 t y = V c main_arg3 e ∧ iblk1 V c 3 t y = V c main_arg4 e := by
  refine ⟨Finset.sum_congr rfl fun d _ => ?_, ?_, ?_, ?_⟩
  all_goals blk_point [iblk1, idx1 t]

/-- The second launch fills the first layer. -/
theorem final1 (c : Dev nD) :
    (dat1 V c).arrAt 4 cfg1.N = (fun i => if (i 0 : ℕ) = 0 then total (V c main_arg0) i else V c main_v1_0 i)
    ∧ (dat1 V c).arrAt 5 cfg1.N = (fun i => if (i 0 : ℕ) = 0 then step (V c main_arg2 i) (total (V c main_arg0) i) (V c main_arg3 i) (V c main_arg4 i) else V c main_v1_1 i)
    ∧ (dat1 V c).arrAt 6 cfg1.N = (fun i => if (i 0 : ℕ) = 0 then first (total (V c main_arg0) i) (V c main_arg3 i) else V c main_v1_2 i)
    ∧ (dat1 V c).arrAt 7 cfg1.N = (fun i => if (i 0 : ℕ) = 0 then second (total (V c main_arg0) i) (V c main_arg4 i) else V c main_v1_3 i) := by
  refine ⟨?_, ?_, ?_, ?_⟩
  all_goals
    refine (dat1 V c).arrAt_eq_of_coversWhere _ _ (fun β => β 0 = 0) (by decide +kernel) (fun t _ y => ?_)
      (fun j => by blk_simp [Pipeline.Window.cell_apply]; omega)
    blk_simp
    first | rw [after1_4] | rw [after1_5] | rw [after1_6] | rw [after1_7]
    obtain ⟨r0, r1, r2, r3⟩ := reads1 V c t y (((cfg1.win _).blk t).view.emb y) (by blk_simp [idx1 t]) (by blk_simp [idx1 t]) (by blk_simp [idx1 t])
    simp only [outs1, body, r0, r1, r2, r3]

end

/-- The second launch starts from the results of the first. -/
theorem copied (c : Dev nD) : V2 m ρ c main_v1_0 = (dat0 (V0 m ρ) c).arrAt 4 cfg0.N ∧ V2 m ρ c main_v1_1 = (dat0 (V0 m ρ) c).arrAt 5 cfg0.N
    ∧ V2 m ρ c main_v1_2 = (dat0 (V0 m ρ) c).arrAt 6 cfg0.N ∧ V2 m ρ c main_v1_3 = (dat0 (V0 m ρ) c).arrAt 7 cfg0.N := by
  simp only [← W1_arr, V2, W2]
  unfold hostOps1
  refine ⟨?_, ?_, ?_, ?_⟩ <;> (after_results; rfl)

/-- What the two launches leave. -/
theorem final (c : Dev nD) :
    (dat1 (V2 m ρ) c).arrAt 4 cfg1.N = (fun i => layers (m ((c : Thread nD τ).loc main_arg0)) (m ((c : Thread nD τ).loc main_arg1)) i)
    ∧ (dat1 (V2 m ρ) c).arrAt 5 cfg1.N = (fun i => step ((m ((c : Thread nD τ).loc main_arg2)) i) (layers (m ((c : Thread nD τ).loc main_arg0)) (m ((c : Thread nD τ).loc main_arg1)) i) ((m ((c : Thread nD τ).loc main_arg3)) i) ((m ((c : Thread nD τ).loc main_arg4)) i))
    ∧ (dat1 (V2 m ρ) c).arrAt 6 cfg1.N = (fun i => first (layers (m ((c : Thread nD τ).loc main_arg0)) (m ((c : Thread nD τ).loc main_arg1)) i) ((m ((c : Thread nD τ).loc main_arg3)) i))
    ∧ (dat1 (V2 m ρ) c).arrAt 7 cfg1.N = (fun i => second (layers (m ((c : Thread nD τ).loc main_arg0)) (m ((c : Thread nD τ).loc main_arg1)) i) ((m ((c : Thread nD τ).loc main_arg4)) i)) := by
  obtain ⟨a4, a5, a6, a7⟩ := final0 (V0 m ρ) c
  obtain ⟨b4, b5, b6, b7⟩ := final1 (V2 m ρ) c
  obtain ⟨k4, k5, k6, k7⟩ := copied m ρ c
  have g : ∀ a ∈ argRefs, V2 m ρ c a = m ((c : Thread nD τ).loc a) := W2_args m ρ c
  rw [b4, b5, b6, b7, k4, k5, k6, k7, a4, a5, a6, a7, g main_arg0 (by decide), g main_arg2 (by decide), g main_arg3 (by decide), g main_arg4 (by decide)]
  refine ⟨?_, ?_, ?_, ?_⟩
  all_goals
    funext i
    have hi : (i 0 : ℕ) < 2 := (i 0).isLt
    rcases (by omega : (i 0 : ℕ) = 0 ∨ (i 0 : ℕ) = 1) with h | h <;>
      simp only [h, layers, Nat.zero_lt_one, lt_irrefl, one_ne_zero, if_true, if_false]

section
open Idealize.SL Idealize.SL.RA Idealize.SL.BI Idealize.SL.BI.BIBase Idealize.SL.BI.Laws Idealize.SL.ProofMode Idealize.ShloMosaic.Rounds
open scoped Idealize.SL.BI
set_option backward.isDefEq.respectTransparency.types false in
/-- Every run ends with the buffers as the two launches leave them. -/
theorem run : θ_run defs (onTc (τ := τ) (main (F := Ideal))) ⟨m, fun _ => 0, ρ⟩ (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end

/-- The reference runs, its arguments unchanged, its counters at zero. -/
theorem reference_frame : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-- From the same arguments the two launches and the reference end with the same four arrays. -/
theorem value : Cert.algebraic_Kernel12Ideal_Reference12Ideal := by
  intro m ρ m' ρ' _ hm
  refine ⟨fun c => (dat1 (V2 m ρ) c).arrAt 4 cfg1.N, fun c => (dat1 (V2 m ρ) c).arrAt 5 cfg1.N, fun c => (dat1 (V2 m ρ) c).arrAt 6 cfg1.N, fun c => (dat1 (V2 m ρ) c).arrAt 7 cfg1.N,
    (θ_run defs _ _).mono (fun _ h c => ?_) (run m ρ), (θ_run Cert.Reference12Ideal.defs _ _).mono (fun _ h c => ?_) (Cert.Reference12Ideal.Value.run (F := Ideal) m' ρ')⟩
  · have e : ∀ r : Ref sig .tc, ¬ (Proc.devRef .tc r : DevRef τ sig).isScoped → _ := fun r hr => h c _ (mem_uc r hr)
    exact ⟨(e main_v1_0 (by decide)).trans (W3_arr m ρ c 4), (e main_v1_1 (by decide)).trans (W3_arr m ρ c 5),
      (e main_v1_2 (by decide)).trans (W3_arr m ρ c 6), (e main_v1_3 (by decide)).trans (W3_arr m ρ c 7),
      (e main_arg0 (by decide)).trans (W3_main_arg0 m ρ c), (e main_arg1 (by decide)).trans (W3_main_arg1 m ρ c), (e main_arg2 (by decide)).trans (W3_main_arg2 m ρ c),
      (e main_arg3 (by decide)).trans (W3_main_arg3 m ρ c), (e main_arg4 (by decide)).trans (W3_main_arg4 m ρ c)⟩
  · obtain ⟨f4, f5, f6, f7⟩ := final m ρ c
    obtain ⟨h0, h1, h2, h3, h⟩ := h c
    refine ⟨h0.trans (Eq.trans ?_ f4.symm), h1.trans (Eq.trans ?_ f5.symm), h2.trans (Eq.trans ?_ f6.symm), h3.trans (Eq.trans ?_ f7.symm), h⟩
    all_goals
      funext i
      simp only [hm c]
      pointwise [layers, total, first, second, step]
      simp only [hm c, dite_eq_ite]

end Cert.Kernel12Ideal.Value

end
-- ==== Proof.AdGu.lean ====
module

public import proofs.«01_k».proof.Defs
public import proofs.«01_k».proof.Proof.Adam
public import proofs.«01_k».proof.Proof.Gen.Kernel13Ideal.Frame
public import proofs.«01_k».proof.Proof.Gen.Reference13Ideal.Run
public import Idealize.ShloMosaic.Lib.Quiescent

@[expose] public section

set_option maxRecDepth 16384

noncomputable section

namespace Cert.Kernel13Ideal.Value

open Cert.Kernel13Ideal Cert.Kernel13Ideal.Gen Cert.Adam Idealize.ShloMosaic Idealize.ShloMosaic.TcCoe Idealize.SL.Sem

variable (m : (ℓ : Loc nD τ sig) → Buf (Elt Ideal) ℓ) (ρ : Dev nD → PrngReg)

/-- What the body stores at each place. -/
theorem body (x0 : Vec Ideal S8x128x1408 .bf16) (x1 x2 x3 : Vec Ideal S1x128x1408 .f32) (y) :
    out0_4 x0 x1 x2 x3 y = ∑ d : Fin 8, x0 (ix3 d (y 1) (y 2))
    ∧ out0_5 x0 x1 x2 x3 y = step (x1 y) (∑ d : Fin 8, x0 (ix3 d (y 1) (y 2))) (x2 y) (x3 y)
    ∧ out0_6 x0 x1 x2 x3 y = first (∑ d : Fin 8, x0 (ix3 d (y 1) (y 2))) (x2 y)
    ∧ out0_7 x0 x1 x2 x3 y = second (∑ d : Fin 8, x0 (ix3 d (y 1) (y 2))) (x3 y) := by
  simp only [Fin.sum_univ_eight]
  refine ⟨?_, ?_, ?_, ?_⟩
  all_goals
    frame_out
    pointwise [k0_pay1, k0_pay2, k0_pay3, k0_pay4, k0_pay5, k0_pay6, k0_pay7, k0_pay8]

theorem idx0 : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)
theorem idx1 : ∀ t : Fin cfg1.N, win1_0.index t = ![0, t.val, 0] ∧ win1_1.index t = ![0, t.val, 0] ∧ win1_2.index t = ![0, t.val, 0] ∧ win1_3.index t = ![0, t.val, 0] ∧ win1_4.index t = ![0, t.val, 0] ∧ win1_5.index t = ![0, t.val, 0] ∧ win1_6.index t = ![0, t.val, 0] ∧ win1_7.index t = ![0, t.val, 0] :=
  (by decide +kernel : ∀ t : Fin grid1.N, _)
section
variable (V : (c : Dev nD) → (b : Ref sig .tc) → Buf (Elt Ideal) ((c : Thread nD τ).loc b))

/-- Where the launch's blocks come from. -/
theorem reads0 (c : Dev nD) (t : Fin cfg0.N) (y : S1x128x1408.Idx) (e : S2x2048x1408.Idx) (h0 : (e 0 : ℕ) = 1) (h1 : (e 1 : ℕ) = t.val * 128 + (y 1 : ℕ)) (h2 : (e 2 : ℕ) = (y 2 : ℕ)) :
    ((∑ d : Fin 8, iblk0 V c 0 t (ix3 d (y 1) (y 2)) : EReal) = total (V c main_arg1) e)
    ∧ iblk0 V c 1 t y = V c main_arg2 e ∧ iblk0 V c 2 t y = V c main_arg3 e ∧ iblk0 V c 3 t y = V c main_arg4 e := by
  refine ⟨Finset.sum_congr rfl fun d _ => ?_, ?_, ?_, ?_⟩
  all_goals blk_point [iblk0, idx0 t]

/-- The first launch fills the second layer of each result. -/
theorem final0 (c : Dev nD) :
    (dat0 V c).arrAt 4 cfg0.N = (fun i => if (i 0 : ℕ) = 1 then total (V c main_arg1) i else V c main_v0_0 i)
    ∧ (dat0 V c).arrAt 5 cfg0.N = (fun i => if (i 0 : ℕ) = 1 then step (V c main_arg2 i) (total (V c main_arg1) i) (V c main_arg3 i) (V c main_arg4 i) else V c main_v0_1 i)
    ∧ (dat0 V c).arrAt 6 cfg0.N = (fun i => if (i 0 : ℕ) = 1 then first (total (V c main_arg1) i) (V c main_arg3 i) else V c main_v0_2 i)
    ∧ (dat0 V c).arrAt 7 cfg0.N = (fun i => if (i 0 : ℕ) = 1 then second (total (V c main_arg1) i) (V c main_arg4 i) else V c main_v0_3 i) := by
  refine ⟨?_, ?_, ?_, ?_⟩
  all_goals
    refine (dat0 V c).arrAt_eq_of_coversWhere _ _ (fun β => β 0 = 1) (by decide +kernel) (fun t _ y => ?_)
      (fun j => by blk_simp [Pipeline.Window.cell_apply]; omega)
    blk_simp
    first | rw [after0_4] | rw [after0_5] | rw [after0_6] | rw [after0_7]
    obtain ⟨r0, r1, r2, r3⟩ := reads0 V c t y (((cfg0.win _).blk t).view.emb y) (by blk_simp [idx0 t]) (by blk_simp [idx0 t]) (by blk_simp [idx0 t])
    simp only [body, r0, r1, r2, r3]

/-- The second launch's body stores what the first's does. -/
theorem outs1 (c : Dev nD) (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
      out0_6 (iblk1 V c 0 t) (iblk1 V c 1 t) (iblk1 V c 2 t) (iblk1 V c 3 t), out0_7 (iblk1 V c 0 t) (iblk1 V c 1 t) (iblk1 V c 2 t) (iblk1 V c 3 t)) := by
  refine Prod.ext ?_ (Prod.ext ?_ (Prod.ext ?_ ?_))
  all_goals
    unfold outsAt1
    funext y
    frame_out
    rfl

/-- Where the launch's blocks come from. -/
theorem reads1 (c : Dev nD) (t : Fin cfg1.N) (y : S1x128x1408.Idx) (e : S2x2048x1408.Idx) (h0 : (e 0 : ℕ) = 0) (h1 : (e 1 : ℕ) = t.val * 128 + (y 1 : ℕ)) (h2 : (e 2 : ℕ) = (y 2 : ℕ)) :
    ((∑ d : Fin 8, iblk1 V c 0 t (ix3 d (y 1) (y 2)) : EReal) = total (V c main_arg0) e)
    ∧ iblk1 V c 1 t y = V c main_arg2 e ∧ iblk1 V c 2 t y = V c main_arg3 e ∧ iblk1 V c 3 t y = V c main_arg4 e := by
  refine ⟨Finset.sum_congr rfl fun d _ => ?_, ?_, ?_, ?_⟩
  all_goals blk_point [iblk1, idx1 t]

/-- The second launch fills the first layer. -/
theorem final1 (c : Dev nD) :
    (dat1 V c).arrAt 4 cfg1.N = (fun i => if (i 0 : ℕ) = 0 then total (V c main_arg0) i else V c main_v1_0 i)
    ∧ (dat1 V c).arrAt 5 cfg1.N = (fun i => if (i 0 : ℕ) = 0 then step (V c main_arg2 i) (total (V c main_arg0) i) (V c main_arg3 i) (V c main_arg4 i) else V c main_v1_1 i)
    ∧ (dat1 V c).arrAt 6 cfg1.N = (fun i => if (i 0 : ℕ) = 0 then first (total (V c main_arg0) i) (V c main_arg3 i) else V c main_v1_2 i)
    ∧ (dat1 V c).arrAt 7 cfg1.N = (fun i => if (i 0 : ℕ) = 0 then second (total (V c main_arg0) i) (V c main_arg4 i) else V c main_v1_3 i) := by
  refine ⟨?_, ?_, ?_, ?_⟩
  all_goals
    refine (dat1 V c).arrAt_eq_of_coversWhere _ _ (fun β => β 0 = 0) (by decide +kernel) (fun t _ y => ?_)
      (fun j => by blk_simp [Pipeline.Window.cell_apply]; omega)
    blk_simp
    first | rw [after1_4] | rw [after1_5] | rw [after1_6] | rw [after1_7]
    obtain ⟨r0, r1, r2, r3⟩ := reads1 V c t y (((cfg1.win _).blk t).view.emb y) (by blk_simp [idx1 t]) (by blk_simp [idx1 t]) (by blk_simp [idx1 t])
    simp only [outs1, body, r0, r1, r2, r3]

end

/-- The second launch starts from the results of the first. -/
theorem copied (c : Dev nD) : V2 m ρ c main_v1_0 = (dat0 (V0 m ρ) c).arrAt 4 cfg0.N ∧ V2 m ρ c main_v1_1 = (dat0 (V0 m ρ) c).arrAt 5 cfg0.N
    ∧ V2 m ρ c main_v1_2 = (dat0 (V0 m ρ) c).arrAt 6 cfg0.N ∧ V2 m ρ c main_v1_3 = (dat0 (V0 m ρ) c).arrAt 7 cfg0.N := by
  simp only [← W1_arr, V2, W2]
  unfold hostOps1
  refine ⟨?_, ?_, ?_, ?_⟩ <;> (after_results; rfl)

/-- What the two launches leave. -/
theorem final (c : Dev nD) :
    (dat1 (V2 m ρ) c).arrAt 4 cfg1.N = (fun i => layers (m ((c : Thread nD τ).loc main_arg0)) (m ((c : Thread nD τ).loc main_arg1)) i)
    ∧ (dat1 (V2 m ρ) c).arrAt 5 cfg1.N = (fun i => step ((m ((c : Thread nD τ).loc main_arg2)) i) (layers (m ((c : Thread nD τ).loc main_arg0)) (m ((c : Thread nD τ).loc main_arg1)) i) ((m ((c : Thread nD τ).loc main_arg3)) i) ((m ((c : Thread nD τ).loc main_arg4)) i))
    ∧ (dat1 (V2 m ρ) c).arrAt 6 cfg1.N = (fun i => first (layers (m ((c : Thread nD τ).loc main_arg0)) (m ((c : Thread nD τ).loc main_arg1)) i) ((m ((c : Thread nD τ).loc main_arg3)) i))
    ∧ (dat1 (V2 m ρ) c).arrAt 7 cfg1.N = (fun i => second (layers (m ((c : Thread nD τ).loc main_arg0)) (m ((c : Thread nD τ).loc main_arg1)) i) ((m ((c : Thread nD τ).loc main_arg4)) i)) := by
  obtain ⟨a4, a5, a6, a7⟩ := final0 (V0 m ρ) c
  obtain ⟨b4, b5, b6, b7⟩ := final1 (V2 m ρ) c
  obtain ⟨k4, k5, k6, k7⟩ := copied m ρ c
  have g : ∀ a ∈ argRefs, V2 m ρ c a = m ((c : Thread nD τ).loc a) := W2_args m ρ c
  rw [b4, b5, b6, b7, k4, k5, k6, k7, a4, a5, a6, a7, g main_arg0 (by decide), g main_arg2 (by decide), g main_arg3 (by decide), g main_arg4 (by decide)]
  refine ⟨?_, ?_, ?_, ?_⟩
  all_goals
    funext i
    have hi : (i 0 : ℕ) < 2 := (i 0).isLt
    rcases (by omega : (i 0 : ℕ) = 0 ∨ (i 0 : ℕ) = 1) with h | h <;>
      simp only [h, layers, Nat.zero_lt_one, lt_irrefl, one_ne_zero, if_true, if_false]

section
open Idealize.SL Idealize.SL.RA Idealize.SL.BI Idealize.SL.BI.BIBase Idealize.SL.BI.Laws Idealize.SL.ProofMode Idealize.ShloMosaic.Rounds
open scoped Idealize.SL.BI
set_option backward.isDefEq.respectTransparency.types false in
/-- Every run ends with the buffers as the two launches leave them. -/
theorem run : θ_run defs (onTc (τ := τ) (main (F := Ideal))) ⟨m, fun _ => 0, ρ⟩ (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end

/-- The reference runs, its arguments unchanged, its counters at zero. -/
theorem reference_frame : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- From the same arguments the two launches and the reference end with the same four arrays. -/
theorem value : Cert.algebraic_Kernel13Ideal_Reference13Ideal := by
  intro m ρ m' ρ' _ hm
  refine ⟨fun c => (dat1 (V2 m ρ) c).arrAt 4 cfg1.N, fun c => (dat1 (V2 m ρ) c).arrAt 5 cfg1.N, fun c => (dat1 (V2 m ρ) c).arrAt 6 cfg1.N, fun c => (dat1 (V2 m ρ) c).arrAt 7 cfg1.N,
    (θ_run defs _ _).mono (fun _ h c => ?_) (run m ρ), (θ_run Cert.Reference13Ideal.defs _ _).mono (fun _ h c => ?_) (Cert.Reference13Ideal.Value.run (F := Ideal) m' ρ')⟩
  · have e : ∀ r : Ref sig .tc, ¬ (Proc.devRef .tc r : DevRef τ sig).isScoped → _ := fun r hr => h c _ (mem_uc r hr)
    exact ⟨(e main_v1_0 (by decide)).trans (W3_arr m ρ c 4), (e main_v1_1 (by decide)).trans (W3_arr m ρ c 5),
      (e main_v1_2 (by decide)).trans (W3_arr m ρ c 6), (e main_v1_3 (by decide)).trans (W3_arr m ρ c 7),
      (e main_arg0 (by decide)).trans (W3_main_arg0 m ρ c), (e main_arg1 (by decide)).trans (W3_main_arg1 m ρ c), (e main_arg2 (by decide)).trans (W3_main_arg2 m ρ c),
      (e main_arg3 (by decide)).trans (W3_main_arg3 m ρ c), (e main_arg4 (by decide)).trans (W3_main_arg4 m ρ c)⟩
  · obtain ⟨f4, f5, f6, f7⟩ := final m ρ c
    obtain ⟨h0, h1, h2, h3, h⟩ := h c
    refine ⟨h0.trans (Eq.trans ?_ f4.symm), h1.trans (Eq.trans ?_ f5.symm), h2.trans (Eq.trans ?_ f6.symm), h3.trans (Eq.trans ?_ f7.symm), h⟩
    all_goals
      funext i
      simp only [hm c]
      pointwise [layers, total, first, second, step]
      simp only [hm c, dite_eq_ite]

end Cert.Kernel13Ideal.Value

end
-- ==== Proof.AdIn.lean ====
module

public import proofs.«01_k».proof.Defs
public import proofs.«01_k».proof.Proof.Adam
public import proofs.«01_k».proof.Proof.Gen.Kernel14Ideal.Frame
public import proofs.«01_k».proof.Proof.Gen.Reference14Ideal.Run
public import Idealize.ShloMosaic.Lib.Quiescent

@[expose] public section

set_option maxRecDepth 16384

noncomputable section

namespace Cert.Kernel14Ideal.Value

open Cert.Kernel14Ideal Cert.Kernel14Ideal.Gen Cert.Adam Idealize.ShloMosaic Idealize.ShloMosaic.TcCoe Idealize.SL.Sem

variable (m : (ℓ : Loc nD τ sig) → Buf (Elt Ideal) ℓ) (ρ : Dev nD → PrngReg)

/-- What the body stores at each place. -/
theorem body (x0 : Vec Ideal S8x128x1732 .bf16) (x1 x2 x3 : Vec Ideal S1x128x1732 .f32) (y) :
    out0_4 x0 x1 x2 x3 y = ∑ d : Fin 8, x0 (ix3 d (y 1) (y 2))
    ∧ out0_5 x0 x1 x2 x3 y = step (x1 y) (∑ d : Fin 8, x0 (ix3 d (y 1) (y 2))) (x2 y) (x3 y)
    ∧ out0_6 x0 x1 x2 x3 y = first (∑ d : Fin 8, x0 (ix3 d (y 1) (y 2))) (x2 y)
    ∧ out0_7 x0 x1 x2 x3 y = second (∑ d : Fin 8, x0 (ix3 d (y 1) (y 2))) (x3 y) := by
  simp only [Fin.sum_univ_eight]
  refine ⟨?_, ?_, ?_, ?_⟩
  all_goals
    frame_out
    pointwise [k0_pay1, k0_pay2, k0_pay3, k0_pay4, k0_pay5, k0_pay6, k0_pay7, k0_pay8]

theorem idx0 : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)
theorem idx1 : ∀ t : Fin cfg1.N, win1_0.index t = ![0, t.val, 0] ∧ win1_1.index t = ![0, t.val, 0] ∧ win1_2.index t = ![0, t.val, 0] ∧ win1_3.index t = ![0, t.val, 0] ∧ win1_4.index t = ![0, t.val, 0] ∧ win1_5.index t = ![0, t.val, 0] ∧ win1_6.index t = ![0, t.val, 0] ∧ win1_7.index t = ![0, t.val, 0] :=
  (by decide +kernel : ∀ t : Fin grid1.N, _)
section
variable (V : (c : Dev nD) → (b : Ref sig .tc) → Buf (Elt Ideal) ((c : Thread nD τ).loc b))

/-- Where the launch's blocks come from. -/
theorem reads0 (c : Dev nD) (t : Fin cfg0.N) (y : S1x128x1732.Idx) (e : S2x2048x1732.Idx) (h0 : (e 0 : ℕ) = 1) (h1 : (e 1 : ℕ) = t.val * 128 + (y 1 : ℕ)) (h2 : (e 2 : ℕ) = (y 2 : ℕ)) :
    ((∑ d : Fin 8, iblk0 V c 0 t (ix3 d (y 1) (y 2)) : EReal) = total (V c main_arg1) e)
    ∧ iblk0 V c 1 t y = V c main_arg2 e ∧ iblk0 V c 2 t y = V c main_arg3 e ∧ iblk0 V c 3 t y = V c main_arg4 e := by
  refine ⟨Finset.sum_congr rfl fun d _ => ?_, ?_, ?_, ?_⟩
  all_goals blk_point [iblk0, idx0 t]

/-- The first launch fills the second layer of each result. -/
theorem final0 (c : Dev nD) :
    (dat0 V c).arrAt 4 cfg0.N = (fun i => if (i 0 : ℕ) = 1 then total (V c main_arg1) i else V c main_v0_0 i)
    ∧ (dat0 V c).arrAt 5 cfg0.N = (fun i => if (i 0 : ℕ) = 1 then step (V c main_arg2 i) (total (V c main_arg1) i) (V c main_arg3 i) (V c main_arg4 i) else V c main_v0_1 i)
    ∧ (dat0 V c).arrAt 6 cfg0.N = (fun i => if (i 0 : ℕ) = 1 then first (total (V c main_arg1) i) (V c main_arg3 i) else V c main_v0_2 i)
    ∧ (dat0 V c).arrAt 7 cfg0.N = (fun i => if (i 0 : ℕ) = 1 then second (total (V c main_arg1) i) (V c main_arg4 i) else V c main_v0_3 i) := by
  refine ⟨?_, ?_, ?_, ?_⟩
  all_goals
    refine (dat0 V c).arrAt_eq_of_coversWhere _ _ (fun β => β 0 = 1) (by decide +kernel) (fun t _ y => ?_)
      (fun j => by blk_simp [Pipeline.Window.cell_apply]; omega)
    blk_simp
    first | rw [after0_4] | rw [after0_5] | rw [after0_6] | rw [after0_7]
    obtain ⟨r0, r1, r2, r3⟩ := reads0 V c t y (((cfg0.win _).blk t).view.emb y) (by blk_simp [idx0 t]) (by blk_simp [idx0 t]) (by blk_simp [idx0 t])
    simp only [body, r0, r1, r2, r3]

/-- The second launch's body stores what the first's does. -/
theorem outs1 (c : Dev nD) (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
      out0_6 (iblk1 V c 0 t) (iblk1 V c 1 t) (iblk1 V c 2 t) (iblk1 V c 3 t), out0_7 (iblk1 V c 0 t) (iblk1 V c 1 t) (iblk1 V c 2 t) (iblk1 V c 3 t)) := by
  refine Prod.ext ?_ (Prod.ext ?_ (Prod.ext ?_ ?_))
  all_goals
    unfold outsAt1
    funext y
    frame_out
    rfl

/-- Where the launch's blocks come from. -/
theorem reads1 (c : Dev nD) (t : Fin cfg1.N) (y : S1x128x1732.Idx) (e : S2x2048x1732.Idx) (h0 : (e 0 : ℕ) = 0) (h1 : (e 1 : ℕ) = t.val * 128 + (y 1 : ℕ)) (h2 : (e 2 : ℕ) = (y 2 : ℕ)) :
    ((∑ d : Fin 8, iblk1 V c 0 t (ix3 d (y 1) (y 2)) : EReal) = total (V c main_arg0) e)
    ∧ iblk1 V c 1 t y = V c main_arg2 e ∧ iblk1 V c 2 t y = V c main_arg3 e ∧ iblk1 V c 3 t y = V c main_arg4 e := by
  refine ⟨Finset.sum_congr rfl fun d _ => ?_, ?_, ?_, ?_⟩
  all_goals blk_point [iblk1, idx1 t]

/-- The second launch fills the first layer. -/
theorem final1 (c : Dev nD) :
    (dat1 V c).arrAt 4 cfg1.N = (fun i => if (i 0 : ℕ) = 0 then total (V c main_arg0) i else V c main_v1_0 i)
    ∧ (dat1 V c).arrAt 5 cfg1.N = (fun i => if (i 0 : ℕ) = 0 then step (V c main_arg2 i) (total (V c main_arg0) i) (V c main_arg3 i) (V c main_arg4 i) else V c main_v1_1 i)
    ∧ (dat1 V c).arrAt 6 cfg1.N = (fun i => if (i 0 : ℕ) = 0 then first (total (V c main_arg0) i) (V c main_arg3 i) else V c main_v1_2 i)
    ∧ (dat1 V c).arrAt 7 cfg1.N = (fun i => if (i 0 : ℕ) = 0 then second (total (V c main_arg0) i) (V c main_arg4 i) else V c main_v1_3 i) := by
  refine ⟨?_, ?_, ?_, ?_⟩
  all_goals
    refine (dat1 V c).arrAt_eq_of_coversWhere _ _ (fun β => β 0 = 0) (by decide +kernel) (fun t _ y => ?_)
      (fun j => by blk_simp [Pipeline.Window.cell_apply]; omega)
    blk_simp
    first | rw [after1_4] | rw [after1_5] | rw [after1_6] | rw [after1_7]
    obtain ⟨r0, r1, r2, r3⟩ := reads1 V c t y (((cfg1.win _).blk t).view.emb y) (by blk_simp [idx1 t]) (by blk_simp [idx1 t]) (by blk_simp [idx1 t])
    simp only [outs1, body, r0, r1, r2, r3]

end

/-- The second launch starts from the results of the first. -/
theorem copied (c : Dev nD) : V2 m ρ c main_v1_0 = (dat0 (V0 m ρ) c).arrAt 4 cfg0.N ∧ V2 m ρ c main_v1_1 = (dat0 (V0 m ρ) c).arrAt 5 cfg0.N
    ∧ V2 m ρ c main_v1_2 = (dat0 (V0 m ρ) c).arrAt 6 cfg0.N ∧ V2 m ρ c main_v1_3 = (dat0 (V0 m ρ) c).arrAt 7 cfg0.N := by
  simp only [← W1_arr, V2, W2]
  unfold hostOps1
  refine ⟨?_, ?_, ?_, ?_⟩ <;> (after_results; rfl)

/-- What the two launches leave. -/
theorem final (c : Dev nD) :
    (dat1 (V2 m ρ) c).arrAt 4 cfg1.N = (fun i => layers (m ((c : Thread nD τ).loc main_arg0)) (m ((c : Thread nD τ).loc main_arg1)) i)
    ∧ (dat1 (V2 m ρ) c).arrAt 5 cfg1.N = (fun i => step ((m ((c : Thread nD τ).loc main_arg2)) i) (layers (m ((c : Thread nD τ).loc main_arg0)) (m ((c : Thread nD τ).loc main_arg1)) i) ((m ((c : Thread nD τ).loc main_arg3)) i) ((m ((c : Thread nD τ).loc main_arg4)) i))
    ∧ (dat1 (V2 m ρ) c).arrAt 6 cfg1.N = (fun i => first (layers (m ((c : Thread nD τ).loc main_arg0)) (m ((c : Thread nD τ).loc main_arg1)) i) ((m ((c : Thread nD τ).loc main_arg3)) i))
    ∧ (dat1 (V2 m ρ) c).arrAt 7 cfg1.N = (fun i => second (layers (m ((c : Thread nD τ).loc main_arg0)) (m ((c : Thread nD τ).loc main_arg1)) i) ((m ((c : Thread nD τ).loc main_arg4)) i)) := by
  obtain ⟨a4, a5, a6, a7⟩ := final0 (V0 m ρ) c
  obtain ⟨b4, b5, b6, b7⟩ := final1 (V2 m ρ) c
  obtain ⟨k4, k5, k6, k7⟩ := copied m ρ c
  have g : ∀ a ∈ argRefs, V2 m ρ c a = m ((c : Thread nD τ).loc a) := W2_args m ρ c
  rw [b4, b5, b6, b7, k4, k5, k6, k7, a4, a5, a6, a7, g main_arg0 (by decide), g main_arg2 (by decide), g main_arg3 (by decide), g main_arg4 (by decide)]
  refine ⟨?_, ?_, ?_, ?_⟩
  all_goals
    funext i
    have hi : (i 0 : ℕ) < 2 := (i 0).isLt
    rcases (by omega : (i 0 : ℕ) = 0 ∨ (i 0 : ℕ) = 1) with h | h <;>
      simp only [h, layers, Nat.zero_lt_one, lt_irrefl, one_ne_zero, if_true, if_false]

section
open Idealize.SL Idealize.SL.RA Idealize.SL.BI Idealize.SL.BI.BIBase Idealize.SL.BI.Laws Idealize.SL.ProofMode Idealize.ShloMosaic.Rounds
open scoped Idealize.SL.BI
set_option backward.isDefEq.respectTransparency.types false in
/-- Every run ends with the buffers as the two launches leave them. -/
theorem run : θ_run defs (onTc (τ := τ) (main (F := Ideal))) ⟨m, fun _ => 0, ρ⟩ (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end

/-- The reference runs, its arguments unchanged, its counters at zero. -/
theorem reference_frame : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- From the same arguments the two launches and the reference end with the same four arrays. -/
theorem value : Cert.algebraic_Kernel14Ideal_Reference14Ideal := by
  intro m ρ m' ρ' _ hm
  refine ⟨fun c => (dat1 (V2 m ρ) c).arrAt 4 cfg1.N, fun c => (dat1 (V2 m ρ) c).arrAt 5 cfg1.N, fun c => (dat1 (V2 m ρ) c).arrAt 6 cfg1.N, fun c => (dat1 (V2 m ρ) c).arrAt 7 cfg1.N,
    (θ_run defs _ _).mono (fun _ h c => ?_) (run m ρ), (θ_run Cert.Reference14Ideal.defs _ _).mono (fun _ h c => ?_) (Cert.Reference14Ideal.Value.run (F := Ideal) m' ρ')⟩
  · have e : ∀ r : Ref sig .tc, ¬ (Proc.devRef .tc r : DevRef τ sig).isScoped → _ := fun r hr => h c _ (mem_uc r hr)
    exact ⟨(e main_v1_0 (by decide)).trans (W3_arr m ρ c 4), (e main_v1_1 (by decide)).trans (W3_arr m ρ c 5),
      (e main_v1_2 (by decide)).trans (W3_arr m ρ c 6), (e main_v1_3 (by decide)).trans (W3_arr m ρ c 7),
      (e main_arg0 (by decide)).trans (W3_main_arg0 m ρ c), (e main_arg1 (by decide)).trans (W3_main_arg1 m ρ c), (e main_arg2 (by decide)).trans (W3_main_arg2 m ρ c),
      (e main_arg3 (by decide)).trans (W3_main_arg3 m ρ c), (e main_arg4 (by decide)).trans (W3_main_arg4 m ρ c)⟩
  · obtain ⟨f4, f5, f6, f7⟩ := final m ρ c
    obtain ⟨h0, h1, h2, h3, h⟩ := h c
    refine ⟨h0.trans (Eq.trans ?_ f4.symm), h1.trans (Eq.trans ?_ f5.symm), h2.trans (Eq.trans ?_ f6.symm), h3.trans (Eq.trans ?_ f7.symm), h⟩
    all_goals
      funext i
      simp only [hm c]
      pointwise [layers, total, first, second, step]
      simp only [hm c, dite_eq_ite]

end Cert.Kernel14Ideal.Value

end
-- ==== Proof.AdOut.lean ====
module

public import proofs.«01_k».proof.Defs
public import proofs.«01_k».proof.Proof.Adam
public import proofs.«01_k».proof.Proof.Gen.Kernel15Ideal.Frame
public import proofs.«01_k».proof.Proof.Gen.Reference15Ideal.Run
public import Idealize.ShloMosaic.Lib.Quiescent

@[expose] public section

set_option maxRecDepth 16384

noncomputable section

namespace Cert.Kernel15Ideal.Value

open Cert.Kernel15Ideal Cert.Kernel15Ideal.Gen Cert.Adam Idealize.ShloMosaic Idealize.ShloMosaic.TcCoe Idealize.SL.Sem

variable (m : (ℓ : Loc nD τ sig) → Buf (Elt Ideal) ℓ) (ρ : Dev nD → PrngReg)

/-- What the body stores at each place. -/
theorem body (x0 : Vec Ideal S8x128x2048 .bf16) (x1 x2 x3 : Vec Ideal S1x128x2048 .f32) (y) :
    out0_4 x0 x1 x2 x3 y = ∑ d : Fin 8, x0 (ix3 d (y 1) (y 2))
    ∧ out0_5 x0 x1 x2 x3 y = step (x1 y) (∑ d : Fin 8, x0 (ix3 d (y 1) (y 2))) (x2 y) (x3 y)
    ∧ out0_6 x0 x1 x2 x3 y = first (∑ d : Fin 8, x0 (ix3 d (y 1) (y 2))) (x2 y)
    ∧ out0_7 x0 x1 x2 x3 y = second (∑ d : Fin 8, x0 (ix3 d (y 1) (y 2))) (x3 y) := by
  simp only [Fin.sum_univ_eight]
  refine ⟨?_, ?_, ?_, ?_⟩
  all_goals
    frame_out
    pointwise [k0_pay1, k0_pay2, k0_pay3, k0_pay4, k0_pay5, k0_pay6, k0_pay7, k0_pay8]

theorem idx0 : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)
theorem idx1 : ∀ t : Fin cfg1.N, win1_0.index t = ![0, t.val, 0] ∧ win1_1.index t = ![0, t.val, 0] ∧ win1_2.index t = ![0, t.val, 0] ∧ win1_3.index t = ![0, t.val, 0] ∧ win1_4.index t = ![0, t.val, 0] ∧ win1_5.index t = ![0, t.val, 0] ∧ win1_6.index t = ![0, t.val, 0] ∧ win1_7.index t = ![0, t.val, 0] :=
  (by decide +kernel : ∀ t : Fin grid1.N, _)
section
variable (V : (c : Dev nD) → (b : Ref sig .tc) → Buf (Elt Ideal) ((c : Thread nD τ).loc b))

/-- Where the launch's blocks come from. -/
theorem reads0 (c : Dev nD) (t : Fin cfg0.N) (y : S1x128x2048.Idx) (e : S2x256x2048.Idx) (h0 : (e 0 : ℕ) = 1) (h1 : (e 1 : ℕ) = t.val * 128 + (y 1 : ℕ)) (h2 : (e 2 : ℕ) = (y 2 : ℕ)) :
    ((∑ d : Fin 8, iblk0 V c 0 t (ix3 d (y 1) (y 2)) : EReal) = total (V c main_arg1) e)
    ∧ iblk0 V c 1 t y = V c main_arg2 e ∧ iblk0 V c 2 t y = V c main_arg3 e ∧ iblk0 V c 3 t y = V c main_arg4 e := by
  refine ⟨Finset.sum_congr rfl fun d _ => ?_, ?_, ?_, ?_⟩
  all_goals blk_point [iblk0, idx0 t]

/-- The first launch fills the second layer of each result. -/
theorem final0 (c : Dev nD) :
    (dat0 V c).arrAt 4 cfg0.N = (fun i => if (i 0 : ℕ) = 1 then total (V c main_arg1) i else V c main_v0_0 i)
    ∧ (dat0 V c).arrAt 5 cfg0.N = (fun i => if (i 0 : ℕ) = 1 then step (V c main_arg2 i) (total (V c main_arg1) i) (V c main_arg3 i) (V c main_arg4 i) else V c main_v0_1 i)
    ∧ (dat0 V c).arrAt 6 cfg0.N = (fun i => if (i 0 : ℕ) = 1 then first (total (V c main_arg1) i) (V c main_arg3 i) else V c main_v0_2 i)
    ∧ (dat0 V c).arrAt 7 cfg0.N = (fun i => if (i 0 : ℕ) = 1 then second (total (V c main_arg1) i) (V c main_arg4 i) else V c main_v0_3 i) := by
  refine ⟨?_, ?_, ?_, ?_⟩
  all_goals
    refine (dat0 V c).arrAt_eq_of_coversWhere _ _ (fun β => β 0 = 1) (by decide +kernel) (fun t _ y => ?_)
      (fun j => by blk_simp [Pipeline.Window.cell_apply]; omega)
    blk_simp
    first | rw [after0_4] | rw [after0_5] | rw [after0_6] | rw [after0_7]
    obtain ⟨r0, r1, r2, r3⟩ := reads0 V c t y (((cfg0.win _).blk t).view.emb y) (by blk_simp [idx0 t]) (by blk_simp [idx0 t]) (by blk_simp [idx0 t])
    simp only [body, r0, r1, r2, r3]

/-- The second launch's body stores what the first's does. -/
theorem outs1 (c : Dev nD) (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
      out0_6 (iblk1 V c 0 t) (iblk1 V c 1 t) (iblk1 V c 2 t) (iblk1 V c 3 t), out0_7 (iblk1 V c 0 t) (iblk1 V c 1 t) (iblk1 V c 2 t) (iblk1 V c 3 t)) := by
  refine Prod.ext ?_ (Prod.ext ?_ (Prod.ext ?_ ?_))
  all_goals
    unfold outsAt1
    funext y
    frame_out
    rfl

/-- Where the launch's blocks come from. -/
theorem reads1 (c : Dev nD) (t : Fin cfg1.N) (y : S1x128x2048.Idx) (e : S2x256x2048.Idx) (h0 : (e 0 : ℕ) = 0) (h1 : (e 1 : ℕ) = t.val * 128 + (y 1 : ℕ)) (h2 : (e 2 : ℕ) = (y 2 : ℕ)) :
    ((∑ d : Fin 8, iblk1 V c 0 t (ix3 d (y 1) (y 2)) : EReal) = total (V c main_arg0) e)
    ∧ iblk1 V c 1 t y = V c main_arg2 e ∧ iblk1 V c 2 t y = V c main_arg3 e ∧ iblk1 V c 3 t y = V c main_arg4 e := by
  refine ⟨Finset.sum_congr rfl fun d _ => ?_, ?_, ?_, ?_⟩
  all_goals blk_point [iblk1, idx1 t]

/-- The second launch fills the first layer. -/
theorem final1 (c : Dev nD) :
    (dat1 V c).arrAt 4 cfg1.N = (fun i => if (i 0 : ℕ) = 0 then total (V c main_arg0) i else V c main_v1_0 i)
    ∧ (dat1 V c).arrAt 5 cfg1.N = (fun i => if (i 0 : ℕ) = 0 then step (V c main_arg2 i) (total (V c main_arg0) i) (V c main_arg3 i) (V c main_arg4 i) else V c main_v1_1 i)
    ∧ (dat1 V c).arrAt 6 cfg1.N = (fun i => if (i 0 : ℕ) = 0 then first (total (V c main_arg0) i) (V c main_arg3 i) else V c main_v1_2 i)
    ∧ (dat1 V c).arrAt 7 cfg1.N = (fun i => if (i 0 : ℕ) = 0 then second (total (V c main_arg0) i) (V c main_arg4 i) else V c main_v1_3 i) := by
  refine ⟨?_, ?_, ?_, ?_⟩
  all_goals
    refine (dat1 V c).arrAt_eq_of_coversWhere _ _ (fun β => β 0 = 0) (by decide +kernel) (fun t _ y => ?_)
      (fun j => by blk_simp [Pipeline.Window.cell_apply]; omega)
    blk_simp
    first | rw [after1_4] | rw [after1_5] | rw [after1_6] | rw [after1_7]
    obtain ⟨r0, r1, r2, r3⟩ := reads1 V c t y (((cfg1.win _).blk t).view.emb y) (by blk_simp [idx1 t]) (by blk_simp [idx1 t]) (by blk_simp [idx1 t])
    simp only [outs1, body, r0, r1, r2, r3]

end

/-- The second launch starts from the results of the first. -/
theorem copied (c : Dev nD) : V2 m ρ c main_v1_0 = (dat0 (V0 m ρ) c).arrAt 4 cfg0.N ∧ V2 m ρ c main_v1_1 = (dat0 (V0 m ρ) c).arrAt 5 cfg0.N
    ∧ V2 m ρ c main_v1_2 = (dat0 (V0 m ρ) c).arrAt 6 cfg0.N ∧ V2 m ρ c main_v1_3 = (dat0 (V0 m ρ) c).arrAt 7 cfg0.N := by
  simp only [← W1_arr, V2, W2]
  unfold hostOps1
  refine ⟨?_, ?_, ?_, ?_⟩ <;> (after_results; rfl)

/-- What the two launches leave. -/
theorem final (c : Dev nD) :
    (dat1 (V2 m ρ) c).arrAt 4 cfg1.N = (fun i => layers (m ((c : Thread nD τ).loc main_arg0)) (m ((c : Thread nD τ).loc main_arg1)) i)
    ∧ (dat1 (V2 m ρ) c).arrAt 5 cfg1.N = (fun i => step ((m ((c : Thread nD τ).loc main_arg2)) i) (layers (m ((c : Thread nD τ).loc main_arg0)) (m ((c : Thread nD τ).loc main_arg1)) i) ((m ((c : Thread nD τ).loc main_arg3)) i) ((m ((c : Thread nD τ).loc main_arg4)) i))
    ∧ (dat1 (V2 m ρ) c).arrAt 6 cfg1.N = (fun i => first (layers (m ((c : Thread nD τ).loc main_arg0)) (m ((c : Thread nD τ).loc main_arg1)) i) ((m ((c : Thread nD τ).loc main_arg3)) i))
    ∧ (dat1 (V2 m ρ) c).arrAt 7 cfg1.N = (fun i => second (layers (m ((c : Thread nD τ).loc main_arg0)) (m ((c : Thread nD τ).loc main_arg1)) i) ((m ((c : Thread nD τ).loc main_arg4)) i)) := by
  obtain ⟨a4, a5, a6, a7⟩ := final0 (V0 m ρ) c
  obtain ⟨b4, b5, b6, b7⟩ := final1 (V2 m ρ) c
  obtain ⟨k4, k5, k6, k7⟩ := copied m ρ c
  have g : ∀ a ∈ argRefs, V2 m ρ c a = m ((c : Thread nD τ).loc a) := W2_args m ρ c
  rw [b4, b5, b6, b7, k4, k5, k6, k7, a4, a5, a6, a7, g main_arg0 (by decide), g main_arg2 (by decide), g main_arg3 (by decide), g main_arg4 (by decide)]
  refine ⟨?_, ?_, ?_, ?_⟩
  all_goals
    funext i
    have hi : (i 0 : ℕ) < 2 := (i 0).isLt
    rcases (by omega : (i 0 : ℕ) = 0 ∨ (i 0 : ℕ) = 1) with h | h <;>
      simp only [h, layers, Nat.zero_lt_one, lt_irrefl, one_ne_zero, if_true, if_false]

section
open Idealize.SL Idealize.SL.RA Idealize.SL.BI Idealize.SL.BI.BIBase Idealize.SL.BI.Laws Idealize.SL.ProofMode Idealize.ShloMosaic.Rounds
open scoped Idealize.SL.BI
set_option backward.isDefEq.respectTransparency.types false in
/-- Every run ends with the buffers as the two launches leave them. -/
theorem run : θ_run defs (onTc (τ := τ) (main (F := Ideal))) ⟨m, fun _ => 0, ρ⟩ (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end

/-- The reference runs, its arguments unchanged, its counters at zero. -/
theorem reference_frame : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

/-- From the same arguments the two launches and the reference end with the same four arrays. -/
theorem value : Cert.algebraic_Kernel15Ideal_Reference15Ideal := by
  intro m ρ m' ρ' _ hm
  refine ⟨fun c => (dat1 (V2 m ρ) c).arrAt 4 cfg1.N, fun c => (dat1 (V2 m ρ) c).arrAt 5 cfg1.N, fun c => (dat1 (V2 m ρ) c).arrAt 6 cfg1.N, fun c => (dat1 (V2 m ρ) c).arrAt 7 cfg1.N,
    (θ_run defs _ _).mono (fun _ h c => ?_) (run m ρ), (θ_run Cert.Reference15Ideal.defs _ _).mono (fun _ h c => ?_) (Cert.Reference15Ideal.Value.run (F := Ideal) m' ρ')⟩
  · have e : ∀ r : Ref sig .tc, ¬ (Proc.devRef .tc r : DevRef τ sig).isScoped → _ := fun r hr => h c _ (mem_uc r hr)
    exact ⟨(e main_v1_0 (by decide)).trans (W3_arr m ρ c 4), (e main_v1_1 (by decide)).trans (W3_arr m ρ c 5),
      (e main_v1_2 (by decide)).trans (W3_arr m ρ c 6), (e main_v1_3 (by decide)).trans (W3_arr m ρ c 7),
      (e main_arg0 (by decide)).trans (W3_main_arg0 m ρ c), (e main_arg1 (by decide)).trans (W3_main_arg1 m ρ c), (e main_arg2 (by decide)).trans (W3_main_arg2 m ρ c),
      (e main_arg3 (by decide)).trans (W3_main_arg3 m ρ c), (e main_arg4 (by decide)).trans (W3_main_arg4 m ρ c)⟩
  · obtain ⟨f4, f5, f6, f7⟩ := final m ρ c
    obtain ⟨h0, h1, h2, h3, h⟩ := h c
    refine ⟨h0.trans (Eq.trans ?_ f4.symm), h1.trans (Eq.trans ?_ f5.symm), h2.trans (Eq.trans ?_ f6.symm), h3.trans (Eq.trans ?_ f7.symm), h⟩
    all_goals
      funext i
      simp only [hm c]
      pointwise [layers, total, first, second, step]
      simp only [hm c, dite_eq_ite]

end Cert.Kernel15Ideal.Value

end
-- ==== Proof.AdBr.lean ====
module

public import proofs.«01_k».proof.Defs
public import proofs.«01_k».proof.Proof.Adam
public import proofs.«01_k».proof.Proof.Gen.Kernel16Ideal.Frame
public import proofs.«01_k».proof.Proof.Gen.Reference16Ideal.Run
public import Idealize.ShloMosaic.Lib.Quiescent

@[expose] public section

set_option maxRecDepth 16384

noncomputable section

namespace Cert.Kernel16Ideal.Value

open Cert.Kernel16Ideal Cert.Kernel16Ideal.Gen Cert.Adam Idealize.ShloMosaic Idealize.ShloMosaic.TcCoe Idealize.SL.Sem

variable (m : (ℓ : Loc nD τ sig) → Buf (Elt Ideal) ℓ) (ρ : Dev nD → PrngReg)

/-- What the body stores at each place. -/
theorem body (x0 : Vec Ideal S8x128x256 .bf16) (x1 x2 x3 : Vec Ideal S1x128x256 .f32) (y) :
    out0_4 x0 x1 x2 x3 y = ∑ d : Fin 8, x0 (ix3 d (y 1) (y 2))
    ∧ out0_5 x0 x1 x2 x3 y = step (x1 y) (∑ d : Fin 8, x0 (ix3 d (y 1) (y 2))) (x2 y) (x3 y)
    ∧ out0_6 x0 x1 x2 x3 y = first (∑ d : Fin 8, x0 (ix3 d (y 1) (y 2))) (x2 y)
    ∧ out0_7 x0 x1 x2 x3 y = second (∑ d : Fin 8, x0 (ix3 d (y 1) (y 2))) (x3 y) := by
  simp only [Fin.sum_univ_eight]
  refine ⟨?_, ?_, ?_, ?_⟩
  all_goals
    frame_out
    pointwise [k0_pay1, k0_pay2, k0_pay3, k0_pay4, k0_pay5, k0_pay6, k0_pay7, k0_pay8]

theorem idx0 : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)
theorem idx1 : ∀ t : Fin cfg1.N, win1_0.index t = ![0, t.val, 0] ∧ win1_1.index t = ![0, t.val, 0] ∧ win1_2.index t = ![0, t.val, 0] ∧ win1_3.index t = ![0, t.val, 0] ∧ win1_4.index t = ![0, t.val, 0] ∧ win1_5.index t = ![0, t.val, 0] ∧ win1_6.index t = ![0, t.val, 0] ∧ win1_7.index t = ![0, t.val, 0] :=
  (by decide +kernel : ∀ t : Fin grid1.N, _)
section
variable (V : (c : Dev nD) → (b : Ref sig .tc) → Buf (Elt Ideal) ((c : Thread nD τ).loc b))

/-- Where the launch's blocks come from. -/
theorem reads0 (c : Dev nD) (t : Fin cfg0.N) (y : S1x128x256.Idx) (e : S2x1024x256.Idx) (h0 : (e 0 : ℕ) = 1) (h1 : (e 1 : ℕ) = t.val * 128 + (y 1 : ℕ)) (h2 : (e 2 : ℕ) = (y 2 : ℕ)) :
    ((∑ d : Fin 8, iblk0 V c 0 t (ix3 d (y 1) (y 2)) : EReal) = total (V c main_arg1) e)
    ∧ iblk0 V c 1 t y = V c main_arg2 e ∧ iblk0 V c 2 t y = V c main_arg3 e ∧ iblk0 V c 3 t y = V c main_arg4 e := by
  refine ⟨Finset.sum_congr rfl fun d _ => ?_, ?_, ?_, ?_⟩
  all_goals blk_point [iblk0, idx0 t]

/-- The first launch fills the second layer of each result. -/
theorem final0 (c : Dev nD) :
    (dat0 V c).arrAt 4 cfg0.N = (fun i => if (i 0 : ℕ) = 1 then total (V c main_arg1) i else V c main_v0_0 i)
    ∧ (dat0 V c).arrAt 5 cfg0.N = (fun i => if (i 0 : ℕ) = 1 then step (V c main_arg2 i) (total (V c main_arg1) i) (V c main_arg3 i) (V c main_arg4 i) else V c main_v0_1 i)
    ∧ (dat0 V c).arrAt 6 cfg0.N = (fun i => if (i 0 : ℕ) = 1 then first (total (V c main_arg1) i) (V c main_arg3 i) else V c main_v0_2 i)
    ∧ (dat0 V c).arrAt 7 cfg0.N = (fun i => if (i 0 : ℕ) = 1 then second (total (V c main_arg1) i) (V c main_arg4 i) else V c main_v0_3 i) := by
  refine ⟨?_, ?_, ?_, ?_⟩
  all_goals
    refine (dat0 V c).arrAt_eq_of_coversWhere _ _ (fun β => β 0 = 1) (by decide +kernel) (fun t _ y => ?_)
      (fun j => by blk_simp [Pipeline.Window.cell_apply]; omega)
    blk_simp
    first | rw [after0_4] | rw [after0_5] | rw [after0_6] | rw [after0_7]
    obtain ⟨r0, r1, r2, r3⟩ := reads0 V c t y (((cfg0.win _).blk t).view.emb y) (by blk_simp [idx0 t]) (by blk_simp [idx0 t]) (by blk_simp [idx0 t])
    simp only [body, r0, r1, r2, r3]

/-- The second launch's body stores what the first's does. -/
theorem outs1 (c : Dev nD) (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
      out0_6 (iblk1 V c 0 t) (iblk1 V c 1 t) (iblk1 V c 2 t) (iblk1 V c 3 t), out0_7 (iblk1 V c 0 t) (iblk1 V c 1 t) (iblk1 V c 2 t) (iblk1 V c 3 t)) := by
  refine Prod.ext ?_ (Prod.ext ?_ (Prod.ext ?_ ?_))
  all_goals
    unfold outsAt1
    funext y
    frame_out
    rfl

/-- Where the launch's blocks come from. -/
theorem reads1 (c : Dev nD) (t : Fin cfg1.N) (y : S1x128x256.Idx) (e : S2x1024x256.Idx) (h0 : (e 0 : ℕ) = 0) (h1 : (e 1 : ℕ) = t.val * 128 + (y 1 : ℕ)) (h2 : (e 2 : ℕ) = (y 2 : ℕ)) :
    ((∑ d : Fin 8, iblk1 V c 0 t (ix3 d (y 1) (y 2)) : EReal) = total (V c main_arg0) e)
    ∧ iblk1 V c 1 t y = V c main_arg2 e ∧ iblk1 V c 2 t y = V c main_arg3 e ∧ iblk1 V c 3 t y = V c main_arg4 e := by
  refine ⟨Finset.sum_congr rfl fun d _ => ?_, ?_, ?_, ?_⟩
  all_goals blk_point [iblk1, idx1 t]

/-- The second launch fills the first layer. -/
theorem final1 (c : Dev nD) :
    (dat1 V c).arrAt 4 cfg1.N = (fun i => if (i 0 : ℕ) = 0 then total (V c main_arg0) i else V c main_v1_0 i)
    ∧ (dat1 V c).arrAt 5 cfg1.N = (fun i => if (i 0 : ℕ) = 0 then step (V c main_arg2 i) (total (V c main_arg0) i) (V c main_arg3 i) (V c main_arg4 i) else V c main_v1_1 i)
    ∧ (dat1 V c).arrAt 6 cfg1.N = (fun i => if (i 0 : ℕ) = 0 then first (total (V c main_arg0) i) (V c main_arg3 i) else V c main_v1_2 i)
    ∧ (dat1 V c).arrAt 7 cfg1.N = (fun i => if (i 0 : ℕ) = 0 then second (total (V c main_arg0) i) (V c main_arg4 i) else V c main_v1_3 i) := by
  refine ⟨?_, ?_, ?_, ?_⟩
  all_goals
    refine (dat1 V c).arrAt_eq_of_coversWhere _ _ (fun β => β 0 = 0) (by decide +kernel) (fun t _ y => ?_)
      (fun j => by blk_simp [Pipeline.Window.cell_apply]; omega)
    blk_simp
    first | rw [after1_4] | rw [after1_5] | rw [after1_6] | rw [after1_7]
    obtain ⟨r0, r1, r2, r3⟩ := reads1 V c t y (((cfg1.win _).blk t).view.emb y) (by blk_simp [idx1 t]) (by blk_simp [idx1 t]) (by blk_simp [idx1 t])
    simp only [outs1, body, r0, r1, r2, r3]

end

/-- The second launch starts from the results of the first. -/
theorem copied (c : Dev nD) : V2 m ρ c main_v1_0 = (dat0 (V0 m ρ) c).arrAt 4 cfg0.N ∧ V2 m ρ c main_v1_1 = (dat0 (V0 m ρ) c).arrAt 5 cfg0.N
    ∧ V2 m ρ c main_v1_2 = (dat0 (V0 m ρ) c).arrAt 6 cfg0.N ∧ V2 m ρ c main_v1_3 = (dat0 (V0 m ρ) c).arrAt 7 cfg0.N := by
  simp only [← W1_arr, V2, W2]
  unfold hostOps1
  refine ⟨?_, ?_, ?_, ?_⟩ <;> (after_results; rfl)

/-- What the two launches leave. -/
theorem final (c : Dev nD) :
    (dat1 (V2 m ρ) c).arrAt 4 cfg1.N = (fun i => layers (m ((c : Thread nD τ).loc main_arg0)) (m ((c : Thread nD τ).loc main_arg1)) i)
    ∧ (dat1 (V2 m ρ) c).arrAt 5 cfg1.N = (fun i => step ((m ((c : Thread nD τ).loc main_arg2)) i) (layers (m ((c : Thread nD τ).loc main_arg0)) (m ((c : Thread nD τ).loc main_arg1)) i) ((m ((c : Thread nD τ).loc main_arg3)) i) ((m ((c : Thread nD τ).loc main_arg4)) i))
    ∧ (dat1 (V2 m ρ) c).arrAt 6 cfg1.N = (fun i => first (layers (m ((c : Thread nD τ).loc main_arg0)) (m ((c : Thread nD τ).loc main_arg1)) i) ((m ((c : Thread nD τ).loc main_arg3)) i))
    ∧ (dat1 (V2 m ρ) c).arrAt 7 cfg1.N = (fun i => second (layers (m ((c : Thread nD τ).loc main_arg0)) (m ((c : Thread nD τ).loc main_arg1)) i) ((m ((c : Thread nD τ).loc main_arg4)) i)) := by
  obtain ⟨a4, a5, a6, a7⟩ := final0 (V0 m ρ) c
  obtain ⟨b4, b5, b6, b7⟩ := final1 (V2 m ρ) c
  obtain ⟨k4, k5, k6, k7⟩ := copied m ρ c
  have g : ∀ a ∈ argRefs, V2 m ρ c a = m ((c : Thread nD τ).loc a) := W2_args m ρ c
  rw [b4, b5, b6, b7, k4, k5, k6, k7, a4, a5, a6, a7, g main_arg0 (by decide), g main_arg2 (by decide), g main_arg3 (by decide), g main_arg4 (by decide)]
  refine ⟨?_, ?_, ?_, ?_⟩
  all_goals
    funext i
    have hi : (i 0 : ℕ) < 2 := (i 0).isLt
    rcases (by omega : (i 0 : ℕ) = 0 ∨ (i 0 : ℕ) = 1) with h | h <;>
      simp only [h, layers, Nat.zero_lt_one, lt_irrefl, one_ne_zero, if_true, if_false]

section
open Idealize.SL Idealize.SL.RA Idealize.SL.BI Idealize.SL.BI.BIBase Idealize.SL.BI.Laws Idealize.SL.ProofMode Idealize.ShloMosaic.Rounds
open scoped Idealize.SL.BI
set_option backward.isDefEq.respectTransparency.types false in
/-- Every run ends with the buffers as the two launches leave them. -/
theorem run : θ_run defs (onTc (τ := τ) (main (F := Ideal))) ⟨m, fun _ => 0, ρ⟩ (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end

/-- The reference runs, its arguments unchanged, its counters at zero. -/
theorem reference_frame : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- From the same arguments the two launches and the reference end with the same four arrays. -/
theorem value : Cert.algebraic_Kernel16Ideal_Reference16Ideal := by
  intro m ρ m' ρ' _ hm
  refine ⟨fun c => (dat1 (V2 m ρ) c).arrAt 4 cfg1.N, fun c => (dat1 (V2 m ρ) c).arrAt 5 cfg1.N, fun c => (dat1 (V2 m ρ) c).arrAt 6 cfg1.N, fun c => (dat1 (V2 m ρ) c).arrAt 7 cfg1.N,
    (θ_run defs _ _).mono (fun _ h c => ?_) (run m ρ), (θ_run Cert.Reference16Ideal.defs _ _).mono (fun _ h c => ?_) (Cert.Reference16Ideal.Value.run (F := Ideal) m' ρ')⟩
  · have e : ∀ r : Ref sig .tc, ¬ (Proc.devRef .tc r : DevRef τ sig).isScoped → _ := fun r hr => h c _ (mem_uc r hr)
    exact ⟨(e main_v1_0 (by decide)).trans (W3_arr m ρ c 4), (e main_v1_1 (by decide)).trans (W3_arr m ρ c 5),
      (e main_v1_2 (by decide)).trans (W3_arr m ρ c 6), (e main_v1_3 (by decide)).trans (W3_arr m ρ c 7),
      (e main_arg0 (by decide)).trans (W3_main_arg0 m ρ c), (e main_arg1 (by decide)).trans (W3_main_arg1 m ρ c), (e main_arg2 (by decide)).trans (W3_main_arg2 m ρ c),
      (e main_arg3 (by decide)).trans (W3_main_arg3 m ρ c), (e main_arg4 (by decide)).trans (W3_main_arg4 m ρ c)⟩
  · obtain ⟨f4, f5, f6, f7⟩ := final m ρ c
    obtain ⟨h0, h1, h2, h3, h⟩ := h c
    refine ⟨h0.trans (Eq.trans ?_ f4.symm), h1.trans (Eq.trans ?_ f5.symm), h2.trans (Eq.trans ?_ f6.symm), h3.trans (Eq.trans ?_ f7.symm), h⟩
    all_goals
      funext i
      simp only [hm c]
      pointwise [layers, total, first, second, step]
      simp only [hm c, dite_eq_ite]

end Cert.Kernel16Ideal.Value

end
-- ==== Proof.AdPool.lean ====
module

public import proofs.«01_k».proof.Defs
public import proofs.«01_k».proof.Proof.Adam
public import proofs.«01_k».proof.Proof.Gen.Kernel17Ideal.Frame
public import proofs.«01_k».proof.Proof.Gen.Reference17Ideal.Run
public import Idealize.ShloMosaic.Lib.Quiescent

@[expose] public section

set_option maxRecDepth 16384

noncomputable section

namespace Cert.Kernel17Ideal.Value

open Cert.Kernel17Ideal Cert.Kernel17Ideal.Gen Cert.Adam Idealize.ShloMosaic Idealize.ShloMosaic.TcCoe Idealize.SL.Sem

variable (m : (ℓ : Loc nD τ sig) → Buf (Elt Ideal) ℓ) (ρ : Dev nD → PrngReg)

/-- What the body stores at each place. -/
theorem body (x0 : Vec Ideal S8x128x256 .bf16) (x1 x2 x3 : Vec Ideal S1x128x256 .f32) (y) :
    out0_4 x0 x1 x2 x3 y = ∑ d : Fin 8, x0 (ix3 d (y 1) (y 2))
    ∧ out0_5 x0 x1 x2 x3 y = step (x1 y) (∑ d : Fin 8, x0 (ix3 d (y 1) (y 2))) (x2 y) (x3 y)
    ∧ out0_6 x0 x1 x2 x3 y = first (∑ d : Fin 8, x0 (ix3 d (y 1) (y 2))) (x2 y)
    ∧ out0_7 x0 x1 x2 x3 y = second (∑ d : Fin 8, x0 (ix3 d (y 1) (y 2))) (x3 y) := by
  simp only [Fin.sum_univ_eight]
  refine ⟨?_, ?_, ?_, ?_⟩
  all_goals
    frame_out
    pointwise [k0_pay1, k0_pay2, k0_pay3, k0_pay4, k0_pay5, k0_pay6, k0_pay7, k0_pay8]

theorem idx0 : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)
theorem idx1 : ∀ t : Fin cfg1.N, win1_0.index t = ![0, t.val, 0] ∧ win1_1.index t = ![0, t.val, 0] ∧ win1_2.index t = ![0, t.val, 0] ∧ win1_3.index t = ![0, t.val, 0] ∧ win1_4.index t = ![0, t.val, 0] ∧ win1_5.index t = ![0, t.val, 0] ∧ win1_6.index t = ![0, t.val, 0] ∧ win1_7.index t = ![0, t.val, 0] :=
  (by decide +kernel : ∀ t : Fin grid1.N, _)
section
variable (V : (c : Dev nD) → (b : Ref sig .tc) → Buf (Elt Ideal) ((c : Thread nD τ).loc b))

/-- Where the launch's blocks come from. -/
theorem reads0 (c : Dev nD) (t : Fin cfg0.N) (y : S1x128x256.Idx) (e : S2x128x256.Idx) (h0 : (e 0 : ℕ) = 1) (h1 : (e 1 : ℕ) = t.val * 128 + (y 1 : ℕ)) (h2 : (e 2 : ℕ) = (y 2 : ℕ)) :
    ((∑ d : Fin 8, iblk0 V c 0 t (ix3 d (y 1) (y 2)) : EReal) = total (V c main_arg1) e)
    ∧ iblk0 V c 1 t y = V c main_arg2 e ∧ iblk0 V c 2 t y = V c main_arg3 e ∧ iblk0 V c 3 t y = V c main_arg4 e := by
  refine ⟨Finset.sum_congr rfl fun d _ => ?_, ?_, ?_, ?_⟩
  all_goals blk_point [iblk0, idx0 t]

/-- The first launch fills the second layer of each result. -/
theorem final0 (c : Dev nD) :
    (dat0 V c).arrAt 4 cfg0.N = (fun i => if (i 0 : ℕ) = 1 then total (V c main_arg1) i else V c main_v0_0 i)
    ∧ (dat0 V c).arrAt 5 cfg0.N = (fun i => if (i 0 : ℕ) = 1 then step (V c main_arg2 i) (total (V c main_arg1) i) (V c main_arg3 i) (V c main_arg4 i) else V c main_v0_1 i)
    ∧ (dat0 V c).arrAt 6 cfg0.N = (fun i => if (i 0 : ℕ) = 1 then first (total (V c main_arg1) i) (V c main_arg3 i) else V c main_v0_2 i)
    ∧ (dat0 V c).arrAt 7 cfg0.N = (fun i => if (i 0 : ℕ) = 1 then second (total (V c main_arg1) i) (V c main_arg4 i) else V c main_v0_3 i) := by
  refine ⟨?_, ?_, ?_, ?_⟩
  all_goals
    refine (dat0 V c).arrAt_eq_of_coversWhere _ _ (fun β => β 0 = 1) (by decide +kernel) (fun t _ y => ?_)
      (fun j => by blk_simp [Pipeline.Window.cell_apply]; omega)
    blk_simp
    first | rw [after0_4] | rw [after0_5] | rw [after0_6] | rw [after0_7]
    obtain ⟨r0, r1, r2, r3⟩ := reads0 V c t y (((cfg0.win _).blk t).view.emb y) (by blk_simp [idx0 t]) (by blk_simp [idx0 t]) (by blk_simp [idx0 t])
    simp only [body, r0, r1, r2, r3]

/-- The second launch's body stores what the first's does. -/
theorem outs1 (c : Dev nD) (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
      out0_6 (iblk1 V c 0 t) (iblk1 V c 1 t) (iblk1 V c 2 t) (iblk1 V c 3 t), out0_7 (iblk1 V c 0 t) (iblk1 V c 1 t) (iblk1 V c 2 t) (iblk1 V c 3 t)) := by
  refine Prod.ext ?_ (Prod.ext ?_ (Prod.ext ?_ ?_))
  all_goals
    unfold outsAt1
    funext y
    frame_out
    rfl

/-- Where the launch's blocks come from. -/
theorem reads1 (c : Dev nD) (t : Fin cfg1.N) (y : S1x128x256.Idx) (e : S2x128x256.Idx) (h0 : (e 0 : ℕ) = 0) (h1 : (e 1 : ℕ) = t.val * 128 + (y 1 : ℕ)) (h2 : (e 2 : ℕ) = (y 2 : ℕ)) :
    ((∑ d : Fin 8, iblk1 V c 0 t (ix3 d (y 1) (y 2)) : EReal) = total (V c main_arg0) e)
    ∧ iblk1 V c 1 t y = V c main_arg2 e ∧ iblk1 V c 2 t y = V c main_arg3 e ∧ iblk1 V c 3 t y = V c main_arg4 e := by
  refine ⟨Finset.sum_congr rfl fun d _ => ?_, ?_, ?_, ?_⟩
  all_goals blk_point [iblk1, idx1 t]

/-- The second launch fills the first layer. -/
theorem final1 (c : Dev nD) :
    (dat1 V c).arrAt 4 cfg1.N = (fun i => if (i 0 : ℕ) = 0 then total (V c main_arg0) i else V c main_v1_0 i)
    ∧ (dat1 V c).arrAt 5 cfg1.N = (fun i => if (i 0 : ℕ) = 0 then step (V c main_arg2 i) (total (V c main_arg0) i) (V c main_arg3 i) (V c main_arg4 i) else V c main_v1_1 i)
    ∧ (dat1 V c).arrAt 6 cfg1.N = (fun i => if (i 0 : ℕ) = 0 then first (total (V c main_arg0) i) (V c main_arg3 i) else V c main_v1_2 i)
    ∧ (dat1 V c).arrAt 7 cfg1.N = (fun i => if (i 0 : ℕ) = 0 then second (total (V c main_arg0) i) (V c main_arg4 i) else V c main_v1_3 i) := by
  refine ⟨?_, ?_, ?_, ?_⟩
  all_goals
    refine (dat1 V c).arrAt_eq_of_coversWhere _ _ (fun β => β 0 = 0) (by decide +kernel) (fun t _ y => ?_)
      (fun j => by blk_simp [Pipeline.Window.cell_apply]; omega)
    blk_simp
    first | rw [after1_4] | rw [after1_5] | rw [after1_6] | rw [after1_7]
    obtain ⟨r0, r1, r2, r3⟩ := reads1 V c t y (((cfg1.win _).blk t).view.emb y) (by blk_simp [idx1 t]) (by blk_simp [idx1 t]) (by blk_simp [idx1 t])
    simp only [outs1, body, r0, r1, r2, r3]

end

/-- The second launch starts from the results of the first. -/
theorem copied (c : Dev nD) : V2 m ρ c main_v1_0 = (dat0 (V0 m ρ) c).arrAt 4 cfg0.N ∧ V2 m ρ c main_v1_1 = (dat0 (V0 m ρ) c).arrAt 5 cfg0.N
    ∧ V2 m ρ c main_v1_2 = (dat0 (V0 m ρ) c).arrAt 6 cfg0.N ∧ V2 m ρ c main_v1_3 = (dat0 (V0 m ρ) c).arrAt 7 cfg0.N := by
  simp only [← W1_arr, V2, W2]
  unfold hostOps1
  refine ⟨?_, ?_, ?_, ?_⟩ <;> (after_results; rfl)

/-- What the two launches leave. -/
theorem final (c : Dev nD) :
    (dat1 (V2 m ρ) c).arrAt 4 cfg1.N = (fun i => layers (m ((c : Thread nD τ).loc main_arg0)) (m ((c : Thread nD τ).loc main_arg1)) i)
    ∧ (dat1 (V2 m ρ) c).arrAt 5 cfg1.N = (fun i => step ((m ((c : Thread nD τ).loc main_arg2)) i) (layers (m ((c : Thread nD τ).loc main_arg0)) (m ((c : Thread nD τ).loc main_arg1)) i) ((m ((c : Thread nD τ).loc main_arg3)) i) ((m ((c : Thread nD τ).loc main_arg4)) i))
    ∧ (dat1 (V2 m ρ) c).arrAt 6 cfg1.N = (fun i => first (layers (m ((c : Thread nD τ).loc main_arg0)) (m ((c : Thread nD τ).loc main_arg1)) i) ((m ((c : Thread nD τ).loc main_arg3)) i))
    ∧ (dat1 (V2 m ρ) c).arrAt 7 cfg1.N = (fun i => second (layers (m ((c : Thread nD τ).loc main_arg0)) (m ((c : Thread nD τ).loc main_arg1)) i) ((m ((c : Thread nD τ).loc main_arg4)) i)) := by
  obtain ⟨a4, a5, a6, a7⟩ := final0 (V0 m ρ) c
  obtain ⟨b4, b5, b6, b7⟩ := final1 (V2 m ρ) c
  obtain ⟨k4, k5, k6, k7⟩ := copied m ρ c
  have g : ∀ a ∈ argRefs, V2 m ρ c a = m ((c : Thread nD τ).loc a) := W2_args m ρ c
  rw [b4, b5, b6, b7, k4, k5, k6, k7, a4, a5, a6, a7, g main_arg0 (by decide), g main_arg2 (by decide), g main_arg3 (by decide), g main_arg4 (by decide)]
  refine ⟨?_, ?_, ?_, ?_⟩
  all_goals
    funext i
    have hi : (i 0 : ℕ) < 2 := (i 0).isLt
    rcases (by omega : (i 0 : ℕ) = 0 ∨ (i 0 : ℕ) = 1) with h | h <;>
      simp only [h, layers, Nat.zero_lt_one, lt_irrefl, one_ne_zero, if_true, if_false]

section
open Idealize.SL Idealize.SL.RA Idealize.SL.BI Idealize.SL.BI.BIBase Idealize.SL.BI.Laws Idealize.SL.ProofMode Idealize.ShloMosaic.Rounds
open scoped Idealize.SL.BI
set_option backward.isDefEq.respectTransparency.types false in
/-- Every run ends with the buffers as the two launches leave them. -/
theorem run : θ_run defs (onTc (τ := τ) (main (F := Ideal))) ⟨m, fun _ => 0, ρ⟩ (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end

/-- The reference runs, its arguments unchanged, its counters at zero. -/
theorem reference_frame : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

/-- From the same arguments the two launches and the reference end with the same four arrays. -/
theorem value : Cert.algebraic_Kernel17Ideal_Reference17Ideal := by
  intro m ρ m' ρ' _ hm
  refine ⟨fun c => (dat1 (V2 m ρ) c).arrAt 4 cfg1.N, fun c => (dat1 (V2 m ρ) c).arrAt 5 cfg1.N, fun c => (dat1 (V2 m ρ) c).arrAt 6 cfg1.N, fun c => (dat1 (V2 m ρ) c).arrAt 7 cfg1.N,
    (θ_run defs _ _).mono (fun _ h c => ?_) (run m ρ), (θ_run Cert.Reference17Ideal.defs _ _).mono (fun _ h c => ?_) (Cert.Reference17Ideal.Value.run (F := Ideal) m' ρ')⟩
  · have e : ∀ r : Ref sig .tc, ¬ (Proc.devRef .tc r : DevRef τ sig).isScoped → _ := fun r hr => h c _ (mem_uc r hr)
    exact ⟨(e main_v1_0 (by decide)).trans (W3_arr m ρ c 4), (e main_v1_1 (by decide)).trans (W3_arr m ρ c 5),
      (e main_v1_2 (by decide)).trans (W3_arr m ρ c 6), (e main_v1_3 (by decide)).trans (W3_arr m ρ c 7),
      (e main_arg0 (by decide)).trans (W3_main_arg0 m ρ c), (e main_arg1 (by decide)).trans (W3_main_arg1 m ρ c), (e main_arg2 (by decide)).trans (W3_main_arg2 m ρ c),
      (e main_arg3 (by decide)).trans (W3_main_arg3 m ρ c), (e main_arg4 (by decide)).trans (W3_main_arg4 m ρ c)⟩
  · obtain ⟨f4, f5, f6, f7⟩ := final m ρ c
    obtain ⟨h0, h1, h2, h3, h⟩ := h c
    refine ⟨h0.trans (Eq.trans ?_ f4.symm), h1.trans (Eq.trans ?_ f5.symm), h2.trans (Eq.trans ?_ f6.symm), h3.trans (Eq.trans ?_ f7.symm), h⟩
    all_goals
      funext i
      simp only [hm c]
      pointwise [layers, total, first, second, step]
      simp only [hm c, dite_eq_ite]

end Cert.Kernel17Ideal.Value

end
-- ==== Proof.AdConv.lean ====
module

public import proofs.«01_k».proof.Defs
public import proofs.«01_k».proof.Proof.Adam
public import proofs.«01_k».proof.Proof.Gen.Kernel18Ideal.Frame
public import proofs.«01_k».proof.Proof.Gen.Reference18Ideal.Run
public import Idealize.ShloMosaic.Lib.Quiescent

@[expose] public section

set_option maxRecDepth 16384

noncomputable section

namespace Cert.Kernel18Ideal.Value

open Cert.Kernel18Ideal Cert.Kernel18Ideal.Gen Cert.Adam Idealize.ShloMosaic Idealize.ShloMosaic.TcCoe Idealize.SL.Sem

variable (m : (ℓ : Loc nD τ sig) → Buf (Elt Ideal) ℓ) (ρ : Dev nD → PrngReg)

/-- A block of one layer has one place along its first axis. -/
theorem first_row (y : S1x8x384.Idx) : ∃ (a : Fin 8) (b : Fin 384), y = ix3 0 a b :=
  ⟨y 1, y 2, (eq_ix3 y).trans (congrArg (fun a : Fin 1 => (ix3 a (y 1) (y 2) : S1x8x384.Idx)) (Subsingleton.elim _ _))⟩

/-- What the body stores at each place. -/
theorem body (x0 : Vec Ideal S8x8x384 .f32) (x1 x2 x3 : Vec Ideal S1x8x384 .f32) (y) :
    out0_4 x0 x1 x2 x3 y = ∑ d : Fin 8, x0 (ix3 d (y 1) (y 2))
    ∧ out0_5 x0 x1 x2 x3 y = step (x1 y) (∑ d : Fin 8, x0 (ix3 d (y 1) (y 2))) (x2 y) (x3 y)
    ∧ out0_6 x0 x1 x2 x3 y = first (∑ d : Fin 8, x0 (ix3 d (y 1) (y 2))) (x2 y)
    ∧ out0_7 x0 x1 x2 x3 y = second (∑ d : Fin 8, x0 (ix3 d (y 1) (y 2))) (x3 y) := by
  obtain ⟨a, b, rfl⟩ := first_row y
  simp only [Fin.sum_univ_eight]
  refine ⟨?_, ?_, ?_, ?_⟩
  all_goals
    frame_out
    pointwise [k0_pay1, k0_pay2, k0_pay3, k0_pay4, k0_pay5, k0_pay6, k0_pay7, k0_pay8, k0_pay9, k0_pay10, k0_pay11]

theorem idx0 : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)
theorem idx1 : ∀ t : Fin cfg1.N, win1_0.index t = ![0, t.val, 0] ∧ win1_1.index t = ![0, t.val, 0] ∧ win1_2.index t = ![0, t.val, 0] ∧ win1_3.index t = ![0, t.val, 0] ∧ win1_4.index t = ![0, t.val, 0] ∧ win1_5.index t = ![0, t.val, 0] ∧ win1_6.index t = ![0, t.val, 0] ∧ win1_7.index t = ![0, t.val, 0] :=
  (by decide +kernel : ∀ t : Fin grid1.N, _)
section
variable (V : (c : Dev nD) → (b : Ref sig .tc) → Buf (Elt Ideal) ((c : Thread nD τ).loc b))

/-- Where the launch's blocks come from. -/
theorem reads0 (c : Dev nD) (t : Fin cfg0.N) (y : S1x8x384.Idx) (e : S2x8x384.Idx) (h0 : (e 0 : ℕ) = 1) (h1 : (e 1 : ℕ) = t.val * 8 + (y 1 : ℕ)) (h2 : (e 2 : ℕ) = (y 2 : ℕ)) :
    ((∑ d : Fin 8, iblk0 V c 0 t (ix3 d (y 1) (y 2)) : EReal) = total (V c main_arg1) e)
    ∧ iblk0 V c 1 t y = V c main_arg2 e ∧ iblk0 V c 2 t y = V c main_arg3 e ∧ iblk0 V c 3 t y = V c main_arg4 e := by
  refine ⟨Finset.sum_congr rfl fun d _ => ?_, ?_, ?_, ?_⟩
  all_goals blk_point [iblk0, idx0 t]

/-- The first launch fills the second layer of each result. -/
theorem final0 (c : Dev nD) :
    (dat0 V c).arrAt 4 cfg0.N = (fun i => if (i 0 : ℕ) = 1 then total (V c main_arg1) i else V c main_v0_0 i)
    ∧ (dat0 V c).arrAt 5 cfg0.N = (fun i => if (i 0 : ℕ) = 1 then step (V c main_arg2 i) (total (V c main_arg1) i) (V c main_arg3 i) (V c main_arg4 i) else V c main_v0_1 i)
    ∧ (dat0 V c).arrAt 6 cfg0.N = (fun i => if (i 0 : ℕ) = 1 then first (total (V c main_arg1) i) (V c main_arg3 i) else V c main_v0_2 i)
    ∧ (dat0 V c).arrAt 7 cfg0.N = (fun i => if (i 0 : ℕ) = 1 then second (total (V c main_arg1) i) (V c main_arg4 i) else V c main_v0_3 i) := by
  refine ⟨?_, ?_, ?_, ?_⟩
  all_goals
    refine (dat0 V c).arrAt_eq_of_coversWhere _ _ (fun β => β 0 = 1) (by decide +kernel) (fun t _ y => ?_)
      (fun j => by blk_simp [Pipeline.Window.cell_apply]; omega)
    blk_simp
    first | rw [after0_4] | rw [after0_5] | rw [after0_6] | rw [after0_7]
    obtain ⟨r0, r1, r2, r3⟩ := reads0 V c t y (((cfg0.win _).blk t).view.emb y) (by blk_simp [idx0 t]) (by blk_simp [idx0 t]) (by blk_simp [idx0 t])
    simp only [body, r0, r1, r2, r3]

/-- The second launch's body stores what the first's does. -/
theorem outs1 (c : Dev nD) (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
      out0_6 (iblk1 V c 0 t) (iblk1 V c 1 t) (iblk1 V c 2 t) (iblk1 V c 3 t), out0_7 (iblk1 V c 0 t) (iblk1 V c 1 t) (iblk1 V c 2 t) (iblk1 V c 3 t)) := by
  refine Prod.ext ?_ (Prod.ext ?_ (Prod.ext ?_ ?_))
  all_goals
    unfold outsAt1
    funext y
    obtain ⟨a, b, rfl⟩ := first_row y
    frame_out
    pointwise [k0_pay1, k0_pay2, k0_pay3, k0_pay4, k0_pay5, k0_pay6, k0_pay7, k0_pay8, k0_pay9, k0_pay10, k0_pay11, k1_pay1, k1_pay2, k1_pay3, k1_pay4, k1_pay5, k1_pay6, k1_pay7, k1_pay8, k1_pay9]

/-- Where the launch's blocks come from. -/
theorem reads1 (c : Dev nD) (t : Fin cfg1.N) (y : S1x8x384.Idx) (e : S2x8x384.Idx) (h0 : (e 0 : ℕ) = 0) (h1 : (e 1 : ℕ) = t.val * 8 + (y 1 : ℕ)) (h2 : (e 2 : ℕ) = (y 2 : ℕ)) :
    ((∑ d : Fin 8, iblk1 V c 0 t (ix3 d (y 1) (y 2)) : EReal) = total (V c main_arg0) e)
    ∧ iblk1 V c 1 t y = V c main_arg2 e ∧ iblk1 V c 2 t y = V c main_arg3 e ∧ iblk1 V c 3 t y = V c main_arg4 e := by
  refine ⟨Finset.sum_congr rfl fun d _ => ?_, ?_, ?_, ?_⟩
  all_goals blk_point [iblk1, idx1 t]

/-- The second launch fills the first layer. -/
theorem final1 (c : Dev nD) :
    (dat1 V c).arrAt 4 cfg1.N = (fun i => if (i 0 : ℕ) = 0 then total (V c main_arg0) i else V c main_v1_0 i)
    ∧ (dat1 V c).arrAt 5 cfg1.N = (fun i => if (i 0 : ℕ) = 0 then step (V c main_arg2 i) (total (V c main_arg0) i) (V c main_arg3 i) (V c main_arg4 i) else V c main_v1_1 i)
    ∧ (dat1 V c).arrAt 6 cfg1.N = (fun i => if (i 0 : ℕ) = 0 then first (total (V c main_arg0) i) (V c main_arg3 i) else V c main_v1_2 i)
    ∧ (dat1 V c).arrAt 7 cfg1.N = (fun i => if (i 0 : ℕ) = 0 then second (total (V c main_arg0) i) (V c main_arg4 i) else V c main_v1_3 i) := by
  refine ⟨?_, ?_, ?_, ?_⟩
  all_goals
    refine (dat1 V c).arrAt_eq_of_coversWhere _ _ (fun β => β 0 = 0) (by decide +kernel) (fun t _ y => ?_)
      (fun j => by blk_simp [Pipeline.Window.cell_apply]; omega)
    blk_simp
    first | rw [after1_4] | rw [after1_5] | rw [after1_6] | rw [after1_7]
    obtain ⟨r0, r1, r2, r3⟩ := reads1 V c t y (((cfg1.win _).blk t).view.emb y) (by blk_simp [idx1 t]) (by blk_simp [idx1 t]) (by blk_simp [idx1 t])
    simp only [outs1, body, r0, r1, r2, r3]

end

/-- The second launch starts from the results of the first. -/
theorem copied (c : Dev nD) : V2 m ρ c main_v1_0 = (dat0 (V0 m ρ) c).arrAt 4 cfg0.N ∧ V2 m ρ c main_v1_1 = (dat0 (V0 m ρ) c).arrAt 5 cfg0.N
    ∧ V2 m ρ c main_v1_2 = (dat0 (V0 m ρ) c).arrAt 6 cfg0.N ∧ V2 m ρ c main_v1_3 = (dat0 (V0 m ρ) c).arrAt 7 cfg0.N := by
  simp only [← W1_arr, V2, W2]
  unfold hostOps1
  refine ⟨?_, ?_, ?_, ?_⟩ <;> (after_results; rfl)

/-- What the two launches leave. -/
theorem final (c : Dev nD) :
    (dat1 (V2 m ρ) c).arrAt 4 cfg1.N = (fun i => layers (m ((c : Thread nD τ).loc main_arg0)) (m ((c : Thread nD τ).loc main_arg1)) i)
    ∧ (dat1 (V2 m ρ) c).arrAt 5 cfg1.N = (fun i => step ((m ((c : Thread nD τ).loc main_arg2)) i) (layers (m ((c : Thread nD τ).loc main_arg0)) (m ((c : Thread nD τ).loc main_arg1)) i) ((m ((c : Thread nD τ).loc main_arg3)) i) ((m ((c : Thread nD τ).loc main_arg4)) i))
    ∧ (dat1 (V2 m ρ) c).arrAt 6 cfg1.N = (fun i => first (layers (m ((c : Thread nD τ).loc main_arg0)) (m ((c : Thread nD τ).loc main_arg1)) i) ((m ((c : Thread nD τ).loc main_arg3)) i))
    ∧ (dat1 (V2 m ρ) c).arrAt 7 cfg1.N = (fun i => second (layers (m ((c : Thread nD τ).loc main_arg0)) (m ((c : Thread nD τ).loc main_arg1)) i) ((m ((c : Thread nD τ).loc main_arg4)) i)) := by
  obtain ⟨a4, a5, a6, a7⟩ := final0 (V0 m ρ) c
  obtain ⟨b4, b5, b6, b7⟩ := final1 (V2 m ρ) c
  obtain ⟨k4, k5, k6, k7⟩ := copied m ρ c
  have g : ∀ a ∈ argRefs, V2 m ρ c a = m ((c : Thread nD τ).loc a) := W2_args m ρ c
  rw [b4, b5, b6, b7, k4, k5, k6, k7, a4, a5, a6, a7, g main_arg0 (by decide), g main_arg2 (by decide), g main_arg3 (by decide), g main_arg4 (by decide)]
  refine ⟨?_, ?_, ?_, ?_⟩
  all_goals
    funext i
    have hi : (i 0 : ℕ) < 2 := (i 0).isLt
    rcases (by omega : (i 0 : ℕ) = 0 ∨ (i 0 : ℕ) = 1) with h | h <;>
      simp only [h, layers, Nat.zero_lt_one, lt_irrefl, one_ne_zero, if_true, if_false]

section
open Idealize.SL Idealize.SL.RA Idealize.SL.BI Idealize.SL.BI.BIBase Idealize.SL.BI.Laws Idealize.SL.ProofMode Idealize.ShloMosaic.Rounds
open scoped Idealize.SL.BI
set_option backward.isDefEq.respectTransparency.types false in
/-- Every run ends with the buffers as the two launches leave them. -/
theorem run : θ_run defs (onTc (τ := τ) (main (F := Ideal))) ⟨m, fun _ => 0, ρ⟩ (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end

/-- The reference runs, its arguments unchanged, its counters at zero. -/
theorem reference_frame : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- From the same arguments the two launches and the reference end with the same four arrays. -/
theorem value : Cert.algebraic_Kernel18Ideal_Reference18Ideal := by
  intro m ρ m' ρ' _ hm
  refine ⟨fun c => (dat1 (V2 m ρ) c).arrAt 4 cfg1.N, fun c => (dat1 (V2 m ρ) c).arrAt 5 cfg1.N, fun c => (dat1 (V2 m ρ) c).arrAt 6 cfg1.N, fun c => (dat1 (V2 m ρ) c).arrAt 7 cfg1.N,
    (θ_run defs _ _).mono (fun _ h c => ?_) (run m ρ), (θ_run Cert.Reference18Ideal.defs _ _).mono (fun _ h c => ?_) (Cert.Reference18Ideal.Value.run (F := Ideal) m' ρ')⟩
  · have e : ∀ r : Ref sig .tc, ¬ (Proc.devRef .tc r : DevRef τ sig).isScoped → _ := fun r hr => h c _ (mem_uc r hr)
    exact ⟨(e main_v1_0 (by decide)).trans (W3_arr m ρ c 4), (e main_v1_1 (by decide)).trans (W3_arr m ρ c 5),
      (e main_v1_2 (by decide)).trans (W3_arr m ρ c 6), (e main_v1_3 (by decide)).trans (W3_arr m ρ c 7),
      (e main_arg0 (by decide)).trans (W3_main_arg0 m ρ c), (e main_arg1 (by decide)).trans (W3_main_arg1 m ρ c), (e main_arg2 (by decide)).trans (W3_main_arg2 m ρ c),
      (e main_arg3 (by decide)).trans (W3_main_arg3 m ρ c), (e main_arg4 (by decide)).trans (W3_main_arg4 m ρ c)⟩
  · obtain ⟨f4, f5, f6, f7⟩ := final m ρ c
    obtain ⟨h0, h1, h2, h3, h⟩ := h c
    refine ⟨h0.trans (Eq.trans ?_ f4.symm), h1.trans (Eq.trans ?_ f5.symm), h2.trans (Eq.trans ?_ f6.symm), h3.trans (Eq.trans ?_ f7.symm), h⟩
    all_goals
      funext i
      simp only [hm c]
      pointwise [layers, total, first, second, step]
      simp only [hm c, dite_eq_ite]

end Cert.Kernel18Ideal.Value

end
-- ==== Proof.Norm.lean ====
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Quiescent

@[expose] public section

set_option maxRecDepth 16384

noncomputable section

namespace Cert.Norm

open Idealize.ShloMosaic Idealize.ShloMosaic.TcCoe Idealize.SL.Sem

/-- The mean square of a row, and the small constant. -/
abbrev square (x : Fin 2048 → EReal) : EReal := Ideal.div (∑ k, x k * x k) (Ideal.ofBits .f32 0x45000000#32) + Ideal.ofBits .f32 0x358637BD#32
/-- What the mean square hands back to each entry of the row. -/
abbrev back (x w g : Fin 2048 → EReal) : EReal :=
  Ideal.div ((∑ k, x k * (g k * w k)) * (Ideal.ofBits .f32 0xBF000000#32 * Ideal.div (Ideal.rsqrt (square x)) (square x))) (Ideal.ofBits .f32 0x45000000#32)
/-- The gradient of a row. -/
abbrev grad (x w g : Fin 2048 → EReal) (k : Fin 2048) : EReal :=
  g k * w k * Ideal.rsqrt (square x) + x k * back x w g + back x w g * x k
/-- The gradient of the norm's argument, and what the residual adds to it. -/
abbrev dx (x : Vec Ideal ⟨2, ![8192, 2048]⟩ .f32) (w : Vec Ideal ⟨2, ![1, 2048]⟩ .f32) (g : Vec Ideal ⟨2, ![8192, 2048]⟩ .bf16) (a : Vec Ideal ⟨2, ![8192, 2048]⟩ .f32) :
    Vec Ideal ⟨2, ![8192, 2048]⟩ .f32 :=
  fun j => grad (fun k => x (ix2 (j 0) k)) (fun k => w (ix2 0 k)) (fun k => g (ix2 (j 0) k)) (j 1) + a j
/-- What row `q` adds to the gradient of the norm's weight. -/
abbrev term (x : Vec Ideal ⟨2, ![8192, 2048]⟩ .f32) (g : Vec Ideal ⟨2, ![8192, 2048]⟩ .bf16) (q : Fin 8192) (l : Fin 2048) : EReal :=
  x (ix2 q l) * Ideal.rsqrt (square fun k => x (ix2 q k)) * g (ix2 q l)
/-- The gradient of the norm's weight. -/
abbrev dw (x : Vec Ideal ⟨2, ![8192, 2048]⟩ .f32) (g : Vec Ideal ⟨2, ![8192, 2048]⟩ .bf16) : Vec Ideal ⟨2, ![1, 2048]⟩ .f32 :=
  fun j => ∑ q : Fin 8192, term x g q (j 1)

end Cert.Norm

namespace Cert.Reference19Ideal.Value

open Cert.Norm Cert.Reference19Ideal Cert.Reference19Ideal.Gen Idealize.ShloMosaic Idealize.ShloMosaic.TcCoe Idealize.SL.Sem

/-- The reference's mean square, and the small constant. -/
abbrev MS (x : FVec Ideal S8192x2048 .f32) : FVec Ideal S8192x1 .f32 :=
  addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))
/-- The gradient that reaches the normalised rows. -/
abbrev GW (w : FVec Ideal S1x2048 .f32) (g : FVec Ideal S8192x2048 .bf16) : FVec Ideal S8192x2048 .f32 :=
  mulf (extf .f32 g bitsLt_bf16_f32) (broadcastInDim S8192x2048 ![0, 1] bcast_S1x2048_S8192x2048_0_1 w)
/-- What the reference's mean square hands back. -/
abbrev BACK (x : FVec Ideal S8192x2048 .f32) (w : FVec Ideal S1x2048 .f32) (g : FVec Ideal S8192x2048 .bf16) : FVec Ideal S8192x2048 .f32 :=
  broadcastInDim S8192x2048 ![0] bcast_S8192_S8192x2048_0 (Host.reduceAdd (Host.divf (mulf (shapeCast _ (Host.reduceAdd (mulf x (GW w g)) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (MS x)) (MS x)))) (broadcastInDim S8192x1 ![] bcast_S_S8192x1 (constant S_ .f32 0x45000000#32))) (constant S_ .f32 0x00000000#32) reducesTo_S8192x1_S8192_d1 h_S_)
/-- The reference's first result. -/
abbrev DX (x : FVec Ideal S8192x2048 .f32) (w : FVec Ideal S1x2048 .f32) (g : FVec Ideal S8192x2048 .bf16) (a : FVec Ideal S8192x2048 .f32) : FVec Ideal S8192x2048 .f32 :=
  addf a (addf (addf (mulf (GW w g) (broadcastInDim S8192x2048 ![0, 1] bcast_S8192x1_S8192x2048_0_1 (Host.rsqrt (MS x)))) (mulf x (BACK x w g))) (mulf (BACK x w g) x))
/-- The reference's second result. -/
abbrev DW (x : FVec Ideal S8192x2048 .f32) (g : FVec Ideal S8192x2048 .bf16) : FVec Ideal S1x2048 .f32 :=
  shapeCast _ (Host.reduceAdd (mulf (mulf x (broadcastInDim S8192x2048 ![0, 1] bcast_S8192x1_S8192x2048_0_1 (Host.rsqrt (MS x)))) (extf .f32 g bitsLt_bf16_f32)) (constant S_ .f32 0x00000000#32) reducesTo_S8192x2048_S2048_d0 h_S_) shapeCasts_S2048_S1x2048

theorem refx (x w g a) : DX x w g a = dx x w g a := by
  funext j
  rw [eq_ix2 j]
  pointwise [DX, BACK, GW, MS, dx, grad, back, square]
  simp only [Finset.univ_unique, Finset.sum_const, Finset.card_singleton, one_smul]
  exact add_comm _ _
theorem refw (x g) : DW x g = dw x g := by
  funext j
  pointwise [DW, MS, dw, term, square]

end Cert.Reference19Ideal.Value

namespace Cert.Kernel19Ideal.Value

open Cert.Norm Cert.Kernel19Ideal Cert.Kernel19Ideal.Gen Idealize.ShloMosaic Idealize.ShloMosaic.TcCoe Idealize.SL.Sem

variable (m : (ℓ : Loc nD τ sig) → Buf (Elt Ideal) ℓ)

theorem rows (x : Vec Ideal S256x2048 .f32) (w : Vec Ideal S1x2048 .f32) (g : Vec Ideal S256x2048 .bf16) (a : Vec Ideal S256x2048 .f32) (i l) :
    k0_pay6 x w g a (ix2 i l) = grad (fun k => x (ix2 i k)) (fun k => w (ix2 0 k)) (fun k => g (ix2 i k)) l + a (ix2 i l) := by
  pointwise [k0_pay6, k0_pay4, k0_pay3, k0_pay2, grad, back, square]
  simp only [Finset.univ_unique, Finset.sum_const, Finset.card_singleton, one_smul]

theorem part (x : Vec Ideal S256x2048 .f32) (g : Vec Ideal S256x2048 .bf16) (j) :
    k0_pay5 x g j = ∑ r : Fin 256, x (ix2 r (j 1)) * Ideal.rsqrt (square fun k => x (ix2 r k)) * g (ix2 r (j 1)) := by
  pointwise [k0_pay5, k0_pay4, k0_pay3, k0_pay2, square]

theorem next (x a : Vec Ideal S1x2048 .f32) (j) : k0_pay1 x a j = a j + x j := by
  pointwise [k0_pay1]

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

/-- A point's first output block, from its input blocks. -/
theorem out4 (c : Dev nD) (t : Fin cfg0.N) (j) :
    (outsAt0 m c t.val t.isLt).1 j = k0_pay6 (iblk m c 0 t) (iblk m c 1 t) (iblk m c 2 t) (iblk m c 3 t) j := by
  have hN : t.val < 32 := lt_of_lt_of_eq t.isLt (show cfg0.N = 32 from N_0)
  by_cases h : t.val % 32 = 0
  · rw [outsAt0_A m c t h (by omega)]
    frame_out
  · rw [outsAt0_B m c t h (by omega)]
    frame_out

/-- The first array that the call leaves. -/
theorem final4 (c : Dev nD) : (dats m 0 c).arrAt 4 (cfgs 0).N
    = dx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨i, l, rfl⟩ : ∃ i l, y = ix2 i l := ⟨_, _, eq_ix2 y⟩
  blk_simp
  rw [after0_4, out4, rows]
  simp only [dx, grad, back, square]
  blk_point [iblk, V, idx t]

/-- The second array that the call leaves. -/
theorem final5 (c : Dev nD) : (dats m 0 c).arrAt 5 (cfgs 0).N
    = dw (m ((c : Thread nD τ).loc main_arg0)) (m ((c : Thread nD τ).loc main_arg2)) := by
  refine (dats m 0 c).arrAt_eq_of_covers 5 _ (by decide +kernel) fun t hf y => ?_
  blk_simp
  have hm := (flush0_5 t).mp hf
  have hN : ∀ s : Fin cfg0.N, s.val < 32 := fun s => lt_of_lt_of_eq s.isLt (show cfg0.N = 32 from N_0)
  rw [after0_5, Pipeline.eq_sum_fin_of_reset_step_apply_of_flush (fun n h => (outsAt0 m c n h).2) 32 (fun _ => 0) _
    (fun t h j => by have := hN t; rw [outsAt0_A m c t h (by omega)]; frame_out; rw [part, zero_add])
    (fun t h j => by
      rw [outsAt0_B m c t h (by omega)]; frame_out; rw [next, part])
    t hm _, zero_add]
  refine Fin.sum_mul_add_congr fun s k hl => ?_
  simp only [term, square]
  blk_point [iblk, V, idx t, idx ⟨_, Pipeline.run_point_lt_of_flush t hm s⟩]

/-- The reference runs, its arguments unchanged, its counters at zero. -/
theorem reference_frame : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

/-- From the same arguments the call and the reference end with the same arrays. -/
theorem value : Cert.algebraic_Kernel19Ideal_Reference19Ideal := by
  intro m ρ m' ρ' _ hm
  refine ⟨fun c => (dats m 0 c).arrAt 4 cfg0.N, fun c => (dats m 0 c).arrAt 5 cfg0.N, run_blocks m ρ, ?_⟩
  refine (θ_run Cert.Reference19Ideal.defs _ _).mono (fun _ h c => ⟨?_, ?_, (h c).2.2⟩) (Cert.Reference19Ideal.Value.run (F := Ideal) m' ρ')
  · rw [(h c).1]
    simp only [hm c]
    exact (Cert.Reference19Ideal.Value.refx _ _ _ _).trans (final4 m c).symm
  · rw [(h c).2.1]
    simp only [hm c]
    exact (Cert.Reference19Ideal.Value.refw _ _).trans (final5 m c).symm

end Cert.Kernel19Ideal.Value

end
-- ==== Proof.Swiglu.lean ====
module

public import proofs.«01_k».proof.Defs
public import proofs.«01_k».proof.Proof.Gen.Kernel20Ideal.Value
public import proofs.«01_k».proof.Proof.Gen.Reference20Ideal.Run
public import Idealize.ShloMosaic.Lib.Pipeline.ValueKit
public import Idealize.ShloMosaic.Lib.Quiescent

@[expose] public section

set_option maxRecDepth 16384

noncomputable section

namespace Cert.Swiglu

open Idealize.ShloMosaic Idealize.ShloMosaic.TcCoe Idealize.SL.Sem

/-- The gradient of `a` in `a * logistic a * b`, where `g` is that of the product. -/
abbrev gate (a b g : EReal) : EReal :=
  g * b * Ideal.logistic a + a * (g * b) * (Ideal.logistic a * (1 - Ideal.logistic a))
/-- The gradient of `b` in the same. -/
abbrev up (a g : EReal) : EReal := a * Ideal.logistic a * g
/-- The gradient of a row: the left half holds the gates, the right half what they multiply. -/
def row (x : Fin 11264 → EReal) (g : Fin 5632 → EReal) (l : Fin 11264) : EReal :=
  if h : l.val < 5632 then gate (x l) (x ⟨5632 + l.val, by omega⟩) (g ⟨l.val, h⟩)
  else up (x ⟨l.val - 5632, by omega⟩) (g ⟨l.val - 5632, by omega⟩)
/-- The gradient of all rows. -/
abbrev rows (x : FVec Ideal ⟨2, ![8192, 11264]⟩ .bf16) (g : FVec Ideal ⟨2, ![8192, 5632]⟩ .bf16) : FVec Ideal ⟨2, ![8192, 11264]⟩ .bf16 :=
  fun j => row (fun k => x (ix2 (j 0) k)) (fun k => g (ix2 (j 0) k)) (j 1)

end Cert.Swiglu

namespace Cert.Reference20Ideal.Value

open Cert.Swiglu Cert.Reference20Ideal Cert.Reference20Ideal.Gen Idealize.ShloMosaic Idealize.ShloMosaic.TcCoe Idealize.SL.Sem

/-- The left and the right half of the rows. -/
abbrev LEFT (x : FVec Ideal S8192x11264 .bf16) : FVec Ideal S8192x5632 .f32 :=
  extractStridedSlice S8192x5632 ![0, 0] (extf .f32 x bitsLt_bf16_f32) slices_S8192x11264_S8192x5632_0_0
abbrev RIGHT (x : FVec Ideal S8192x11264 .bf16) : FVec Ideal S8192x5632 .f32 :=
  extractStridedSlice S8192x5632 ![0, 5632] (extf .f32 x bitsLt_bf16_f32) slices_S8192x11264_S8192x5632_0_5632
/-- The logistic function. -/
abbrev SIG (x : FVec Ideal S8192x5632 .f32) : FVec Ideal S8192x5632 .f32 :=
  Host.divf (broadcastInDim S8192x5632 ![] bcast_S_S8192x5632 (constant S_ .f32 0x3F800000#32)) (addf (broadcastInDim S8192x5632 ![] bcast_S_S8192x5632 (constant S_ .f32 0x3F800000#32)) (Host.exp (Host.negf x)))
/-- The reference's result, over the arguments. -/
abbrev REF (x : FVec Ideal S8192x11264 .bf16) (g : FVec Ideal S8192x5632 .bf16) : FVec Ideal S8192x11264 .bf16 :=
  truncf .bf16 (addf (pad S8192x11264 ![0, 5632] ![0, 0] ![0, 0] (mulf (mulf (LEFT x) (SIG (LEFT x))) (extf .f32 g bitsLt_bf16_f32)) (constant S_ .f32 0x00000000#32) pads_S8192x5632_S8192x11264_000_563200 h_S_) (pad S8192x11264 ![0, 0] ![0, 5632] ![0, 0] (addf (mulf (mulf (extf .f32 g bitsLt_bf16_f32) (RIGHT x)) (SIG (LEFT x))) (mulf (mulf (LEFT x) (mulf (extf .f32 g bitsLt_bf16_f32) (RIGHT x))) (mulf (SIG (LEFT x)) (subf (broadcastInDim S8192x5632 ![] bcast_S_S8192x5632 (constant S_ .f32 0x3F800000#32)) (SIG (LEFT x)))))) (constant S_ .f32 0x00000000#32) pads_S8192x5632_S8192x11264_000_056320 h_S_)) bitsLt_bf16_f32

theorem ref (x g) : REF x g = rows x g := by
  funext j
  obtain ⟨i, l, rfl⟩ : ∃ i l, j = ix2 i l := ⟨_, _, eq_ix2 j⟩
  pointwise [REF, SIG, LEFT, RIGHT, rows, row]
  by_cases h : l.val < 5632
  · have h' : ¬5632 ≤ l.val := by omega
    simp only [h, h', false_and, dite_true, dite_false, zero_add]
    rfl
  · have h' : 5632 ≤ l.val ∧ l.val - 5632 < 5632 := by omega
    simp only [h, h', and_self, dite_true, dite_false, add_zero]
    rfl

end Cert.Reference20Ideal.Value

namespace Cert.Kernel20Ideal.Value

open Cert.Swiglu Cert.Kernel20Ideal Cert.Kernel20Ideal.Gen Idealize.ShloMosaic Idealize.ShloMosaic.TcCoe Idealize.SL.Sem

variable (m : (ℓ : Loc nD τ sig) → Buf (Elt Ideal) ℓ)

/-- What the body stores. -/
theorem body (x : Vec Ideal S256x11264 .bf16) (g : Vec Ideal S256x5632 .bf16) (i l) :
    k0_pay1 x g (ix2 i l) = row (fun k => x (ix2 i k)) (fun k => g (ix2 i k)) l := by
  pointwise [k0_pay1, row]
  by_cases h : l.val < 5632
  · simp only [h, dite_true, zero_add]
  · simp only [h, dite_false, add_zero]

theorem idx : ∀ t : Fin cfg0.N, win0_0.index t = ![t.val, 0] ∧ win0_1.index t = ![t.val, 0] ∧ win0_2.index t = ![t.val, 0] :=
  (by decide +kernel : ∀ t : Fin grid0.N, _)

/-- The array that the call leaves. -/
theorem final (c : Dev nD) : (dats m 0 c).arrAt 2 (cfgs 0).N
    = rows (m ((c : Thread nD τ).loc main_arg0)) (m ((c : Thread nD τ).loc main_arg1)) := by
  refine (dats m 0 c).arrAt_eq_of_covers 2 _ (by decide +kernel) fun t hf y => ?_
  obtain ⟨i, l, rfl⟩ : ∃ i l, y = ix2 i l := ⟨_, _, eq_ix2 y⟩
  blk_simp
  rw [after0_2]
  frame_out
  rw [body]
  have hl : (((cfg0.win 2).blk t).view.emb (ix2 i l) 1 : Fin 11264) = l := Fin.ext (by blk_simp [idx t])
  simp only [rows]
  refine congr (congr (congrArg row (funext fun k => ?_)) (funext fun k => ?_)) hl.symm
  all_goals blk_point [iblk, V, idx t]

/-- The reference runs, its arguments unchanged, its counters at zero. -/
theorem reference_frame : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-- From the same arguments the call and the reference end with the same array. -/
theorem value : Cert.algebraic_Kernel20Ideal_Reference20Ideal := by
  intro m ρ m' ρ' _ hm
  refine ⟨fun c => (dats m 0 c).arrAt 2 cfg0.N, run_blocks m ρ, ?_⟩
  refine (θ_run Cert.Reference20Ideal.defs _ _).mono (fun _ h c => ⟨?_, (h c).2⟩) (Cert.Reference20Ideal.Value.run (F := Ideal) m' ρ')
  rw [(h c).1]
  simp only [hm c]
  exact (Cert.Reference20Ideal.Value.ref _ _).trans (final m c).symm

end Cert.Kernel20Ideal.Value

end
-- ==== Proof.Merge.lean ====
module

public import proofs.«01_k».proof.Defs
public import proofs.«01_k».proof.Proof.Gen.Kernel21Ideal.Value
public import proofs.«01_k».proof.Proof.Gen.Reference21Ideal.Run
public import Idealize.ShloMosaic.Lib.Pipeline.ValueKit
public import Idealize.ShloMosaic.Lib.Quiescent

@[expose] public section

set_option maxRecDepth 16384

noncomputable section

namespace Cert.Merge

open Idealize.ShloMosaic Idealize.ShloMosaic.TcCoe Idealize.SL.Sem

/-- The gradient of a gate's input, where `p` is that of the gate. -/
abbrev through (x p : EReal) : EReal := p * (Ideal.logistic x * (1 - Ideal.logistic x))
/-- The gradients of the gates of a row: one third of the columns for each of the three branches. -/
def gated (a b s g : Fin 2048 → EReal) (l : Fin 6144) : EReal :=
  if h : l.val < 2048 then g ⟨l.val, h⟩ * a ⟨l.val, h⟩
  else if h : l.val < 4096 then g ⟨l.val - 2048, by omega⟩ * b ⟨l.val - 2048, by omega⟩
  else g ⟨l.val - 4096, by omega⟩ * s ⟨l.val - 4096, by omega⟩
/-- The gradient of the gates' inputs. -/
abbrev gates (x : FVec Ideal ⟨2, ![8192, 6144]⟩ .bf16) (a b s g : FVec Ideal ⟨2, ![8192, 2048]⟩ .bf16) : FVec Ideal ⟨2, ![8192, 6144]⟩ .bf16 :=
  fun j => through (x (ix2 (j 0) (j 1))) (gated (fun k => a (ix2 (j 0) k)) (fun k => b (ix2 (j 0) k)) (fun k => s (ix2 (j 0) k)) (fun k => g (ix2 (j 0) k)) (j 1))
/-- The gradient of branch `n`: the third of the gates that begins at column `2048 * n`, times the gradient of the sum. -/
abbrev branch (n : Fin 3) (x : FVec Ideal ⟨2, ![8192, 6144]⟩ .bf16) (g : FVec Ideal ⟨2, ![8192, 2048]⟩ .bf16) : FVec Ideal ⟨2, ![8192, 2048]⟩ .bf16 :=
  fun j => Ideal.logistic (x (ix2 (j 0) (⟨2048 * n.val + (j 1).val, by have h : (j 1).val < 2048 := (j 1).isLt; omega⟩ : Fin 6144))) * g (ix2 (j 0) (j 1))

end Cert.Merge

namespace Cert.Reference21Ideal.Value

open Cert.Merge Cert.Reference21Ideal Cert.Reference21Ideal.Gen Idealize.ShloMosaic Idealize.ShloMosaic.TcCoe Idealize.SL.Sem

/-- The logistic function. -/
abbrev SIG (x : FVec Ideal S8192x6144 .bf16) : FVec Ideal S8192x6144 .f32 :=
  Host.divf (broadcastInDim S8192x6144 ![] bcast_S_S8192x6144 (constant S_ .f32 0x3F800000#32)) (addf (broadcastInDim S8192x6144 ![] bcast_S_S8192x6144 (constant S_ .f32 0x3F800000#32)) (Host.exp (Host.negf (extf .f32 x bitsLt_bf16_f32))))
/-- The gradient of one branch's gate, as the middle axis of the three. -/
abbrev ONE (a g : FVec Ideal S8192x2048 .bf16) : FVec Ideal S8192x1x2048 .f32 :=
  broadcastInDim S8192x1x2048 ![0, 2] bcast_S8192x2048_S8192x1x2048_0_2 (mulf (extf .f32 g bitsLt_bf16_f32) (extf .f32 a bitsLt_bf16_f32))
/-- The reference's results, over the arguments. -/
abbrev GATES (x : FVec Ideal S8192x6144 .bf16) (a b s g : FVec Ideal S8192x2048 .bf16) : FVec Ideal S8192x6144 .bf16 :=
  truncf .bf16 (mulf (shapeCast _ (addf (addf (pad S8192x3x2048 ![0, 2, 0] ![0, 0, 0] ![0, 0, 0] (ONE s g) (constant S_ .f32 0x00000000#32) pads_S8192x1x2048_S8192x3x2048_000_200_000 h_S_) (pad S8192x3x2048 ![0, 1, 0] ![0, 1, 0] ![0, 0, 0] (ONE b g) (constant S_ .f32 0x00000000#32) pads_S8192x1x2048_S8192x3x2048_000_110_000 h_S_)) (pad S8192x3x2048 ![0, 0, 0] ![0, 2, 0] ![0, 0, 0] (ONE a g) (constant S_ .f32 0x00000000#32) pads_S8192x1x2048_S8192x3x2048_000_020_000 h_S_)) shapeCasts_S8192x3x2048_S8192x6144) (mulf (SIG x) (subf (broadcastInDim S8192x6144 ![] bcast_S_S8192x6144 (constant S_ .f32 0x3F800000#32)) (SIG x)))) bitsLt_bf16_f32
abbrev FIRST (x : FVec Ideal S8192x6144 .bf16) (g : FVec Ideal S8192x2048 .bf16) : FVec Ideal S8192x2048 .bf16 :=
  truncf .bf16 (mulf (shapeCast _ (extractStridedSlice S8192x1x2048 ![0, 0, 0] (shapeCast _ (SIG x) shapeCasts_S8192x6144_S8192x3x2048) slices_S8192x3x2048_S8192x1x2048_0_0_0) shapeCasts_S8192x1x2048_S8192x2048) (extf .f32 g bitsLt_bf16_f32)) bitsLt_bf16_f32
abbrev SECOND (x : FVec Ideal S8192x6144 .bf16) (g : FVec Ideal S8192x2048 .bf16) : FVec Ideal S8192x2048 .bf16 :=
  truncf .bf16 (mulf (shapeCast _ (extractStridedSlice S8192x1x2048 ![0, 1, 0] (shapeCast _ (SIG x) shapeCasts_S8192x6144_S8192x3x2048) slices_S8192x3x2048_S8192x1x2048_0_1_0) shapeCasts_S8192x1x2048_S8192x2048) (extf .f32 g bitsLt_bf16_f32)) bitsLt_bf16_f32
abbrev THIRD (x : FVec Ideal S8192x6144 .bf16) (g : FVec Ideal S8192x2048 .bf16) : FVec Ideal S8192x2048 .bf16 :=
  truncf .bf16 (mulf (shapeCast _ (extractStridedSlice S8192x1x2048 ![0, 2, 0] (shapeCast _ (SIG x) shapeCasts_S8192x6144_S8192x3x2048) slices_S8192x3x2048_S8192x1x2048_0_2_0) shapeCasts_S8192x1x2048_S8192x2048) (extf .f32 g bitsLt_bf16_f32)) bitsLt_bf16_f32

theorem first (x g) : FIRST x g = branch 0 x g := by
  funext j
  obtain ⟨i, l, rfl⟩ : ∃ i l, j = ix2 i l := ⟨_, _, eq_ix2 j⟩
  pointwise [FIRST, SIG, branch]
  rfl
theorem second (x g) : SECOND x g = branch 1 x g := by
  funext j
  obtain ⟨i, l, rfl⟩ : ∃ i l, j = ix2 i l := ⟨_, _, eq_ix2 j⟩
  pointwise [SECOND, SIG, branch]
  rfl
theorem third (x g) : THIRD x g = branch 2 x g := by
  funext j
  obtain ⟨i, l, rfl⟩ : ∃ i l, j = ix2 i l := ⟨_, _, eq_ix2 j⟩
  pointwise [THIRD, SIG, branch]
  rfl
theorem inputs (x a b s g) : GATES x a b s g = gates x a b s g := by
  funext j
  obtain ⟨i, l, rfl⟩ : ∃ i l, j = ix2 i l := ⟨_, _, eq_ix2 j⟩
  pointwise [GATES, SIG, ONE, gates, gated]
  refine congrArg (fun p : EReal => through (x (ix2 i l)) p) ?_
  have hl := l.isLt
  by_cases h : l.val < 2048
  · have hd : l.val / 2048 = 0 := by omega
    have hr : l.val % 2048 = l.val := by omega
    simp [h, hd, hr]
  by_cases h1 : l.val < 4096
  · have hd : l.val / 2048 = 1 := by omega
    have hr : l.val % 2048 = l.val - 2048 := by omega
    have hb : l.val - 2048 < 2048 := by omega
    simp [h, h1, hd, hr, hb]
  · have hd : l.val / 2048 = 2 := by omega
    have hr : l.val % 2048 = l.val - 4096 := by omega
    have hb : l.val - 4096 < 2048 := by omega
    simp [h, h1, hd, hr, hb]

end Cert.Reference21Ideal.Value

namespace Cert.Kernel21Ideal.Value

open Cert.Merge Cert.Kernel21Ideal Cert.Kernel21Ideal.Gen Idealize.ShloMosaic Idealize.ShloMosaic.TcCoe Idealize.SL.Sem

variable (m : (ℓ : Loc nD τ sig) → Buf (Elt Ideal) ℓ)

/-- What the body stores. -/
theorem body5 (x : Vec Ideal S256x6144 .bf16) (a b s g : Vec Ideal S256x2048 .bf16) (i l) :
    k0_pay8 x a b s g (ix2 i l) = through (x (ix2 i l)) (gated (fun k => a (ix2 i k)) (fun k => b (ix2 i k)) (fun k => s (ix2 i k)) (fun k => g (ix2 i k)) l) := by
  pointwise [k0_pay8, k0_pay4, k0_pay5, gated]
  refine congrArg (fun p : EReal => through (x (ix2 i l)) p) ?_
  by_cases h : l.val < 2048
  · have h1 : l.val < 4096 := by omega
    simp [h, h1]
  by_cases h1 : l.val < 4096
  · simp [h, h1]
  · simp [h, h1]
theorem body6 (x : Vec Ideal S256x6144 .bf16) (g : Vec Ideal S256x2048 .bf16) (i l) :
    k0_pay1 (k0_pay9 x g) (ix2 i l) = Ideal.logistic (x (ix2 i (⟨2048 * (0 : Fin 3).val + l.val, by omega⟩ : Fin 6144))) * g (ix2 i l) := by
  pointwise [k0_pay1, k0_pay9, k0_pay4, k0_pay5]
theorem body7 (x : Vec Ideal S256x6144 .bf16) (g : Vec Ideal S256x2048 .bf16) (i l) :
    k0_pay2 (k0_pay7 x g) (ix2 i l) = Ideal.logistic (x (ix2 i (⟨2048 * (1 : Fin 3).val + l.val, by omega⟩ : Fin 6144))) * g (ix2 i l) := by
  pointwise [k0_pay2, k0_pay7, k0_pay4, k0_pay5]
theorem body8 (x : Vec Ideal S256x6144 .bf16) (g : Vec Ideal S256x2048 .bf16) (i l) :
    k0_pay3 (k0_pay6 x g) (ix2 i l) = Ideal.logistic (x (ix2 i (⟨2048 * (2 : Fin 3).val + l.val, by omega⟩ : Fin 6144))) * g (ix2 i l) := by
  pointwise [k0_pay3, k0_pay6, k0_pay4, k0_pay5]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The arrays that the call leaves. -/
theorem final5 (c : Dev nD) : (dats m 0 c).arrAt 5 (cfgs 0).N
    = gates (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨i, l, rfl⟩ : ∃ i l, y = ix2 i l := ⟨_, _, eq_ix2 y⟩
  blk_simp
  rw [after0_5]
  frame_out
  rw [body5]
  have hl : (((cfg0.win 5).blk t).view.emb (ix2 i l) 1 : Fin 6144) = l := Fin.ext (by blk_simp [idx t])
  simp only [gates]
  refine congr (congrArg through ?_) (congr (congr (congr (congr (congrArg gated (funext fun k => ?_)) (funext fun k => ?_)) (funext fun k => ?_)) (funext fun k => ?_)) hl.symm)
  all_goals blk_point [iblk, V, idx t]
theorem final6 (c : Dev nD) : (dats m 0 c).arrAt 6 (cfgs 0).N
    = branch 0 (m ((c : Thread nD τ).loc main_arg0)) (m ((c : Thread nD τ).loc main_arg4)) := by
  refine (dats m 0 c).arrAt_eq_of_covers 6 _ (by decide +kernel) fun t hf y => ?_
  obtain ⟨i, l, rfl⟩ : ∃ i l, y = ix2 i l := ⟨_, _, eq_ix2 y⟩
  blk_simp
  rw [after0_6]
  frame_out
  rw [body6]
  simp only [branch]
  blk_point [iblk, V, idx t]
theorem final7 (c : Dev nD) : (dats m 0 c).arrAt 7 (cfgs 0).N
    = branch 1 (m ((c : Thread nD τ).loc main_arg0)) (m ((c : Thread nD τ).loc main_arg4)) := by
  refine (dats m 0 c).arrAt_eq_of_covers 7 _ (by decide +kernel) fun t hf y => ?_
  obtain ⟨i, l, rfl⟩ : ∃ i l, y = ix2 i l := ⟨_, _, eq_ix2 y⟩
  blk_simp
  rw [after0_7]
  frame_out
  rw [body7]
  simp only [branch]
  blk_point [iblk, V, idx t]
theorem final8 (c : Dev nD) : (dats m 0 c).arrAt 8 (cfgs 0).N
    = branch 2 (m ((c : Thread nD τ).loc main_arg0)) (m ((c : Thread nD τ).loc main_arg4)) := by
  refine (dats m 0 c).arrAt_eq_of_covers 8 _ (by decide +kernel) fun t hf y => ?_
  obtain ⟨i, l, rfl⟩ : ∃ i l, y = ix2 i l := ⟨_, _, eq_ix2 y⟩
  blk_simp
  rw [after0_8]
  frame_out
  rw [body8]
  simp only [branch]
  blk_point [iblk, V, idx t]

/-- The reference runs, its arguments unchanged, its counters at zero. -/
theorem reference_frame : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

/-- From the same arguments the call and the reference end with the same arrays. -/
theorem value : Cert.algebraic_Kernel21Ideal_Reference21Ideal := by
  intro m ρ m' ρ' _ hm
  refine ⟨fun c => (dats m 0 c).arrAt 5 cfg0.N, fun c => (dats m 0 c).arrAt 6 cfg0.N, fun c => (dats m 0 c).arrAt 7 cfg0.N, fun c => (dats m 0 c).arrAt 8 cfg0.N, run_blocks m ρ, ?_⟩
  refine (θ_run Cert.Reference21Ideal.defs _ _).mono (fun _ h c => ⟨?_, ?_, ?_, ?_, (h c).2.2.2.2⟩) (Cert.Reference21Ideal.Value.run (F := Ideal) m' ρ')
  · rw [(h c).1]
    simp only [hm c]
    exact (Cert.Reference21Ideal.Value.inputs _ _ _ _ _).trans (final5 m c).symm
  · rw [(h c).2.1]
    simp only [hm c]
    exact (Cert.Reference21Ideal.Value.first _ _).trans (final6 m c).symm
  · rw [(h c).2.2.1]
    simp only [hm c]
    exact (Cert.Reference21Ideal.Value.second _ _).trans (final7 m c).symm
  · rw [(h c).2.2.2.1]
    simp only [hm c]
    exact (Cert.Reference21Ideal.Value.third _ _).trans (final8 m c).symm

end Cert.Kernel21Ideal.Value

end
-- ==== Proof.Act.lean ====
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Quiescent

@[expose] public section

set_option maxRecDepth 16384

noncomputable section

namespace Cert.Act

open Idealize.ShloMosaic Idealize.ShloMosaic.TcCoe Idealize.SL.Sem

/-- The left half of each row times its logistic, times the right half. -/
abbrev act (x : FVec Ideal ⟨2, ![8192, 11264]⟩ .bf16) : FVec Ideal ⟨2, ![8192, 5632]⟩ .bf16 := fun j =>
  have h : (j 1).val < 5632 := (j 1).isLt
  let a : EReal := x (ix2 (j 0) (⟨(j 1).val, by omega⟩ : Fin 11264))
  a * Ideal.logistic a * x (ix2 (j 0) (⟨5632 + (j 1).val, by omega⟩ : Fin 11264))

end Cert.Act

namespace Cert.Reference22Ideal.Value

open Cert.Act Cert.Reference22Ideal Cert.Reference22Ideal.Gen Idealize.ShloMosaic Idealize.ShloMosaic.TcCoe Idealize.SL.Sem

/-- The left half of the rows. -/
abbrev LEFT (x : FVec Ideal S8192x11264 .bf16) : FVec Ideal S8192x5632 .f32 :=
  extractStridedSlice S8192x5632 ![0, 0] (extf .f32 x bitsLt_bf16_f32) slices_S8192x11264_S8192x5632_0_0
/-- The reference's result, over the argument. -/
abbrev REF (x : FVec Ideal S8192x11264 .bf16) : FVec Ideal S8192x5632 .bf16 :=
  truncf .bf16 (mulf (mulf (LEFT x) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (LEFT x)))))) (extractStridedSlice S8192x5632 ![0, 5632] (extf .f32 x bitsLt_bf16_f32) slices_S8192x11264_S8192x5632_0_5632)) bitsLt_bf16_f32

theorem ref (x) : REF x = act x := by
  funext j
  obtain ⟨i, l, rfl⟩ : ∃ i l, j = ix2 i l := ⟨_, _, eq_ix2 j⟩
  pointwise [REF, LEFT, act]
  rfl

end Cert.Reference22Ideal.Value

namespace Cert.Kernel22Ideal.Value

open Cert.Act Cert.Kernel22Ideal Cert.Kernel22Ideal.Gen Idealize.ShloMosaic Idealize.ShloMosaic.TcCoe Idealize.SL.Sem

variable (m : (ℓ : Loc nD τ sig) → Buf (Elt Ideal) ℓ)

/-- What the body stores. -/
theorem body (x : Vec Ideal S256x11264 .bf16) (i l) : k0_pay1 x (ix2 i l)
    = x (ix2 i ⟨l.val, by omega⟩) * Ideal.logistic (x (ix2 i ⟨l.val, by omega⟩)) * x (ix2 i ⟨5632 + l.val, by omega⟩) := by
  pointwise [k0_pay1]

theorem idx : ∀ t : Fin cfg0.N, win0_0.index t = ![t.val, 0] ∧ win0_1.index t = ![t.val, 0] :=
  (by decide +kernel : ∀ t : Fin grid0.N, _)

/-- The array that the call leaves. -/
theorem final (c : Dev nD) : (dats m 0 c).arrAt 1 (cfgs 0).N
    = act (m ((c : Thread nD τ).loc main_arg0)) := by
  refine (dats m 0 c).arrAt_eq_of_covers 1 _ (by decide +kernel) fun t hf y => ?_
  obtain ⟨i, l, rfl⟩ : ∃ i l, y = ix2 i l := ⟨_, _, eq_ix2 y⟩
  blk_simp
  rw [after0_1]
  frame_out
  rw [body]
  simp only [act]
  blk_point [iblk, V, idx t]

/-- The reference runs, its arguments unchanged, its counters at zero. -/
theorem reference_frame : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

/-- From the same arguments the call and the reference end with the same array. -/
theorem value : Cert.algebraic_Kernel22Ideal_Reference22Ideal := by
  intro m ρ m' ρ' _ hm
  refine ⟨fun c => (dats m 0 c).arrAt 1 cfg0.N, run_blocks m ρ, ?_⟩
  refine (θ_run Cert.Reference22Ideal.defs _ _).mono (fun _ h c => ⟨?_, (h c).2⟩) (Cert.Reference22Ideal.Value.run (F := Ideal) m' ρ')
  rw [(h c).1]
  simp only [hm c]
  exact (Cert.Reference22Ideal.Value.ref _).trans (final m c).symm

end Cert.Kernel22Ideal.Value

end
-- ==== Proof.Merged.lean ====
module

public import proofs.«01_k».proof.Defs
public import proofs.«01_k».proof.Proof.Gen.Kernel23Ideal.Value
public import proofs.«01_k».proof.Proof.Gen.Reference23Ideal.Run
public import Idealize.ShloMosaic.Lib.Pipeline.ValueKit
public import Idealize.ShloMosaic.Lib.Quiescent

@[expose] public section

set_option maxRecDepth 16384

noncomputable section

namespace Cert.Merged

open Idealize.ShloMosaic Idealize.ShloMosaic.TcCoe Idealize.SL.Sem

/-- The sum of the three branches, each times its third of the gates. -/
abbrev merged (x : FVec Ideal ⟨2, ![8192, 6144]⟩ .bf16) (a b s : FVec Ideal ⟨2, ![8192, 2048]⟩ .bf16) : FVec Ideal ⟨2, ![8192, 2048]⟩ .bf16 := fun j =>
  have h : (j 1).val < 2048 := (j 1).isLt
  Ideal.logistic (x (ix2 (j 0) (⟨(j 1).val, by omega⟩ : Fin 6144))) * a (ix2 (j 0) (j 1))
    + Ideal.logistic (x (ix2 (j 0) (⟨2048 + (j 1).val, by omega⟩ : Fin 6144))) * b (ix2 (j 0) (j 1))
    + Ideal.logistic (x (ix2 (j 0) (⟨4096 + (j 1).val, by omega⟩ : Fin 6144))) * s (ix2 (j 0) (j 1))

end Cert.Merged

namespace Cert.Reference23Ideal.Value

open Cert.Merged Cert.Reference23Ideal Cert.Reference23Ideal.Gen Idealize.ShloMosaic Idealize.ShloMosaic.TcCoe Idealize.SL.Sem

/-- The logistic function. -/
abbrev SIG (x : FVec Ideal S8192x6144 .bf16) : FVec Ideal S8192x6144 .f32 :=
  Host.divf (broadcastInDim S8192x6144 ![] bcast_S_S8192x6144 (constant S_ .f32 0x3F800000#32)) (addf (broadcastInDim S8192x6144 ![] bcast_S_S8192x6144 (constant S_ .f32 0x3F800000#32)) (Host.exp (Host.negf (extf .f32 x bitsLt_bf16_f32))))
/-- The reference's result, over the arguments. -/
abbrev REF (x : FVec Ideal S8192x6144 .bf16) (a b s : FVec Ideal S8192x2048 .bf16) : FVec Ideal S8192x2048 .bf16 :=
  truncf .bf16 (addf (addf (mulf (shapeCast _ (extractStridedSlice S8192x1x2048 ![0, 0, 0] (shapeCast _ (SIG x) shapeCasts_S8192x6144_S8192x3x2048) slices_S8192x3x2048_S8192x1x2048_0_0_0) shapeCasts_S8192x1x2048_S8192x2048) (extf .f32 a bitsLt_bf16_f32)) (mulf (shapeCast _ (extractStridedSlice S8192x1x2048 ![0, 1, 0] (shapeCast _ (SIG x) shapeCasts_S8192x6144_S8192x3x2048) slices_S8192x3x2048_S8192x1x2048_0_1_0) shapeCasts_S8192x1x2048_S8192x2048) (extf .f32 b bitsLt_bf16_f32))) (mulf (shapeCast _ (extractStridedSlice S8192x1x2048 ![0, 2, 0] (shapeCast _ (SIG x) shapeCasts_S8192x6144_S8192x3x2048) slices_S8192x3x2048_S8192x1x2048_0_2_0) shapeCasts_S8192x1x2048_S8192x2048) (extf .f32 s bitsLt_bf16_f32))) bitsLt_bf16_f32

theorem ref (x a b s) : REF x a b s = merged x a b s := by
  funext j
  obtain ⟨i, l, rfl⟩ : ∃ i l, j = ix2 i l := ⟨_, _, eq_ix2 j⟩
  pointwise [REF, SIG, merged]
  rfl

end Cert.Reference23Ideal.Value

namespace Cert.Kernel23Ideal.Value

open Cert.Merged Cert.Kernel23Ideal Cert.Kernel23Ideal.Gen Idealize.ShloMosaic Idealize.ShloMosaic.TcCoe Idealize.SL.Sem

variable (m : (ℓ : Loc nD τ sig) → Buf (Elt Ideal) ℓ)

/-- What the body stores. -/
theorem body (x : Vec Ideal S256x6144 .bf16) (a b s : Vec Ideal S256x2048 .bf16) (i l) : k0_pay1 x a b s (ix2 i l)
    = Ideal.logistic (x (ix2 i ⟨l.val, by omega⟩)) * a (ix2 i l) + Ideal.logistic (x (ix2 i ⟨2048 + l.val, by omega⟩)) * b (ix2 i l)
      + Ideal.logistic (x (ix2 i ⟨4096 + l.val, by omega⟩)) * s (ix2 i l) := by
  pointwise [k0_pay1]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

/-- The array that the call leaves. -/
theorem final (c : Dev nD) : (dats m 0 c).arrAt 4 (cfgs 0).N
    = merged (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨i, l, rfl⟩ : ∃ i l, y = ix2 i l := ⟨_, _, eq_ix2 y⟩
  blk_simp
  rw [after0_4]
  frame_out
  rw [body]
  simp only [merged]
  blk_point [iblk, V, idx t]

/-- The reference runs, its arguments unchanged, its counters at zero. -/
theorem reference_frame : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- From the same arguments the call and the reference end with the same array. -/
theorem value : Cert.algebraic_Kernel23Ideal_Reference23Ideal := by
  intro m ρ m' ρ' _ hm
  refine ⟨fun c => (dats m 0 c).arrAt 4 cfg0.N, run_blocks m ρ, ?_⟩
  refine (θ_run Cert.Reference23Ideal.defs _ _).mono (fun _ h c => ⟨?_, (h c).2⟩) (Cert.Reference23Ideal.Value.run (F := Ideal) m' ρ')
  rw [(h c).1]
  simp only [hm c]
  exact (Cert.Reference23Ideal.Value.ref _ _ _ _).trans (final m c).symm

end Cert.Kernel23Ideal.Value

end
-- ==== Proof.Rms.lean ====
module

public import proofs.«01_k».proof.Defs
public import proofs.«01_k».proof.Proof.Gen.Kernel24Ideal.Value
public import proofs.«01_k».proof.Proof.Gen.Reference24Ideal.Run
public import proofs.«01_k».proof.Proof.Norm
public import Idealize.ShloMosaic.Lib.Pipeline.ValueKit
public import Idealize.ShloMosaic.Lib.Quiescent

@[expose] public section

set_option maxRecDepth 16384

noncomputable section

namespace Cert.Rms

open Cert.Norm Idealize.ShloMosaic Idealize.ShloMosaic.TcCoe Idealize.SL.Sem

/-- A row over the root of its mean square, times the weight. -/
abbrev normed (x w : Fin 2048 → EReal) (l : Fin 2048) : EReal := x l * Ideal.rsqrt (square x) * w l
/-- All rows so. -/
abbrev rows (x : FVec Ideal ⟨2, ![8192, 2048]⟩ .f32) (w : FVec Ideal ⟨2, ![1, 2048]⟩ .f32) : FVec Ideal ⟨2, ![8192, 2048]⟩ .bf16 :=
  fun j => normed (fun k => x (ix2 (j 0) k)) (fun k => w (ix2 0 k)) (j 1)

end Cert.Rms

namespace Cert.Reference24Ideal.Value

open Cert.Norm Cert.Rms Cert.Reference24Ideal Cert.Reference24Ideal.Gen Idealize.ShloMosaic Idealize.ShloMosaic.TcCoe Idealize.SL.Sem

/-- The reference's result, over the arguments. -/
abbrev REF (x : FVec Ideal S8192x2048 .f32) (w : FVec Ideal S1x2048 .f32) : FVec Ideal S8192x2048 .bf16 :=
  truncf .bf16 (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 w)) bitsLt_bf16_f32

theorem ref (x w) : REF x w = rows x w := by
  funext j
  obtain ⟨i, l, rfl⟩ : ∃ i l, j = ix2 i l := ⟨_, _, eq_ix2 j⟩
  pointwise [REF, rows, normed, square]

end Cert.Reference24Ideal.Value

namespace Cert.Kernel24Ideal.Value

open Cert.Norm Cert.Rms Cert.Kernel24Ideal Cert.Kernel24Ideal.Gen Idealize.ShloMosaic Idealize.ShloMosaic.TcCoe Idealize.SL.Sem

variable (m : (ℓ : Loc nD τ sig) → Buf (Elt Ideal) ℓ)

/-- What the body stores. -/
theorem body (x : Vec Ideal S256x2048 .f32) (w : Vec Ideal S1x2048 .f32) (i l) :
    k0_pay1 x w (ix2 i l) = normed (fun k => x (ix2 i k)) (fun k => w (ix2 0 k)) l := by
  pointwise [k0_pay1, normed, square]

theorem idx : ∀ t : Fin cfg0.N, win0_0.index t = ![t.val, 0] ∧ win0_1.index t = ![0, 0] ∧ win0_2.index t = ![t.val, 0] :=
  (by decide +kernel : ∀ t : Fin grid0.N, _)

/-- The array that the call leaves. -/
theorem final (c : Dev nD) : (dats m 0 c).arrAt 2 (cfgs 0).N
    = rows (m ((c : Thread nD τ).loc main_arg0)) (m ((c : Thread nD τ).loc main_arg1)) := by
  refine (dats m 0 c).arrAt_eq_of_covers 2 _ (by decide +kernel) fun t hf y => ?_
  obtain ⟨i, l, rfl⟩ : ∃ i l, y = ix2 i l := ⟨_, _, eq_ix2 y⟩
  blk_simp
  rw [after0_2]
  frame_out
  rw [body]
  have hl : (((cfg0.win 2).blk t).view.emb (ix2 i l) 1 : Fin 2048) = l := Fin.ext (by blk_simp [idx t])
  simp only [rows]
  refine congr (congr (congrArg normed (funext fun k => ?_)) (funext fun k => ?_)) hl.symm
  all_goals blk_point [iblk, V, idx t]

/-- The reference runs, its arguments unchanged, its counters at zero. -/
theorem reference_frame : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

/-- From the same arguments the call and the reference end with the same array. -/
theorem value : Cert.algebraic_Kernel24Ideal_Reference24Ideal := by
  intro m ρ m' ρ' _ hm
  refine ⟨fun c => (dats m 0 c).arrAt 2 cfg0.N, run_blocks m ρ, ?_⟩
  refine (θ_run Cert.Reference24Ideal.defs _ _).mono (fun _ h c => ⟨?_, (h c).2⟩) (Cert.Reference24Ideal.Value.run (F := Ideal) m' ρ')
  rw [(h c).1]
  simp only [hm c]
  exact (Cert.Reference24Ideal.Value.ref _ _).trans (final m c).symm

end Cert.Kernel24Ideal.Value

end
-- ==== Proof.lean ====
module

public import proofs.«01_k».proof.Defs
public import proofs.«01_k».proof.Proof.KernelFrame
public import proofs.«01_k».proof.Proof.Value
public import proofs.«01_k».proof.Proof.Gen.ReferenceIdeal.Run
public import proofs.«01_k».proof.Proof.RefEq
public import proofs.«01_k».proof.Proof.Meet
public import proofs.«01_k».proof.Proof.Gen.Kernel2.Frame
public import proofs.«01_k».proof.Proof.DAct
public import proofs.«01_k».proof.Proof.Gen.Kernel3.Frame
public import proofs.«01_k».proof.Proof.GDown
public import proofs.«01_k».proof.Proof.Gen.Kernel4.Frame
public import proofs.«01_k».proof.Proof.DH2
public import proofs.«01_k».proof.Proof.Gen.Kernel5.Frame
public import proofs.«01_k».proof.Proof.GGu
public import proofs.«01_k».proof.Proof.Gen.Kernel6.Frame
public import proofs.«01_k».proof.Proof.GIn
public import proofs.«01_k».proof.Proof.Gen.Kernel7.Frame
public import proofs.«01_k».proof.Proof.DH
public import proofs.«01_k».proof.Proof.Gen.Kernel8.Frame
public import proofs.«01_k».proof.Proof.Gu
public import proofs.«01_k».proof.Proof.Gen.Kernel9.Frame
public import proofs.«01_k».proof.Proof.Down
public import proofs.«01_k».proof.Proof.Gen.Kernel10.Frame
public import proofs.«01_k».proof.Proof.PGl
public import proofs.«01_k».proof.Proof.Gen.Kernel11.Frame
public import proofs.«01_k».proof.Proof.PXbc
public import proofs.«01_k».proof.Proof.Gen.Kernel12.Frame
public import proofs.«01_k».proof.Proof.AdDown
public import proofs.«01_k».proof.Proof.Gen.Kernel13.Frame
public import proofs.«01_k».proof.Proof.AdGu
public import proofs.«01_k».proof.Proof.Gen.Kernel14.Frame
public import proofs.«01_k».proof.Proof.AdIn
public import proofs.«01_k».proof.Proof.Gen.Kernel15.Frame
public import proofs.«01_k».proof.Proof.AdOut
public import proofs.«01_k».proof.Proof.Gen.Kernel16.Frame
public import proofs.«01_k».proof.Proof.AdBr
public import proofs.«01_k».proof.Proof.Gen.Kernel17.Frame
public import proofs.«01_k».proof.Proof.AdPool
public import proofs.«01_k».proof.Proof.Gen.Kernel18.Frame
public import proofs.«01_k».proof.Proof.AdConv
public import proofs.«01_k».proof.Proof.Gen.Kernel19.Frame
public import proofs.«01_k».proof.Proof.Norm
public import proofs.«01_k».proof.Proof.Gen.Kernel20.Frame
public import proofs.«01_k».proof.Proof.Swiglu
public import proofs.«01_k».proof.Proof.Gen.Kernel21.Frame
public import proofs.«01_k».proof.Proof.Merge
public import proofs.«01_k».proof.Proof.Gen.Kernel22.Frame
public import proofs.«01_k».proof.Proof.Act
public import proofs.«01_k».proof.Proof.Gen.Kernel23.Frame
public import proofs.«01_k».proof.Proof.Merged
public import proofs.«01_k».proof.Proof.Gen.Kernel24.Frame
public import proofs.«01_k».proof.Proof.Rms
import Idealize.ShloMosaic.Lib.Quiescent

@[expose] public section

noncomputable section

namespace Cert.Proof

open Idealize.ShloMosaic Idealize.SL.Sem

/-- The reference runs, its arguments unchanged, its counters at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) := by
  refine (θ_run Cert.ReferenceIdeal.defs _ _).mono (fun r h => ⟨fun c => ?_, sem_eq_zero_of_no_sems (by decide) r.2⟩) (Cert.ReferenceIdeal.Value.run m g)
  exact (h c).2.2.2.2

theorem value : Cert.algebraic_KernelIdeal_ReferenceIdeal_pre_finite := by
  intro m g m' g' hpre hm
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, fun c => (Cert.KernelIdeal.Gen.dats m 0 c).arrAt 10 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨hQ, hK, hV, hS, h0, h1, h2⟩ := h c
  obtain ⟨e0, e1, e2⟩ := hm c
  have E : ∀ (α : Type) (f : FVec Ideal Cert.ReferenceIdeal.S8192x1536 .bf16 → FVec Ideal Cert.ReferenceIdeal.S1x16 .f32 → FVec Ideal Cert.ReferenceIdeal.S8192x1024 .bf16 → α),
      f (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        = f (Cert.KernelIdeal.Attn.in0 m c) (Cert.KernelIdeal.Attn.in1 m c) (Cert.KernelIdeal.Attn.in2 m c) := fun α f => by
    rw [e0, e1, e2]
    rfl
  exact ⟨(hQ.trans (Cert.ReferenceIdeal.Stage.val_main_v150_eq _)).trans ((E _ _).trans (Cert.KernelIdeal.Attn.meetQ m c (hpre c))),
    (hK.trans (Cert.ReferenceIdeal.Stage.val_main_v151_eq _)).trans ((E _ _).trans (Cert.KernelIdeal.Attn.meetK m c (hpre c))),
    (hV.trans (Cert.ReferenceIdeal.Stage.val_main_v152_eq _)).trans ((E _ _).trans (Cert.KernelIdeal.Attn.meetV m c (hpre c))),
    (hS.trans (Cert.ReferenceIdeal.Stage.val_main_v146_eq _)).trans ((E _ _).trans (Cert.KernelIdeal.Attn.meetS m c (hpre c))), h0, h1, h2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, Cert.Kernel2Ideal.Value.reference_frame,
  fun m ρ _ => Cert.Kernel3.Gen.frame m ρ, fun m ρ _ => Cert.Kernel3Ideal.Gen.frame m ρ, Cert.Kernel3Ideal.Value.reference_frame,
  fun m ρ _ => Cert.Kernel4.Gen.frame m ρ, fun m ρ _ => Cert.Kernel4Ideal.Gen.frame m ρ, Cert.Kernel4Ideal.Value.reference_frame,
  fun m ρ _ => Cert.Kernel5.Gen.frame m ρ, fun m ρ _ => Cert.Kernel5Ideal.Gen.frame m ρ, Cert.Kernel5Ideal.Value.reference_frame,
  fun m ρ _ => Cert.Kernel6.Gen.frame m ρ, fun m ρ _ => Cert.Kernel6Ideal.Gen.frame m ρ, Cert.Kernel6Ideal.Value.reference_frame,
  fun m ρ _ => Cert.Kernel7.Gen.frame m ρ, fun m ρ _ => Cert.Kernel7Ideal.Gen.frame m ρ, Cert.Kernel7Ideal.Value.reference_frame,
  fun m ρ _ => Cert.Kernel8.Gen.frame m ρ, fun m ρ _ => Cert.Kernel8Ideal.Gen.frame m ρ, Cert.Kernel8Ideal.Value.reference_frame,
  fun m ρ _ => Cert.Kernel9.Gen.frame m ρ, fun m ρ _ => Cert.Kernel9Ideal.Gen.frame m ρ, Cert.Kernel9Ideal.Value.reference_frame,
  fun m ρ _ => Cert.Kernel10.Gen.frame m ρ, fun m ρ _ => Cert.Kernel10Ideal.Gen.frame m ρ, Cert.Kernel10Ideal.Value.reference_frame,
  fun m ρ _ => Cert.Kernel11.Gen.frame m ρ, fun m ρ _ => Cert.Kernel11Ideal.Gen.frame m ρ, Cert.Kernel11Ideal.Value.reference_frame,
  fun m ρ _ => Cert.Kernel12.Gen.frame m ρ, fun m ρ _ => Cert.Kernel12Ideal.Gen.frame m ρ, Cert.Kernel12Ideal.Value.reference_frame,
  fun m ρ _ => Cert.Kernel13.Gen.frame m ρ, fun m ρ _ => Cert.Kernel13Ideal.Gen.frame m ρ, Cert.Kernel13Ideal.Value.reference_frame,
  fun m ρ _ => Cert.Kernel14.Gen.frame m ρ, fun m ρ _ => Cert.Kernel14Ideal.Gen.frame m ρ, Cert.Kernel14Ideal.Value.reference_frame,
  fun m ρ _ => Cert.Kernel15.Gen.frame m ρ, fun m ρ _ => Cert.Kernel15Ideal.Gen.frame m ρ, Cert.Kernel15Ideal.Value.reference_frame,
  fun m ρ _ => Cert.Kernel16.Gen.frame m ρ, fun m ρ _ => Cert.Kernel16Ideal.Gen.frame m ρ, Cert.Kernel16Ideal.Value.reference_frame,
  fun m ρ _ => Cert.Kernel17.Gen.frame m ρ, fun m ρ _ => Cert.Kernel17Ideal.Gen.frame m ρ, Cert.Kernel17Ideal.Value.reference_frame,
  fun m ρ _ => Cert.Kernel18.Gen.frame m ρ, fun m ρ _ => Cert.Kernel18Ideal.Gen.frame m ρ, Cert.Kernel18Ideal.Value.reference_frame,
  fun m ρ _ => Cert.Kernel19.Gen.frame m ρ, fun m ρ _ => Cert.Kernel19Ideal.Gen.frame m ρ, Cert.Kernel19Ideal.Value.reference_frame,
  fun m ρ _ => Cert.Kernel20.Gen.frame m ρ, fun m ρ _ => Cert.Kernel20Ideal.Gen.frame m ρ, Cert.Kernel20Ideal.Value.reference_frame,
  fun m ρ _ => Cert.Kernel21.Gen.frame m ρ, fun m ρ _ => Cert.Kernel21Ideal.Gen.frame m ρ, Cert.Kernel21Ideal.Value.reference_frame,
  fun m ρ _ => Cert.Kernel22.Gen.frame m ρ, fun m ρ _ => Cert.Kernel22Ideal.Gen.frame m ρ, Cert.Kernel22Ideal.Value.reference_frame,
  fun m ρ _ => Cert.Kernel23.Gen.frame m ρ, fun m ρ _ => Cert.Kernel23Ideal.Gen.frame m ρ, Cert.Kernel23Ideal.Value.reference_frame,
  fun m ρ _ => Cert.Kernel24.Gen.frame m ρ, fun m ρ _ => Cert.Kernel24Ideal.Gen.frame m ρ, Cert.Kernel24Ideal.Value.reference_frame,
  IdealRules.named_const.statement Cert.KernelIdeal.κ "mask" .f32 0xF149F2CA#32 ⊥ rfl, value,
  trivial, Cert.Kernel2Ideal.Value.value,
  trivial, Cert.Kernel3Ideal.Value.value,
  trivial, Cert.Kernel4Ideal.Value.value,
  trivial, Cert.Kernel5Ideal.Value.value,
  trivial, Cert.Kernel6Ideal.Value.value,
  trivial, Cert.Kernel7Ideal.Value.value,
  trivial, Cert.Kernel8Ideal.Value.value,
  trivial, Cert.Kernel9Ideal.Value.value,
  trivial, Cert.Kernel10Ideal.Value.value,
  trivial, Cert.Kernel11Ideal.Value.value,
  trivial, Cert.Kernel12Ideal.Value.value,
  trivial, Cert.Kernel13Ideal.Value.value,
  trivial, Cert.Kernel14Ideal.Value.value,
  trivial, Cert.Kernel15Ideal.Value.value,
  trivial, Cert.Kernel16Ideal.Value.value,
  trivial, Cert.Kernel17Ideal.Value.value,
  trivial, Cert.Kernel18Ideal.Value.value,
  trivial, Cert.Kernel19Ideal.Value.value,
  trivial, Cert.Kernel20Ideal.Value.value,
  trivial, Cert.Kernel21Ideal.Value.value,
  trivial, Cert.Kernel22Ideal.Value.value,
  trivial, Cert.Kernel23Ideal.Value.value,
  trivial, Cert.Kernel24Ideal.Value.value⟩

end Cert.Proof

end
